-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Gu (m : (ℓ : Loc Cert.Gu.nD Cert.Gu.τ Cert.Gu.sig) → Buf (Elt Bits) ℓ) : Prop :=
  True

def Pre_GuIdeal (m : (ℓ : Loc Cert.GuIdeal.nD Cert.GuIdeal.τ Cert.GuIdeal.sig) → Buf (Elt Ideal) ℓ) : Prop :=
  True

def Pre_GuRefIdeal (m : (ℓ : Loc Cert.GuRefIdeal.nD Cert.GuRefIdeal.τ Cert.GuRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Nq (m : (ℓ : Loc Cert.Nq.nD Cert.Nq.τ Cert.Nq.sig) → Buf (Elt Bits) ℓ) : Prop :=
  True

def Pre_NqIdeal (m : (ℓ : Loc Cert.NqIdeal.nD Cert.NqIdeal.τ Cert.NqIdeal.sig) → Buf (Elt Ideal) ℓ) : Prop :=
  True

def Pre_NqRefIdeal (m : (ℓ : Loc Cert.NqRefIdeal.nD Cert.NqRefIdeal.τ Cert.NqRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6))
      ∧ r.2.sem = fun _ => 0)

def quiescent_Gu [hGu : Cert.Gu.Facts] : Prop :=
  ∀ (m : (ℓ : Loc Cert.Gu.nD Cert.Gu.τ Cert.Gu.sig) → Buf (Elt Bits) ℓ) (g : Dev Cert.Gu.nD → PrngReg), Pre_Gu m →
    θ_run (Cert.Gu.defs (F := Bits)) (onTc (τ := Cert.Gu.τ) (Cert.Gu.main (F := Bits))) ⟨m, fun _ => 0, g⟩ (fun r => (∀ c : Dev Cert.Gu.nD,
      r.2.mem ((c.tc : Thread Cert.Gu.nD Cert.Gu.τ).loc Cert.Gu.main_arg0) = m ((c.tc : Thread Cert.Gu.nD Cert.Gu.τ).loc Cert.Gu.main_arg0)
      ∧ r.2.mem ((c.tc : Thread Cert.Gu.nD Cert.Gu.τ).loc Cert.Gu.main_arg1) = m ((c.tc : Thread Cert.Gu.nD Cert.Gu.τ).loc Cert.Gu.main_arg1)
      ∧ r.2.mem ((c.tc : Thread Cert.Gu.nD Cert.Gu.τ).loc Cert.Gu.main_arg2) = m ((c.tc : Thread Cert.Gu.nD Cert.Gu.τ).loc Cert.Gu.main_arg2)
      ∧ r.2.mem ((c.tc : Thread Cert.Gu.nD Cert.Gu.τ).loc Cert.Gu.main_arg3) = m ((c.tc : Thread Cert.Gu.nD Cert.Gu.τ).loc Cert.Gu.main_arg3)
      ∧ r.2.mem ((c.tc : Thread Cert.Gu.nD Cert.Gu.τ).loc Cert.Gu.main_arg4) = m ((c.tc : Thread Cert.Gu.nD Cert.Gu.τ).loc Cert.Gu.main_arg4)
      ∧ r.2.mem ((c.tc : Thread Cert.Gu.nD Cert.Gu.τ).loc Cert.Gu.main_arg5) = m ((c.tc : Thread Cert.Gu.nD Cert.Gu.τ).loc Cert.Gu.main_arg5))
      ∧ r.2.sem = fun _ => 0)

def quiescent_GuIdeal [hGuIdeal : Cert.GuIdeal.Facts] : Prop :=
  ∀ (m : (ℓ : Loc Cert.GuIdeal.nD Cert.GuIdeal.τ Cert.GuIdeal.sig) → Buf (Elt Ideal) ℓ) (g : Dev Cert.GuIdeal.nD → PrngReg), Pre_GuIdeal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
      ∧ r.2.mem ((c.tc : Thread Cert.GuIdeal.nD Cert.GuIdeal.τ).loc Cert.GuIdeal.main_arg2) = m ((c.tc : Thread Cert.GuIdeal.nD Cert.GuIdeal.τ).loc Cert.GuIdeal.main_arg2)
      ∧ r.2.mem ((c.tc : Thread Cert.GuIdeal.nD Cert.GuIdeal.τ).loc Cert.GuIdeal.main_arg3) = m ((c.tc : Thread Cert.GuIdeal.nD Cert.GuIdeal.τ).loc Cert.GuIdeal.main_arg3)
      ∧ r.2.mem ((c.tc : Thread Cert.GuIdeal.nD Cert.GuIdeal.τ).loc Cert.GuIdeal.main_arg4) = m ((c.tc : Thread Cert.GuIdeal.nD Cert.GuIdeal.τ).loc Cert.GuIdeal.main_arg4)
      ∧ r.2.mem ((c.tc : Thread Cert.GuIdeal.nD Cert.GuIdeal.τ).loc Cert.GuIdeal.main_arg5) = m ((c.tc : Thread Cert.GuIdeal.nD Cert.GuIdeal.τ).loc Cert.GuIdeal.main_arg5))
      ∧ r.2.sem = fun _ => 0)

def quiescent_GuRefIdeal [hGuRefIdeal : Cert.GuRefIdeal.Facts] : Prop :=
  ∀ (m : (ℓ : Loc Cert.GuRefIdeal.nD Cert.GuRefIdeal.τ Cert.GuRefIdeal.sig) → Buf (Elt Ideal) ℓ) (g : Dev Cert.GuRefIdeal.nD → PrngReg), Pre_GuRefIdeal m →
    θ_run (Cert.GuRefIdeal.defs (F := Ideal)) (onTc (τ := Cert.GuRefIdeal.τ) (Cert.GuRefIdeal.main (F := Ideal))) ⟨m, fun _ => 0, g⟩ (fun r => (∀ c : Dev Cert.GuRefIdeal.nD,
      r.2.mem ((c.tc : Thread Cert.GuRefIdeal.nD Cert.GuRefIdeal.τ).loc Cert.GuRefIdeal.main_arg0) = m ((c.tc : Thread Cert.GuRefIdeal.nD Cert.GuRefIdeal.τ).loc Cert.GuRefIdeal.main_arg0)
      ∧ r.2.mem ((c.tc : Thread Cert.GuRefIdeal.nD Cert.GuRefIdeal.τ).loc Cert.GuRefIdeal.main_arg1) = m ((c.tc : Thread Cert.GuRefIdeal.nD Cert.GuRefIdeal.τ).loc Cert.GuRefIdeal.main_arg1)
      ∧ r.2.mem ((c.tc : Thread Cert.GuRefIdeal.nD Cert.GuRefIdeal.τ).loc Cert.GuRefIdeal.main_arg2) = m ((c.tc : Thread Cert.GuRefIdeal.nD Cert.GuRefIdeal.τ).loc Cert.GuRefIdeal.main_arg2)
      ∧ r.2.mem ((c.tc : Thread Cert.GuRefIdeal.nD Cert.GuRefIdeal.τ).loc Cert.GuRefIdeal.main_arg3) = m ((c.tc : Thread Cert.GuRefIdeal.nD Cert.GuRefIdeal.τ).loc Cert.GuRefIdeal.main_arg3)
      ∧ r.2.mem ((c.tc : Thread Cert.GuRefIdeal.nD Cert.GuRefIdeal.τ).loc Cert.GuRefIdeal.main_arg4) = m ((c.tc : Thread Cert.GuRefIdeal.nD Cert.GuRefIdeal.τ).loc Cert.GuRefIdeal.main_arg4)
      ∧ r.2.mem ((c.tc : Thread Cert.GuRefIdeal.nD Cert.GuRefIdeal.τ).loc Cert.GuRefIdeal.main_arg5) = m ((c.tc : Thread Cert.GuRefIdeal.nD Cert.GuRefIdeal.τ).loc Cert.GuRefIdeal.main_arg5))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5)
      ∧ r.2.mem ((c.tc : Thread Cert.Oproj.nD Cert.Oproj.τ).loc Cert.Oproj.main_arg6) = m ((c.tc : Thread Cert.Oproj.nD Cert.Oproj.τ).loc Cert.Oproj.main_arg6)
      ∧ r.2.mem ((c.tc : Thread Cert.Oproj.nD Cert.Oproj.τ).loc Cert.Oproj.main_arg7) = m ((c.tc : Thread Cert.Oproj.nD Cert.Oproj.τ).loc Cert.Oproj.main_arg7))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
      ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6)
      ∧ r.2.mem ((c.tc : Thread Cert.OprojIdeal.nD Cert.OprojIdeal.τ).loc Cert.OprojIdeal.main_arg7) = m ((c.tc : Thread Cert.OprojIdeal.nD Cert.OprojIdeal.τ).loc Cert.OprojIdeal.main_arg7))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5)
      ∧ r.2.mem ((c.tc : Thread Cert.OprojRefIdeal.nD Cert.OprojRefIdeal.τ).loc Cert.OprojRefIdeal.main_arg6) = m ((c.tc : Thread Cert.OprojRefIdeal.nD Cert.OprojRefIdeal.τ).loc Cert.OprojRefIdeal.main_arg6)
      ∧ r.2.mem ((c.tc : Thread Cert.OprojRefIdeal.nD Cert.OprojRefIdeal.τ).loc Cert.OprojRefIdeal.main_arg7) = m ((c.tc : Thread Cert.OprojRefIdeal.nD Cert.OprojRefIdeal.τ).loc Cert.OprojRefIdeal.main_arg7))
      ∧ r.2.sem = fun _ => 0)

def quiescent_Nq [hNq : Cert.Nq.Facts] : Prop :=
  ∀ (m : (ℓ : Loc Cert.Nq.nD Cert.Nq.τ Cert.Nq.sig) → Buf (Elt Bits) ℓ) (g : Dev Cert.Nq.nD → PrngReg), Pre_Nq m →
    θ_run (Cert.Nq.defs (F := Bits)) (onTc (τ := Cert.Nq.τ) (Cert.Nq.main (F := Bits))) ⟨m, fun _ => 0, g⟩ (fun r => (∀ c : Dev Cert.Nq.nD,
      r.2.mem ((c.tc : Thread Cert.Nq.nD Cert.Nq.τ).loc Cert.Nq.main_arg0) = m ((c.tc : Thread Cert.Nq.nD Cert.Nq.τ).loc Cert.Nq.main_arg0)
      ∧ r.2.mem ((c.tc : Thread Cert.Nq.nD Cert.Nq.τ).loc Cert.Nq.main_arg1) = m ((c.tc : Thread Cert.Nq.nD Cert.Nq.τ).loc Cert.Nq.main_arg1))
      ∧ r.2.sem = fun _ => 0)

def quiescent_NqIdeal [hNqIdeal : Cert.NqIdeal.Facts] : Prop :=
  ∀ (m : (ℓ : Loc Cert.NqIdeal.nD Cert.NqIdeal.τ Cert.NqIdeal.sig) → Buf (Elt Ideal) ℓ) (g : Dev Cert.NqIdeal.nD → PrngReg), Pre_NqIdeal m →
    θ_run (Cert.NqIdeal.defs (F := Ideal)) (onTc (τ := Cert.NqIdeal.τ) (Cert.NqIdeal.main (F := Ideal))) ⟨m, fun _ => 0, g⟩ (fun r => (∀ c : Dev Cert.NqIdeal.nD,
      r.2.mem ((c.tc : Thread Cert.NqIdeal.nD Cert.NqIdeal.τ).loc Cert.NqIdeal.main_arg0) = m ((c.tc : Thread Cert.NqIdeal.nD Cert.NqIdeal.τ).loc Cert.NqIdeal.main_arg0)
      ∧ r.2.mem ((c.tc : Thread Cert.NqIdeal.nD Cert.NqIdeal.τ).loc Cert.NqIdeal.main_arg1) = m ((c.tc : Thread Cert.NqIdeal.nD Cert.NqIdeal.τ).loc Cert.NqIdeal.main_arg1))
      ∧ r.2.sem = fun _ => 0)

def quiescent_NqRefIdeal [hNqRefIdeal : Cert.NqRefIdeal.Facts] : Prop :=
  ∀ (m : (ℓ : Loc Cert.NqRefIdeal.nD Cert.NqRefIdeal.τ Cert.NqRefIdeal.sig) → Buf (Elt Ideal) ℓ) (g : Dev Cert.NqRefIdeal.nD → PrngReg), Pre_NqRefIdeal m →
    θ_run (Cert.NqRefIdeal.defs (F := Ideal)) (onTc (τ := Cert.NqRefIdeal.τ) (Cert.NqRefIdeal.main (F := Ideal))) ⟨m, fun _ => 0, g⟩ (fun r => (∀ c : Dev Cert.NqRefIdeal.nD,
      r.2.mem ((c.tc : Thread Cert.NqRefIdeal.nD Cert.NqRefIdeal.τ).loc Cert.NqRefIdeal.main_arg0) = m ((c.tc : Thread Cert.NqRefIdeal.nD Cert.NqRefIdeal.τ).loc Cert.NqRefIdeal.main_arg0)
      ∧ r.2.mem ((c.tc : Thread Cert.NqRefIdeal.nD Cert.NqRefIdeal.τ).loc Cert.NqRefIdeal.main_arg1) = m ((c.tc : Thread Cert.NqRefIdeal.nD Cert.NqRefIdeal.τ).loc Cert.NqRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6))

def preserves_Gu_GuIdeal : Prop :=
  True

def algebraic_GuIdeal_GuRefIdeal [hGuIdeal : Cert.GuIdeal.Facts] [hGuRefIdeal : Cert.GuRefIdeal.Facts] : Prop :=
  ∀ (m : (ℓ : Loc Cert.GuIdeal.nD Cert.GuIdeal.τ Cert.GuIdeal.sig) → Buf (Elt Ideal) ℓ) (g : Dev Cert.GuIdeal.nD → PrngReg)
    (m' : (ℓ : Loc Cert.GuRefIdeal.nD Cert.GuRefIdeal.τ Cert.GuRefIdeal.sig) → Buf (Elt Ideal) ℓ) (g' : Dev Cert.GuRefIdeal.nD → PrngReg), Pre_GuIdeal m →
    (∀ c : Dev Cert.GuIdeal.nD,
      m' ((c.tc : Thread Cert.GuRefIdeal.nD Cert.GuRefIdeal.τ).loc Cert.GuRefIdeal.main_arg0) = m ((c.tc : Thread Cert.GuIdeal.nD Cert.GuIdeal.τ).loc Cert.GuIdeal.main_arg0)
      ∧ m' ((c.tc : Thread Cert.GuRefIdeal.nD Cert.GuRefIdeal.τ).loc Cert.GuRefIdeal.main_arg1) = m ((c.tc : Thread Cert.GuIdeal.nD Cert.GuIdeal.τ).loc Cert.GuIdeal.main_arg1)
      ∧ m' ((c.tc : Thread Cert.GuRefIdeal.nD Cert.GuRefIdeal.τ).loc Cert.GuRefIdeal.main_arg2) = m ((c.tc : Thread Cert.GuIdeal.nD Cert.GuIdeal.τ).loc Cert.GuIdeal.main_arg2)
      ∧ m' ((c.tc : Thread Cert.GuRefIdeal.nD Cert.GuRefIdeal.τ).loc Cert.GuRefIdeal.main_arg3) = m ((c.tc : Thread Cert.GuIdeal.nD Cert.GuIdeal.τ).loc Cert.GuIdeal.main_arg3)
      ∧ m' ((c.tc : Thread Cert.GuRefIdeal.nD Cert.GuRefIdeal.τ).loc Cert.GuRefIdeal.main_arg4) = m ((c.tc : Thread Cert.GuIdeal.nD Cert.GuIdeal.τ).loc Cert.GuIdeal.main_arg4)
      ∧ m' ((c.tc : Thread Cert.GuRefIdeal.nD Cert.GuRefIdeal.τ).loc Cert.GuRefIdeal.main_arg5) = m ((c.tc : Thread Cert.GuIdeal.nD Cert.GuIdeal.τ).loc Cert.GuIdeal.main_arg5)) →
    ∃ (v0 : (c : Dev Cert.GuIdeal.nD) → Buf (Elt Ideal) ((c.tc : Thread Cert.GuIdeal.nD Cert.GuIdeal.τ).loc Cert.GuIdeal.main_v1_0)) (v1 : (c : Dev Cert.GuIdeal.nD) → Buf (Elt Ideal) ((c.tc : Thread Cert.GuIdeal.nD Cert.GuIdeal.τ).loc Cert.GuIdeal.main_v1_1)),
      θ_run (Cert.GuIdeal.defs (F := Ideal)) (onTc (τ := Cert.GuIdeal.τ) (Cert.GuIdeal.main (F := Ideal))) ⟨m, fun _ => 0, g⟩ (fun r => ∀ c : Dev Cert.GuIdeal.nD,
          r.2.mem ((c.tc : Thread Cert.GuIdeal.nD Cert.GuIdeal.τ).loc Cert.GuIdeal.main_v1_0) = v0 c
          ∧ r.2.mem ((c.tc : Thread Cert.GuIdeal.nD Cert.GuIdeal.τ).loc Cert.GuIdeal.main_v1_1) = v1 c
          ∧ r.2.mem ((c.tc : Thread Cert.GuIdeal.nD Cert.GuIdeal.τ).loc Cert.GuIdeal.main_arg0) = m ((c.tc : Thread Cert.GuIdeal.nD Cert.GuIdeal.τ).loc Cert.GuIdeal.main_arg0)
          ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
          ∧ r.2.mem ((c.tc : Thread Cert.GuIdeal.nD Cert.GuIdeal.τ).loc Cert.GuIdeal.main_arg2) = m ((c.tc : Thread Cert.GuIdeal.nD Cert.GuIdeal.τ).loc Cert.GuIdeal.main_arg2)
          ∧ r.2.mem ((c.tc : Thread Cert.GuIdeal.nD Cert.GuIdeal.τ).loc Cert.GuIdeal.main_arg3) = m ((c.tc : Thread Cert.GuIdeal.nD Cert.GuIdeal.τ).loc Cert.GuIdeal.main_arg3)
          ∧ r.2.mem ((c.tc : Thread Cert.GuIdeal.nD Cert.GuIdeal.τ).loc Cert.GuIdeal.main_arg4) = m ((c.tc : Thread Cert.GuIdeal.nD Cert.GuIdeal.τ).loc Cert.GuIdeal.main_arg4)
          ∧ r.2.mem ((c.tc : Thread Cert.GuIdeal.nD Cert.GuIdeal.τ).loc Cert.GuIdeal.main_arg5) = m ((c.tc : Thread Cert.GuIdeal.nD Cert.GuIdeal.τ).loc Cert.GuIdeal.main_arg5))
      ∧ θ_run (Cert.GuRefIdeal.defs (F := Ideal)) (onTc (τ := Cert.GuRefIdeal.τ) (Cert.GuRefIdeal.main (F := Ideal))) ⟨m', fun _ => 0, g'⟩ (fun r => ∀ c : Dev Cert.GuRefIdeal.nD,
          r.2.mem ((c.tc : Thread Cert.GuRefIdeal.nD Cert.GuRefIdeal.τ).loc Cert.GuRefIdeal.main_v1_0) = v0 c
          ∧ r.2.mem ((c.tc : Thread Cert.GuRefIdeal.nD Cert.GuRefIdeal.τ).loc Cert.GuRefIdeal.main_v1_1) = v1 c
          ∧ r.2.mem ((c.tc : Thread Cert.GuRefIdeal.nD Cert.GuRefIdeal.τ).loc Cert.GuRefIdeal.main_arg0) = m' ((c.tc : Thread Cert.GuRefIdeal.nD Cert.GuRefIdeal.τ).loc Cert.GuRefIdeal.main_arg0)
          ∧ r.2.mem ((c.tc : Thread Cert.GuRefIdeal.nD Cert.GuRefIdeal.τ).loc Cert.GuRefIdeal.main_arg1) = m' ((c.tc : Thread Cert.GuRefIdeal.nD Cert.GuRefIdeal.τ).loc Cert.GuRefIdeal.main_arg1)
          ∧ r.2.mem ((c.tc : Thread Cert.GuRefIdeal.nD Cert.GuRefIdeal.τ).loc Cert.GuRefIdeal.main_arg2) = m' ((c.tc : Thread Cert.GuRefIdeal.nD Cert.GuRefIdeal.τ).loc Cert.GuRefIdeal.main_arg2)
          ∧ r.2.mem ((c.tc : Thread Cert.GuRefIdeal.nD Cert.GuRefIdeal.τ).loc Cert.GuRefIdeal.main_arg3) = m' ((c.tc : Thread Cert.GuRefIdeal.nD Cert.GuRefIdeal.τ).loc Cert.GuRefIdeal.main_arg3)
          ∧ r.2.mem ((c.tc : Thread Cert.GuRefIdeal.nD Cert.GuRefIdeal.τ).loc Cert.GuRefIdeal.main_arg4) = m' ((c.tc : Thread Cert.GuRefIdeal.nD Cert.GuRefIdeal.τ).loc Cert.GuRefIdeal.main_arg4)
          ∧ r.2.mem ((c.tc : Thread Cert.GuRefIdeal.nD Cert.GuRefIdeal.τ).loc Cert.GuRefIdeal.main_arg5) = m' ((c.tc : Thread Cert.GuRefIdeal.nD Cert.GuRefIdeal.τ).loc Cert.GuRefIdeal.main_arg5))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)
      ∧ m' ((c.tc : Thread Cert.OprojRefIdeal.nD Cert.OprojRefIdeal.τ).loc Cert.OprojRefIdeal.main_arg6) = m ((c.tc : Thread Cert.OprojIdeal.nD Cert.OprojIdeal.τ).loc Cert.OprojIdeal.main_arg6)
      ∧ m' ((c.tc : Thread Cert.OprojRefIdeal.nD Cert.OprojRefIdeal.τ).loc Cert.OprojRefIdeal.main_arg7) = m ((c.tc : Thread Cert.OprojIdeal.nD Cert.OprojIdeal.τ).loc Cert.OprojIdeal.main_arg7)) →
    ∃ (v0 : (c : Dev Cert.OprojIdeal.nD) → Buf (Elt Ideal) ((c.tc : Thread Cert.OprojIdeal.nD Cert.OprojIdeal.τ).loc Cert.OprojIdeal.main_v2_0)) (v1 : (c : Dev Cert.OprojIdeal.nD) → Buf (Elt Ideal) ((c.tc : Thread Cert.OprojIdeal.nD Cert.OprojIdeal.τ).loc Cert.OprojIdeal.main_v2_1)) (v2 : (c : Dev Cert.OprojIdeal.nD) → Buf (Elt Ideal) ((c.tc : Thread Cert.OprojIdeal.nD Cert.OprojIdeal.τ).loc Cert.OprojIdeal.main_v2_2)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v2_0) = v0 c
          ∧ r.2.mem ((c.tc : Thread Cert.OprojIdeal.nD Cert.OprojIdeal.τ).loc Cert.OprojIdeal.main_v2_1) = v1 c
          ∧ r.2.mem ((c.tc : Thread Cert.OprojIdeal.nD Cert.OprojIdeal.τ).loc Cert.OprojIdeal.main_v2_2) = v2 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
          ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6)
          ∧ r.2.mem ((c.tc : Thread Cert.OprojIdeal.nD Cert.OprojIdeal.τ).loc Cert.OprojIdeal.main_arg7) = m ((c.tc : Thread Cert.OprojIdeal.nD Cert.OprojIdeal.τ).loc Cert.OprojIdeal.main_arg7))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v2_0) = v0 c
          ∧ r.2.mem ((c.tc : Thread Cert.OprojRefIdeal.nD Cert.OprojRefIdeal.τ).loc Cert.OprojRefIdeal.main_v2_1) = v1 c
          ∧ r.2.mem ((c.tc : Thread Cert.OprojRefIdeal.nD Cert.OprojRefIdeal.τ).loc Cert.OprojRefIdeal.main_v2_2) = v2 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5)
          ∧ r.2.mem ((c.tc : Thread Cert.OprojRefIdeal.nD Cert.OprojRefIdeal.τ).loc Cert.OprojRefIdeal.main_arg6) = m' ((c.tc : Thread Cert.OprojRefIdeal.nD Cert.OprojRefIdeal.τ).loc Cert.OprojRefIdeal.main_arg6)
          ∧ r.2.mem ((c.tc : Thread Cert.OprojRefIdeal.nD Cert.OprojRefIdeal.τ).loc Cert.OprojRefIdeal.main_arg7) = m' ((c.tc : Thread Cert.OprojRefIdeal.nD Cert.OprojRefIdeal.τ).loc Cert.OprojRefIdeal.main_arg7))

def preserves_Nq_NqIdeal : Prop :=
  True

def algebraic_NqIdeal_NqRefIdeal [hNqIdeal : Cert.NqIdeal.Facts] [hNqRefIdeal : Cert.NqRefIdeal.Facts] : Prop :=
  ∀ (m : (ℓ : Loc Cert.NqIdeal.nD Cert.NqIdeal.τ Cert.NqIdeal.sig) → Buf (Elt Ideal) ℓ) (g : Dev Cert.NqIdeal.nD → PrngReg)
    (m' : (ℓ : Loc Cert.NqRefIdeal.nD Cert.NqRefIdeal.τ Cert.NqRefIdeal.sig) → Buf (Elt Ideal) ℓ) (g' : Dev Cert.NqRefIdeal.nD → PrngReg), Pre_NqIdeal m →
    (∀ c : Dev Cert.NqIdeal.nD,
      m' ((c.tc : Thread Cert.NqRefIdeal.nD Cert.NqRefIdeal.τ).loc Cert.NqRefIdeal.main_arg0) = m ((c.tc : Thread Cert.NqIdeal.nD Cert.NqIdeal.τ).loc Cert.NqIdeal.main_arg0)
      ∧ m' ((c.tc : Thread Cert.NqRefIdeal.nD Cert.NqRefIdeal.τ).loc Cert.NqRefIdeal.main_arg1) = m ((c.tc : Thread Cert.NqIdeal.nD Cert.NqIdeal.τ).loc Cert.NqIdeal.main_arg1)) →
    ∃ (v0 : (c : Dev Cert.NqIdeal.nD) → Buf (Elt Ideal) ((c.tc : Thread Cert.NqIdeal.nD Cert.NqIdeal.τ).loc Cert.NqIdeal.main_v1_0)) (v1 : (c : Dev Cert.NqIdeal.nD) → Buf (Elt Ideal) ((c.tc : Thread Cert.NqIdeal.nD Cert.NqIdeal.τ).loc Cert.NqIdeal.main_v1_1)),
      θ_run (Cert.NqIdeal.defs (F := Ideal)) (onTc (τ := Cert.NqIdeal.τ) (Cert.NqIdeal.main (F := Ideal))) ⟨m, fun _ => 0, g⟩ (fun r => ∀ c : Dev Cert.NqIdeal.nD,
          r.2.mem ((c.tc : Thread Cert.NqIdeal.nD Cert.NqIdeal.τ).loc Cert.NqIdeal.main_v1_0) = v0 c
          ∧ r.2.mem ((c.tc : Thread Cert.NqIdeal.nD Cert.NqIdeal.τ).loc Cert.NqIdeal.main_v1_1) = v1 c
          ∧ r.2.mem ((c.tc : Thread Cert.NqIdeal.nD Cert.NqIdeal.τ).loc Cert.NqIdeal.main_arg0) = m ((c.tc : Thread Cert.NqIdeal.nD Cert.NqIdeal.τ).loc Cert.NqIdeal.main_arg0)
          ∧ r.2.mem ((c.tc : Thread Cert.NqIdeal.nD Cert.NqIdeal.τ).loc Cert.NqIdeal.main_arg1) = m ((c.tc : Thread Cert.NqIdeal.nD Cert.NqIdeal.τ).loc Cert.NqIdeal.main_arg1))
      ∧ θ_run (Cert.NqRefIdeal.defs (F := Ideal)) (onTc (τ := Cert.NqRefIdeal.τ) (Cert.NqRefIdeal.main (F := Ideal))) ⟨m', fun _ => 0, g'⟩ (fun r => ∀ c : Dev Cert.NqRefIdeal.nD,
          r.2.mem ((c.tc : Thread Cert.NqRefIdeal.nD Cert.NqRefIdeal.τ).loc Cert.NqRefIdeal.main_v1_0) = v0 c
          ∧ r.2.mem ((c.tc : Thread Cert.NqRefIdeal.nD Cert.NqRefIdeal.τ).loc Cert.NqRefIdeal.main_v1_1) = v1 c
          ∧ r.2.mem ((c.tc : Thread Cert.NqRefIdeal.nD Cert.NqRefIdeal.τ).loc Cert.NqRefIdeal.main_arg0) = m' ((c.tc : Thread Cert.NqRefIdeal.nD Cert.NqRefIdeal.τ).loc Cert.NqRefIdeal.main_arg0)
          ∧ r.2.mem ((c.tc : Thread Cert.NqRefIdeal.nD Cert.NqRefIdeal.τ).loc Cert.NqRefIdeal.main_arg1) = m' ((c.tc : Thread Cert.NqRefIdeal.nD Cert.NqRefIdeal.τ).loc Cert.NqRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)) →
    ∃ (v0 : (c : Dev Cert.QkvIdeal.nD) → Buf (Elt Ideal) ((c.tc : Thread Cert.QkvIdeal.nD Cert.QkvIdeal.τ).loc Cert.QkvIdeal.main_v4_0)) (v1 : (c : Dev Cert.QkvIdeal.nD) → Buf (Elt Ideal) ((c.tc : Thread Cert.QkvIdeal.nD Cert.QkvIdeal.τ).loc Cert.QkvIdeal.main_v4_1)) (v2 : (c : Dev Cert.QkvIdeal.nD) → Buf (Elt Ideal) ((c.tc : Thread Cert.QkvIdeal.nD Cert.QkvIdeal.τ).loc Cert.QkvIdeal.main_v4_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v4_0) = v0 c
          ∧ r.2.mem ((c.tc : Thread Cert.QkvIdeal.nD Cert.QkvIdeal.τ).loc Cert.QkvIdeal.main_v4_1) = v1 c
          ∧ r.2.mem ((c.tc : Thread Cert.QkvIdeal.nD Cert.QkvIdeal.τ).loc Cert.QkvIdeal.main_v4_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v3_0) = v0 c
          ∧ r.2.mem ((c.tc : Thread Cert.QkvRefIdeal.nD Cert.QkvRefIdeal.τ).loc Cert.QkvRefIdeal.main_v3_1) = v1 c
          ∧ r.2.mem ((c.tc : Thread Cert.QkvRefIdeal.nD Cert.QkvRefIdeal.τ).loc Cert.QkvRefIdeal.main_v3_2) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9))

def Claim : Prop :=
  ∃ (hDown : Cert.Down.Facts) (hDownIdeal : Cert.DownIdeal.Facts) (hDownRefIdeal : Cert.DownRefIdeal.Facts) (hGu : Cert.Gu.Facts) (hGuIdeal : Cert.GuIdeal.Facts) (hGuRefIdeal : Cert.GuRefIdeal.Facts) (hOproj : Cert.Oproj.Facts) (hOprojIdeal : Cert.OprojIdeal.Facts) (hOprojRefIdeal : Cert.OprojRefIdeal.Facts) (hNq : Cert.Nq.Facts) (hNqIdeal : Cert.NqIdeal.Facts) (hNqRefIdeal : Cert.NqRefIdeal.Facts) (hQkv : Cert.Qkv.Facts) (hQkvIdeal : Cert.QkvIdeal.Facts) (hQkvRefIdeal : Cert.QkvRefIdeal.Facts),
    quiescent_Down (hDown := hDown)
    ∧ quiescent_DownIdeal (hDownIdeal := hDownIdeal)
    ∧ quiescent_DownRefIdeal (hDownRefIdeal := hDownRefIdeal)
    ∧ quiescent_Gu (hGu := hGu)
    ∧ quiescent_GuIdeal (hGuIdeal := hGuIdeal)
    ∧ quiescent_GuRefIdeal (hGuRefIdeal := hGuRefIdeal)
    ∧ quiescent_Oproj (hOproj := hOproj)
    ∧ quiescent_OprojIdeal (hOprojIdeal := hOprojIdeal)
    ∧ quiescent_OprojRefIdeal (hOprojRefIdeal := hOprojRefIdeal)
    ∧ quiescent_Nq (hNq := hNq)
    ∧ quiescent_NqIdeal (hNqIdeal := hNqIdeal)
    ∧ quiescent_NqRefIdeal (hNqRefIdeal := hNqRefIdeal)
    ∧ quiescent_Qkv (hQkv := hQkv)
    ∧ quiescent_QkvIdeal (hQkvIdeal := hQkvIdeal)
    ∧ quiescent_QkvRefIdeal (hQkvRefIdeal := hQkvRefIdeal)
    ∧ preserves_Down_DownIdeal
    ∧ algebraic_DownIdeal_DownRefIdeal (hDownIdeal := hDownIdeal) (hDownRefIdeal := hDownRefIdeal)
    ∧ preserves_Gu_GuIdeal
    ∧ algebraic_GuIdeal_GuRefIdeal (hGuIdeal := hGuIdeal) (hGuRefIdeal := hGuRefIdeal)
    ∧ preserves_Oproj_OprojIdeal
    ∧ algebraic_OprojIdeal_OprojRefIdeal (hOprojIdeal := hOprojIdeal) (hOprojRefIdeal := hOprojRefIdeal)
    ∧ preserves_Nq_NqIdeal
    ∧ algebraic_NqIdeal_NqRefIdeal (hNqIdeal := hNqIdeal) (hNqRefIdeal := hNqRefIdeal)
    ∧ preserves_Qkv_QkvIdeal
    ∧ algebraic_QkvIdeal_QkvRefIdeal (hQkvIdeal := hQkvIdeal) (hQkvRefIdeal := hQkvRefIdeal)
-- ==== Down.lean ====
abbrev S6144x5120 : Shape := ⟨2, ![6144, 5120]⟩
abbrev S6144x1 : Shape := ⟨2, ![6144, 1]⟩
abbrev S640x7168 : Shape := ⟨2, ![640, 7168]⟩
abbrev S40x7168 : Shape := ⟨2, ![40, 7168]⟩
abbrev S7168 : Shape := ⟨1, ![7168]⟩
abbrev S6144x7168 : Shape := ⟨2, ![6144, 7168]⟩
abbrev S1x7168 : Shape := ⟨2, ![1, 7168]⟩
abbrev S1024x5120 : Shape := ⟨2, ![1024, 5120]⟩
abbrev S1024x1 : Shape := ⟨2, ![1024, 1]⟩
abbrev S640x512 : Shape := ⟨2, ![640, 512]⟩
abbrev S40x512 : Shape := ⟨2, ![40, 512]⟩
abbrev S1x512 : Shape := ⟨2, ![1, 512]⟩
abbrev S1024x512 : Shape := ⟨2, ![1024, 512]⟩
abbrev S5120x512 : Shape := ⟨2, ![5120, 512]⟩
abbrev S16x512 : Shape := ⟨2, ![16, 512]⟩
abbrev S16x8x512 : Shape := ⟨3, ![16, 8, 512]⟩
abbrev S16x1x512 : Shape := ⟨3, ![16, 1, 512]⟩
abbrev S128x512 : Shape := ⟨2, ![128, 512]⟩

abbrev nBuf : Space → Nat
  | .hbm => 9
  | .vmem => 17
  | .smem => 0
  | _ => 0

abbrev bufTy : (tb : Table) → Fin (tcTables nBuf tb) → BufTy
  | .hbm, ⟨0, _⟩ => ⟨S6144x5120, .fp8e4m3⟩
  | .hbm, ⟨1, _⟩ => ⟨S6144x1, .f32⟩
  | .hbm, ⟨2, _⟩ => ⟨S640x7168, .i32⟩
  | .hbm, ⟨3, _⟩ => ⟨S40x7168, .fp8e4m3⟩
  | .hbm, ⟨4, _⟩ => ⟨S40x7168, .i8⟩
  | .hbm, ⟨5, _⟩ => ⟨S7168, .f32⟩
  | .hbm, ⟨6, _⟩ => ⟨S6144x7168, .f32⟩
  | .hbm, ⟨7, _⟩ => ⟨S1x7168, .f32⟩
  | .hbm, ⟨8, _⟩ => ⟨S6144x7168, .bf16⟩
  | .local _ .vmem, ⟨0, _⟩ => ⟨S1024x5120, .fp8e4m3⟩
  | .local _ .vmem, ⟨1, _⟩ => ⟨S1024x5120, .fp8e4m3⟩
  | .local _ .vmem, ⟨2, _⟩ => ⟨S1024x1, .f32⟩
  | .local _ .vmem, ⟨3, _⟩ => ⟨S1024x1, .f32⟩
  | .local _ .vmem, ⟨4, _⟩ => ⟨S640x512, .i32⟩
  | .local _ .vmem, ⟨5, _⟩ => ⟨S640x512, .i32⟩
  | .local _ .vmem, ⟨6, _⟩ => ⟨S40x512, .fp8e4m3⟩
  | .local _ .vmem, ⟨7, _⟩ => ⟨S40x512, .fp8e4m3⟩
  | .local _ .vmem, ⟨8, _⟩ => ⟨S40x512, .i8⟩
  | .local _ .vmem, ⟨9, _⟩ => ⟨S40x512, .i8⟩
  | .local _ .vmem, ⟨10, _⟩ => ⟨S1x512, .f32⟩
  | .local _ .vmem, ⟨11, _⟩ => ⟨S1x512, .f32⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S5120x512, .bf16⟩
  | _, _ => ⟨S6144x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![6, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S40x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S40x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== DownRefIdeal.lean ====
abbrev S6144x5120 : Shape := ⟨2, ![6144, 5120]⟩
abbrev S6144x1 : Shape := ⟨2, ![6144, 1]⟩
abbrev S640x7168 : Shape := ⟨2, ![640, 7168]⟩
abbrev S40x7168 : Shape := ⟨2, ![40, 7168]⟩
abbrev S7168 : Shape := ⟨1, ![7168]⟩
abbrev S6144x7168 : Shape := ⟨2, ![6144, 7168]⟩
abbrev S1x7168 : Shape := ⟨2, ![1, 7168]⟩
abbrev S640x8x7168 : Shape := ⟨3, ![640, 8, 7168]⟩
abbrev S640x1x7168 : Shape := ⟨3, ![640, 1, 7168]⟩
abbrev S5120x7168 : Shape := ⟨2, ![5120, 7168]⟩
abbrev S40x1x7168 : Shape := ⟨3, ![40, 1, 7168]⟩
abbrev S40x128x7168 : Shape := ⟨3, ![40, 128, 7168]⟩

abbrev nBuf : Space → Nat
  | .hbm => 9
  | .vmem => 8
  | .smem => 0
  | _ => 0

abbrev bufTy : (tb : Table) → Fin (tcTables nBuf tb) → BufTy
  | .hbm, ⟨0, _⟩ => ⟨S6144x5120, .fp8e4m3⟩
  | .hbm, ⟨1, _⟩ => ⟨S6144x1, .f32⟩
  | .hbm, ⟨2, _⟩ => ⟨S640x7168, .i32⟩
  | .hbm, ⟨3, _⟩ => ⟨S40x7168, .fp8e4m3⟩
  | .hbm, ⟨4, _⟩ => ⟨S40x7168, .i8⟩
  | .hbm, ⟨5, _⟩ => ⟨S7168, .f32⟩
  | .hbm, ⟨6, _⟩ => ⟨S6144x7168, .f32⟩
  | .hbm, ⟨7, _⟩ => ⟨S1x7168, .f32⟩
  | .hbm, ⟨8, _⟩ => ⟨S6144x7168, .bf16⟩
  | .local _ .vmem, ⟨0, _⟩ => ⟨S6144x5120, .fp8e4m3⟩
  | .local _ .vmem, ⟨1, _⟩ => ⟨S6144x1, .f32⟩
  | .local _ .vmem, ⟨2, _⟩ => ⟨S640x7168, .i32⟩
  | .local _ .vmem, ⟨3, _⟩ => ⟨S40x7168, .fp8e4m3⟩
  | .local _ .vmem, ⟨4, _⟩ => ⟨S40x7168, .i8⟩
  | .local _ .vmem, ⟨5, _⟩ => ⟨S1x7168, .f32⟩
  | .local _ .vmem, ⟨6, _⟩ => ⟨S6144x7168, .f32⟩
  | .local _ .vmem, ⟨7, _⟩ => ⟨S6144x7168, .bf16⟩
  | _, _ => ⟨S6144x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6144x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S640x7168 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x7168 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x7168 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Gu.lean ====
abbrev S6144x7168 : Shape := ⟨2, ![6144, 7168]⟩
abbrev S6144x1 : Shape := ⟨2, ![6144, 1]⟩
abbrev S896x10240 : Shape := ⟨2, ![896, 10240]⟩
abbrev S56x10240 : Shape := ⟨2, ![56, 10240]⟩
abbrev S10240 : Shape := ⟨1, ![10240]⟩
abbrev S1x10240 : Shape := ⟨2, ![1, 10240]⟩
abbrev S6144x5120 : Shape := ⟨2, ![6144, 5120]⟩
abbrev S512x7168 : Shape := ⟨2, ![512, 7168]⟩
abbrev S512x1 : Shape := ⟨2, ![512, 1]⟩
abbrev S896x256 : Shape := ⟨2, ![896, 256]⟩
abbrev S56x256 : Shape := ⟨2, ![56, 256]⟩
abbrev S1x256 : Shape := ⟨2, ![1, 256]⟩
abbrev S512x5120 : Shape := ⟨2, ![512, 5120]⟩
abbrev S7168x512 : Shape := ⟨2, ![7168, 512]⟩
abbrev S20x512x256 : Shape := ⟨3, ![20, 512, 256]⟩
abbrev S16x256 : Shape := ⟨2, ![16, 256]⟩
abbrev S16x8x256 : Shape := ⟨3, ![16, 8, 256]⟩
abbrev S16x1x256 : Shape := ⟨3, ![16, 1, 256]⟩
abbrev S128x256 : Shape := ⟨2, ![128, 256]⟩
abbrev S512x512 : Shape := ⟨2, ![512, 512]⟩
abbrev S512x256 : Shape := ⟨2, ![512, 256]⟩
abbrev S1x512x256 : Shape := ⟨3, ![1, 512, 256]⟩
abbrev S512 : Shape := ⟨1, ![512]⟩

abbrev nBuf : Space → Nat
  | .hbm => 9
  | .vmem => 26
  | .smem => 0
  | _ => 0

abbrev bufTy : (tb : Table) → Fin (tcTables nBuf tb) → BufTy
  | .hbm, ⟨0, _⟩ => ⟨S6144x7168, .fp8e4m3⟩
  | .hbm, ⟨1, _⟩ => ⟨S6144x1, .f32⟩
  | .hbm, ⟨2, _⟩ => ⟨S896x10240, .i32⟩
  | .hbm, ⟨3, _⟩ => ⟨S56x10240, .fp8e4m3⟩
  | .hbm, ⟨4, _⟩ => ⟨S56x10240, .i8⟩
  | .hbm, ⟨5, _⟩ => ⟨S10240, .f32⟩
  | .hbm, ⟨6, _⟩ => ⟨S1x10240, .f32⟩
  | .hbm, ⟨7, _⟩ => ⟨S6144x5120, .fp8e4m3⟩
  | .hbm, ⟨8, _⟩ => ⟨S6144x1, .f32⟩
  | .local _ .vmem, ⟨0, _⟩ => ⟨S512x7168, .fp8e4m3⟩
  | .local _ .vmem, ⟨1, _⟩ => ⟨S512x7168, .fp8e4m3⟩
  | .local _ .vmem, ⟨2, _⟩ => ⟨S512x1, .f32⟩
  | .local _ .vmem, ⟨3, _⟩ => ⟨S512x1, .f32⟩
  | .local _ .vmem, ⟨4, _⟩ => ⟨S896x256, .i32⟩
  | .local _ .vmem, ⟨5, _⟩ => ⟨S896x256, .i32⟩
  | .local _ .vmem, ⟨6, _⟩ => ⟨S896x256, .i32⟩
  | .local _ .vmem, ⟨7, _⟩ => ⟨S896x256, .i32⟩
  | .local _ .vmem, ⟨8, _⟩ => ⟨S56x256, .fp8e4m3⟩
  | .local _ .vmem, ⟨9, _⟩ => ⟨S56x256, .fp8e4m3⟩
  | .local _ .vmem, ⟨10, _⟩ => ⟨S56x256, .fp8e4m3⟩
  | .local _ .vmem, ⟨11, _⟩ => ⟨S56x256, .fp8e4m3⟩
  | .local _ .vmem, ⟨12, _⟩ => ⟨S56x256, .i8⟩
  | .local _ .vmem, ⟨13, _⟩ => ⟨S56x256, .i8⟩
  | .local _ .vmem, ⟨14, _⟩ => ⟨S56x256, .i8⟩
  | .local _ .vmem, ⟨15, _⟩ => ⟨S56x256, .i8⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S512x5120, .fp8e4m3⟩
  | .local _ .vmem, ⟨21, _⟩ => ⟨S512x5120, .fp8e4m3⟩
  | .local _ .vmem, ⟨22, _⟩ => ⟨S512x1, .f32⟩
  | .local _ .vmem, ⟨23, _⟩ => ⟨S512x1, .f32⟩
  | .local _ .vmem, ⟨24, _⟩ => ⟨S7168x512, .bf16⟩
  | .local _ .vmem, ⟨25, _⟩ => ⟨S20x512x256, .f32⟩
  | _, _ => ⟨S6144x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![12, 20], ![false, false]⟩

def k0_off1 (i : grid0.Coords) : Fin 3 → Nat :=
  let arg1 : BitVec 32 := BitVec.ofNat 32 (i 1).val
  let v3607 : Index := Scalar.indexCast arg1
  let c0_1308 : Index := 0#32
  let c0_1309 : Index := 0#32
  ![v3607.toNat, 0, 0]
def k0_cond1 (i : grid0.Coords) : BitVec 1 :=
  let arg1 : BitVec 32 := BitVec.ofNat 32 (i 1).val
  let c19_i32 : BitVec 32 := 19#32
  let v3611 : BitVec 1 := Scalar.cmpi .eq arg1 c19_i32
  let v3612 : BitVec 32 := Scalar.extui v3611
  let c0_i32 : BitVec 32 := 0#32
  let v3613 : BitVec 1 := Scalar.cmpi .ne v3612 c0_i32
  v3613

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi arg1 c20_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi arg1 c20_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi arg1 c20_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi arg1 c20_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S896x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S896x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S56x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S56x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S56x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S56x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x5120 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== GuRefIdeal.lean ====
abbrev S6144x7168 : Shape := ⟨2, ![6144, 7168]⟩
abbrev S6144x1 : Shape := ⟨2, ![6144, 1]⟩
abbrev S896x10240 : Shape := ⟨2, ![896, 10240]⟩
abbrev S56x10240 : Shape := ⟨2, ![56, 10240]⟩
abbrev S10240 : Shape := ⟨1, ![10240]⟩
abbrev S1x10240 : Shape := ⟨2, ![1, 10240]⟩
abbrev S6144x5120 : Shape := ⟨2, ![6144, 5120]⟩
abbrev S896x8x10240 : Shape := ⟨3, ![896, 8, 10240]⟩
abbrev S896x1x10240 : Shape := ⟨3, ![896, 1, 10240]⟩
abbrev S7168x10240 : Shape := ⟨2, ![7168, 10240]⟩
abbrev S56x1x10240 : Shape := ⟨3, ![56, 1, 10240]⟩
abbrev S56x128x10240 : Shape := ⟨3, ![56, 128, 10240]⟩
abbrev S6144x10240 : Shape := ⟨2, ![6144, 10240]⟩
abbrev S6144 : Shape := ⟨1, ![6144]⟩

abbrev nBuf : Space → Nat
  | .hbm => 9
  | .vmem => 8
  | .smem => 0
  | _ => 0

abbrev bufTy : (tb : Table) → Fin (tcTables nBuf tb) → BufTy
  | .hbm, ⟨0, _⟩ => ⟨S6144x7168, .fp8e4m3⟩
  | .hbm, ⟨1, _⟩ => ⟨S6144x1, .f32⟩
  | .hbm, ⟨2, _⟩ => ⟨S896x10240, .i32⟩
  | .hbm, ⟨3, _⟩ => ⟨S56x10240, .fp8e4m3⟩
  | .hbm, ⟨4, _⟩ => ⟨S56x10240, .i8⟩
  | .hbm, ⟨5, _⟩ => ⟨S10240, .f32⟩
  | .hbm, ⟨6, _⟩ => ⟨S1x10240, .f32⟩
  | .hbm, ⟨7, _⟩ => ⟨S6144x5120, .fp8e4m3⟩
  | .hbm, ⟨8, _⟩ => ⟨S6144x1, .f32⟩
  | .local _ .vmem, ⟨0, _⟩ => ⟨S6144x7168, .fp8e4m3⟩
  | .local _ .vmem, ⟨1, _⟩ => ⟨S6144x1, .f32⟩
  | .local _ .vmem, ⟨2, _⟩ => ⟨S896x10240, .i32⟩
  | .local _ .vmem, ⟨3, _⟩ => ⟨S56x10240, .fp8e4m3⟩
  | .local _ .vmem, ⟨4, _⟩ => ⟨S56x10240, .i8⟩
  | .local _ .vmem, ⟨5, _⟩ => ⟨S1x10240, .f32⟩
  | .local _ .vmem, ⟨6, _⟩ => ⟨S6144x5120, .fp8e4m3⟩
  | .local _ .vmem, ⟨7, _⟩ => ⟨S6144x1, .f32⟩
  | _, _ => ⟨S6144x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6144x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S896x10240 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x10240 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S56x10240 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x10240 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Oproj.lean ====
abbrev S6144x1792 : Shape := ⟨2, ![6144, 1792]⟩
abbrev S6144x1 : Shape := ⟨2, ![6144, 1]⟩
abbrev S224x7168 : Shape := ⟨2, ![224, 7168]⟩
abbrev S14x7168 : Shape := ⟨2, ![14, 7168]⟩
abbrev S7168 : Shape := ⟨1, ![7168]⟩
abbrev S6144x7168 : Shape := ⟨2, ![6144, 7168]⟩
abbrev S1x7168 : Shape := ⟨2, ![1, 7168]⟩
abbrev S512x1792 : Shape := ⟨2, ![512, 1792]⟩
abbrev S512x1 : Shape := ⟨2, ![512, 1]⟩
abbrev S224x1024 : Shape := ⟨2, ![224, 1024]⟩
abbrev S14x1024 : Shape := ⟨2, ![14, 1024]⟩
abbrev S1x1024 : Shape := ⟨2, ![1, 1024]⟩
abbrev S512x1024 : Shape := ⟨2, ![512, 1024]⟩
abbrev S512x7168 : Shape := ⟨2, ![512, 7168]⟩
abbrev S1792x1024 : Shape := ⟨2, ![1792, 1024]⟩
abbrev S16x1024 : Shape := ⟨2, ![16, 1024]⟩
abbrev S16x8x1024 : Shape := ⟨3, ![16, 8, 1024]⟩
abbrev S16x1x1024 : Shape := ⟨3, ![16, 1, 1024]⟩
abbrev S128x1024 : Shape := ⟨2, ![128, 1024]⟩
abbrev S512 : Shape := ⟨1, ![512]⟩

abbrev nBuf : Space → Nat
  | .hbm => 13
  | .vmem => 22
  | .smem => 0
  | _ => 0

abbrev bufTy : (tb : Table) → Fin (tcTables nBuf tb) → BufTy
  | .hbm, ⟨0, _⟩ => ⟨S6144x1792, .fp8e4m3⟩
  | .hbm, ⟨1, _⟩ => ⟨S6144x1, .f32⟩
  | .hbm, ⟨2, _⟩ => ⟨S224x7168, .i32⟩
  | .hbm, ⟨3, _⟩ => ⟨S14x7168, .fp8e4m3⟩
  | .hbm, ⟨4, _⟩ => ⟨S14x7168, .i8⟩
  | .hbm, ⟨5, _⟩ => ⟨S7168, .f32⟩
  | .hbm, ⟨6, _⟩ => ⟨S6144x7168, .bf16⟩
  | .hbm, ⟨7, _⟩ => ⟨S7168, .f32⟩
  | .hbm, ⟨8, _⟩ => ⟨S1x7168, .f32⟩
  | .hbm, ⟨9, _⟩ => ⟨S1x7168, .f32⟩
  | .hbm, ⟨10, _⟩ => ⟨S6144x7168, .f32⟩
  | .hbm, ⟨11, _⟩ => ⟨S6144x7168, .fp8e4m3⟩
  | .hbm, ⟨12, _⟩ => ⟨S6144x1, .f32⟩
  | .local _ .vmem, ⟨0, _⟩ => ⟨S512x1792, .fp8e4m3⟩
  | .local _ .vmem, ⟨1, _⟩ => ⟨S512x1792, .fp8e4m3⟩
  | .local _ .vmem, ⟨2, _⟩ => ⟨S512x1, .f32⟩
  | .local _ .vmem, ⟨3, _⟩ => ⟨S512x1, .f32⟩
  | .local _ .vmem, ⟨4, _⟩ => ⟨S224x1024, .i32⟩
  | .local _ .vmem, ⟨5, _⟩ => ⟨S224x1024, .i32⟩
  | .local _ .vmem, ⟨6, _⟩ => ⟨S14x1024, .fp8e4m3⟩
  | .local _ .vmem, ⟨7, _⟩ => ⟨S14x1024, .fp8e4m3⟩
  | .local _ .vmem, ⟨8, _⟩ => ⟨S14x1024, .i8⟩
  | .local _ .vmem, ⟨9, _⟩ => ⟨S14x1024, .i8⟩
  | .local _ .vmem, ⟨10, _⟩ => ⟨S1x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S1x7168, .f32⟩
  | .local _ .vmem, ⟨15, _⟩ => ⟨S512x7168, .f32⟩
  | .local _ .vmem, ⟨16, _⟩ => ⟨S512x7168, .f32⟩
  | .local _ .vmem, ⟨17, _⟩ => ⟨S512x7168, .fp8e4m3⟩
  | .local _ .vmem, ⟨18, _⟩ => ⟨S512x7168, .fp8e4m3⟩
  | .local _ .vmem, ⟨19, _⟩ => ⟨S512x1, .f32⟩
  | .local _ .vmem, ⟨20, _⟩ => ⟨S512x1, .f32⟩
  | .local _ .vmem, ⟨21, _⟩ => ⟨S1792x1024, .bf16⟩
  | _, _ => ⟨S6144x1792, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![12, 7], ![false, false]⟩

def k0_mult1 (i : grid0.Coords) : BitVec 32 :=
  let arg1 : BitVec 32 := BitVec.ofNat 32 (i 1).val
  let c1024_i32 : BitVec 32 := 1024#32
  let v462 : BitVec 32 := Scalar.muli arg1 c1024_i32
  v462
def k0_off1 (i : grid0.Coords) : Fin 2 → Nat :=
  let c0_150 : Index := 0#32
  let arg1 : BitVec 32 := BitVec.ofNat 32 (i 1).val
  let c1024_i32 : BitVec 32 := 1024#32
  let v462 : BitVec 32 := Scalar.muli arg1 c1024_i32
  let v463 : BitVec 32 := v462
  let v464 : Index := Scalar.indexCast v463
  ![0, v464.toNat]
def k0_cond1 (i : grid0.Coords) : BitVec 1 :=
  let arg1 : BitVec 32 := BitVec.ofNat 32 (i 1).val
  let c6_i32 : BitVec 32 := 6#32
  let v466 : BitVec 1 := Scalar.cmpi .eq arg1 c6_i32
  let v467 : BitVec 32 := Scalar.extui v466
  let c0_i32 : BitVec 32 := 0#32
  let v468 : BitVec 1 := Scalar.cmpi .ne v467 c0_i32
  v468

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1792 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S224x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S14x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S14x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x7168 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x7168 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x7168 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== OprojRefIdeal.lean ====
abbrev S6144x1792 : Shape := ⟨2, ![6144, 1792]⟩
abbrev S6144x1 : Shape := ⟨2, ![6144, 1]⟩
abbrev S224x7168 : Shape := ⟨2, ![224, 7168]⟩
abbrev S14x7168 : Shape := ⟨2, ![14, 7168]⟩
abbrev S7168 : Shape := ⟨1, ![7168]⟩
abbrev S6144x7168 : Shape := ⟨2, ![6144, 7168]⟩
abbrev S1x7168 : Shape := ⟨2, ![1, 7168]⟩
abbrev S224x8x7168 : Shape := ⟨3, ![224, 8, 7168]⟩
abbrev S224x1x7168 : Shape := ⟨3, ![224, 1, 7168]⟩
abbrev S1792x7168 : Shape := ⟨2, ![1792, 7168]⟩
abbrev S14x1x7168 : Shape := ⟨3, ![14, 1, 7168]⟩
abbrev S14x128x7168 : Shape := ⟨3, ![14, 128, 7168]⟩
abbrev S6144 : Shape := ⟨1, ![6144]⟩

abbrev nBuf : Space → Nat
  | .hbm => 13
  | .vmem => 11
  | .smem => 0
  | _ => 0

abbrev bufTy : (tb : Table) → Fin (tcTables nBuf tb) → BufTy
  | .hbm, ⟨0, _⟩ => ⟨S6144x1792, .fp8e4m3⟩
  | .hbm, ⟨1, _⟩ => ⟨S6144x1, .f32⟩
  | .hbm, ⟨2, _⟩ => ⟨S224x7168, .i32⟩
  | .hbm, ⟨3, _⟩ => ⟨S14x7168, .fp8e4m3⟩
  | .hbm, ⟨4, _⟩ => ⟨S14x7168, .i8⟩
  | .hbm, ⟨5, _⟩ => ⟨S7168, .f32⟩
  | .hbm, ⟨6, _⟩ => ⟨S6144x7168, .bf16⟩
  | .hbm, ⟨7, _⟩ => ⟨S7168, .f32⟩
  | .hbm, ⟨8, _⟩ => ⟨S1x7168, .f32⟩
  | .hbm, ⟨9, _⟩ => ⟨S1x7168, .f32⟩
  | .hbm, ⟨10, _⟩ => ⟨S6144x7168, .f32⟩
  | .hbm, ⟨11, _⟩ => ⟨S6144x7168, .fp8e4m3⟩
  | .hbm, ⟨12, _⟩ => ⟨S6144x1, .f32⟩
  | .local _ .vmem, ⟨0, _⟩ => ⟨S6144x1792, .fp8e4m3⟩
  | .local _ .vmem, ⟨1, _⟩ => ⟨S6144x1, .f32⟩
  | .local _ .vmem, ⟨2, _⟩ => ⟨S224x7168, .i32⟩
  | .local _ .vmem, ⟨3, _⟩ => ⟨S14x7168, .fp8e4m3⟩
  | .local _ .vmem, ⟨4, _⟩ => ⟨S14x7168, .i8⟩
  | .local _ .vmem, ⟨5, _⟩ => ⟨S1x7168, .f32⟩
  | .local _ .vmem, ⟨6, _⟩ => ⟨S6144x7168, .bf16⟩
  | .local _ .vmem, ⟨7, _⟩ => ⟨S1x7168, .f32⟩
  | .local _ .vmem, ⟨8, _⟩ => ⟨S6144x7168, .f32⟩
  | .local _ .vmem, ⟨9, _⟩ => ⟨S6144x7168, .fp8e4m3⟩
  | .local _ .vmem, ⟨10, _⟩ => ⟨S6144x1, .f32⟩
  | _, _ => ⟨S6144x1792, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S6144x1792 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S224x7168 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S14x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S14x7168 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x7168 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6144x7168 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6144x7168 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6144x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Nq.lean ====
abbrev S6144x7168 : Shape := ⟨2, ![6144, 7168]⟩
abbrev S7168 : Shape := ⟨1, ![7168]⟩
abbrev S1x7168 : Shape := ⟨2, ![1, 7168]⟩
abbrev S6144x1 : Shape := ⟨2, ![6144, 1]⟩
abbrev S256x7168 : Shape := ⟨2, ![256, 7168]⟩
abbrev S256x1 : Shape := ⟨2, ![256, 1]⟩
abbrev S256 : Shape := ⟨1, ![256]⟩

abbrev nBuf : Space → Nat
  | .hbm => 5
  | .vmem => 7
  | .smem => 0
  | _ => 0

abbrev bufTy : (tb : Table) → Fin (tcTables nBuf tb) → BufTy
  | .hbm, ⟨0, _⟩ => ⟨S6144x7168, .bf16⟩
  | .hbm, ⟨1, _⟩ => ⟨S7168, .f32⟩
  | .hbm, ⟨2, _⟩ => ⟨S1x7168, .f32⟩
  | .hbm, ⟨3, _⟩ => ⟨S6144x7168, .fp8e4m3⟩
  | .hbm, ⟨4, _⟩ => ⟨S6144x1, .f32⟩
  | .local _ .vmem, ⟨0, _⟩ => ⟨S256x7168, .bf16⟩
  | .local _ .vmem, ⟨1, _⟩ => ⟨S256x7168, .bf16⟩
  | .local _ .vmem, ⟨2, _⟩ => ⟨S1x7168, .f32⟩
  | .local _ .vmem, ⟨3, _⟩ => ⟨S256x7168, .fp8e4m3⟩
  | .local _ .vmem, ⟨4, _⟩ => ⟨S256x7168, .fp8e4m3⟩
  | .local _ .vmem, ⟨5, _⟩ => ⟨S256x1, .f32⟩
  | .local _ .vmem, ⟨6, _⟩ => ⟨S256x1, .f32⟩
  | _, _ => ⟨S6144x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x7168 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NqRefIdeal.lean ====
abbrev S6144x7168 : Shape := ⟨2, ![6144, 7168]⟩
abbrev S7168 : Shape := ⟨1, ![7168]⟩
abbrev S1x7168 : Shape := ⟨2, ![1, 7168]⟩
abbrev S6144x1 : Shape := ⟨2, ![6144, 1]⟩
abbrev S6144 : Shape := ⟨1, ![6144]⟩

abbrev nBuf : Space → Nat
  | .hbm => 5
  | .vmem => 4
  | .smem => 0
  | _ => 0

abbrev bufTy : (tb : Table) → Fin (tcTables nBuf tb) → BufTy
  | .hbm, ⟨0, _⟩ => ⟨S6144x7168, .bf16⟩
  | .hbm, ⟨1, _⟩ => ⟨S7168, .f32⟩
  | .hbm, ⟨2, _⟩ => ⟨S1x7168, .f32⟩
  | .hbm, ⟨3, _⟩ => ⟨S6144x7168, .fp8e4m3⟩
  | .hbm, ⟨4, _⟩ => ⟨S6144x1, .f32⟩
  | .local _ .vmem, ⟨0, _⟩ => ⟨S6144x7168, .bf16⟩
  | .local _ .vmem, ⟨1, _⟩ => ⟨S1x7168, .f32⟩
  | .local _ .vmem, ⟨2, _⟩ => ⟨S6144x7168, .fp8e4m3⟩
  | .local _ .vmem, ⟨3, _⟩ => ⟨S6144x1, .f32⟩
  | _, _ => ⟨S6144x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6144x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Qkv.lean ====
abbrev S6144x7168 : Shape := ⟨2, ![6144, 7168]⟩
abbrev S6144x1 : Shape := ⟨2, ![6144, 1]⟩
abbrev S896x2304 : Shape := ⟨2, ![896, 2304]⟩
abbrev S56x2304 : Shape := ⟨2, ![56, 2304]⟩
abbrev S2304 : Shape := ⟨1, ![2304]⟩
abbrev S6144x64 : Shape := ⟨2, ![6144, 64]⟩
abbrev S2 : Shape := ⟨1, ![2]⟩
abbrev S6144x128 : Shape := ⟨2, ![6144, 128]⟩
abbrev S1x2304 : Shape := ⟨2, ![1, 2304]⟩
abbrev S6144x1792 : Shape := ⟨2, ![6144, 1792]⟩
abbrev S3x2x2048x128 : Shape := ⟨4, ![3, 2, 2048, 128]⟩
abbrev S1024x7168 : Shape := ⟨2, ![1024, 7168]⟩
abbrev S1024x1 : Shape := ⟨2, ![1024, 1]⟩
abbrev S896x768 : Shape := ⟨2, ![896, 768]⟩
abbrev S56x768 : Shape := ⟨2, ![56, 768]⟩
abbrev S1x768 : Shape := ⟨2, ![1, 768]⟩
abbrev S1024x128 : Shape := ⟨2, ![1024, 128]⟩
abbrev S1024x1792 : Shape := ⟨2, ![1024, 1792]⟩
abbrev S1x2x1024x128 : Shape := ⟨4, ![1, 2, 1024, 128]⟩
abbrev S7168x768 : Shape := ⟨2, ![7168, 768]⟩
abbrev S16x768 : Shape := ⟨2, ![16, 768]⟩
abbrev S16x8x768 : Shape := ⟨3, ![16, 8, 768]⟩
abbrev S16x1x768 : Shape := ⟨3, ![16, 1, 768]⟩
abbrev S128x768 : Shape := ⟨2, ![128, 768]⟩
abbrev S1024x768 : Shape := ⟨2, ![1024, 768]⟩
abbrev S1 : Shape := ⟨1, ![1]⟩
abbrev S1x1x1024x128 : Shape := ⟨4, ![1, 1, 1024, 128]⟩

abbrev nBuf : Space → Nat
  | .hbm => 17
  | .vmem => 23
  | .smem => 2
  | _ => 0

abbrev bufTy : (tb : Table) → Fin (tcTables nBuf tb) → BufTy
  | .hbm, ⟨0, _⟩ => ⟨S6144x7168, .fp8e4m3⟩
  | .hbm, ⟨1, _⟩ => ⟨S6144x1, .f32⟩
  | .hbm, ⟨2, _⟩ => ⟨S896x2304, .i32⟩
  | .hbm, ⟨3, _⟩ => ⟨S56x2304, .fp8e4m3⟩
  | .hbm, ⟨4, _⟩ => ⟨S56x2304, .i8⟩
  | .hbm, ⟨5, _⟩ => ⟨S2304, .f32⟩
  | .hbm, ⟨6, _⟩ => ⟨S6144x64, .f32⟩
  | .hbm, ⟨7, _⟩ => ⟨S6144x64, .f32⟩
  | .hbm, ⟨8, _⟩ => ⟨S2, .f32⟩
  | .hbm, ⟨9, _⟩ => ⟨S2, .f32⟩
  | .hbm, ⟨10, _⟩ => ⟨S6144x128, .f32⟩
  | .hbm, ⟨11, _⟩ => ⟨S6144x64, .f32⟩
  | .hbm, ⟨12, _⟩ => ⟨S6144x128, .f32⟩
  | .hbm, ⟨13, _⟩ => ⟨S1x2304, .f32⟩
  | .hbm, ⟨14, _⟩ => ⟨S6144x1792, .bf16⟩
  | .hbm, ⟨15, _⟩ => ⟨S3x2x2048x128, .fp8e4m3⟩
  | .hbm, ⟨16, _⟩ => ⟨S3x2x2048x128, .fp8e4m3⟩
  | .local _ .vmem, ⟨0, _⟩ => ⟨S1024x7168, .fp8e4m3⟩
  | .local _ .vmem, ⟨1, _⟩ => ⟨S1024x7168, .fp8e4m3⟩
  | .local _ .vmem, ⟨2, _⟩ => ⟨S1024x1, .f32⟩
  | .local _ .vmem, ⟨3, _⟩ => ⟨S1024x1, .f32⟩
  | .local _ .vmem, ⟨4, _⟩ => ⟨S896x768, .i32⟩
  | .local _ .vmem, ⟨5, _⟩ => ⟨S896x768, .i32⟩
  | .local _ .vmem, ⟨6, _⟩ => ⟨S56x768, .fp8e4m3⟩
  | .local _ .vmem, ⟨7, _⟩ => ⟨S56x768, .fp8e4m3⟩
  | .local _ .vmem, ⟨8, _⟩ => ⟨S56x768, .i8⟩
  | .local _ .vmem, ⟨9, _⟩ => ⟨S56x768, .i8⟩
  | .local _ .vmem, ⟨10, _⟩ => ⟨S1x768, .f32⟩
  | .local _ .vmem, ⟨11, _⟩ => ⟨S1x768, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x1792, .bf16⟩
  | .local _ .vmem, ⟨17, _⟩ => ⟨S1024x1792, .bf16⟩
  | .local _ .vmem, ⟨18, _⟩ => ⟨S1x2x1024x128, .fp8e4m3⟩
  | .local _ .vmem, ⟨19, _⟩ => ⟨S1x2x1024x128, .fp8e4m3⟩
  | .local _ .vmem, ⟨20, _⟩ => ⟨S1x2x1024x128, .fp8e4m3⟩
  | .local _ .vmem, ⟨21, _⟩ => ⟨S1x2x1024x128, .fp8e4m3⟩
  | .local _ .vmem, ⟨22, _⟩ => ⟨S7168x768, .bf16⟩
  | .local _ .smem, ⟨0, _⟩ => ⟨S2, .f32⟩
  | .local _ .smem, ⟨1, _⟩ => ⟨S2, .f32⟩
  | _, _ => ⟨S6144x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![6, 3], ![false, false]⟩

def k0_cond1 (i : grid0.Coords) : BitVec 1 :=
  let arg1 : BitVec 32 := BitVec.ofNat 32 (i 1).val
  let c0_i32 : BitVec 32 := 0#32
  let v1807 : BitVec 1 := Scalar.cmpi .eq arg1 c0_i32
  let v1808 : BitVec 32 := Scalar.extui v1807
  let c0_i32_580 : BitVec 32 := 0#32
  let v1809 : BitVec 1 := Scalar.cmpi .ne v1808 c0_i32_580
  v1809

def k0_cond2 (i : grid0.Coords) : BitVec 1 :=
  let arg1 : BitVec 32 := BitVec.ofNat 32 (i 1).val
  let c1_i32 : BitVec 32 := 1#32
  let v1810 : BitVec 1 := Scalar.cmpi .eq arg1 c1_i32
  let v1811 : BitVec 32 := Scalar.extui v1810
  let c0_i32_581 : BitVec 32 := 0#32
  let v1812 : BitVec 1 := Scalar.cmpi .ne v1811 c0_i32_581
  v1812

def k0_cond3 (i : grid0.Coords) : BitVec 1 :=
  let arg1 : BitVec 32 := BitVec.ofNat 32 (i 1).val
  let c2_i32 : BitVec 32 := 2#32
  let v1813 : BitVec 1 := Scalar.cmpi .eq arg1 c2_i32
  let v1814 : BitVec 32 := Scalar.extui v1813
  let c0_i32_582 : BitVec 32 := 0#32
  let v1815 : BitVec 1 := Scalar.cmpi .ne v1814 c0_i32_582
  v1815

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x7168 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S896x768 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S56x768 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S56x768 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1792 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2x1024x128 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x2x1024x128 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== QkvRefIdeal.lean ====
abbrev S6144x7168 : Shape := ⟨2, ![6144, 7168]⟩
abbrev S6144x1 : Shape := ⟨2, ![6144, 1]⟩
abbrev S896x2304 : Shape := ⟨2, ![896, 2304]⟩
abbrev S56x2304 : Shape := ⟨2, ![56, 2304]⟩
abbrev S2304 : Shape := ⟨1, ![2304]⟩
abbrev S6144x64 : Shape := ⟨2, ![6144, 64]⟩
abbrev S2 : Shape := ⟨1, ![2]⟩
abbrev S1x2304 : Shape := ⟨2, ![1, 2304]⟩
abbrev S2x1 : Shape := ⟨2, ![2, 1]⟩
abbrev S6144x1792 : Shape := ⟨2, ![6144, 1792]⟩
abbrev S3x2x2048x128 : Shape := ⟨4, ![3, 2, 2048, 128]⟩
abbrev S896x8x2304 : Shape := ⟨3, ![896, 8, 2304]⟩
abbrev S896x1x2304 : Shape := ⟨3, ![896, 1, 2304]⟩
abbrev S7168x2304 : Shape := ⟨2, ![7168, 2304]⟩
abbrev S56x1x2304 : Shape := ⟨3, ![56, 1, 2304]⟩
abbrev S56x128x2304 : Shape := ⟨3, ![56, 128, 2304]⟩
abbrev S6144x2304 : Shape := ⟨2, ![6144, 2304]⟩
abbrev S6144x14x128 : Shape := ⟨3, ![6144, 14, 128]⟩
abbrev S6144x14x64 : Shape := ⟨3, ![6144, 14, 64]⟩
abbrev S6144x1x64 : Shape := ⟨3, ![6144, 1, 64]⟩
abbrev S6144x256 : Shape := ⟨2, ![6144, 256]⟩
abbrev S6144x2x128 : Shape := ⟨3, ![6144, 2, 128]⟩
abbrev S6144x2x64 : Shape := ⟨3, ![6144, 2, 64]⟩
abbrev S1x2x1 : Shape := ⟨3, ![1, 2, 1]⟩
abbrev S6144x1x128 : Shape := ⟨3, ![6144, 1, 128]⟩
abbrev S6144x128 : Shape := ⟨2, ![6144, 128]⟩
abbrev S3x2048x128 : Shape := ⟨3, ![3, 2048, 128]⟩
abbrev S3x1x2048x128 : Shape := ⟨4, ![3, 1, 2048, 128]⟩

abbrev nBuf : Space → Nat
  | .hbm => 16
  | .vmem => 13
  | .smem => 0
  | _ => 0

abbrev bufTy : (tb : Table) → Fin (tcTables nBuf tb) → BufTy
  | .hbm, ⟨0, _⟩ => ⟨S6144x7168, .fp8e4m3⟩
  | .hbm, ⟨1, _⟩ => ⟨S6144x1, .f32⟩
  | .hbm, ⟨2, _⟩ => ⟨S896x2304, .i32⟩
  | .hbm, ⟨3, _⟩ => ⟨S56x2304, .fp8e4m3⟩
  | .hbm, ⟨4, _⟩ => ⟨S56x2304, .i8⟩
  | .hbm, ⟨5, _⟩ => ⟨S2304, .f32⟩
  | .hbm, ⟨6, _⟩ => ⟨S6144x64, .f32⟩
  | .hbm, ⟨7, _⟩ => ⟨S6144x64, .f32⟩
  | .hbm, ⟨8, _⟩ => ⟨S2, .f32⟩
  | .hbm, ⟨9, _⟩ => ⟨S2, .f32⟩
  | .hbm, ⟨10, _⟩ => ⟨S1x2304, .f32⟩
  | .hbm, ⟨11, _⟩ => ⟨S2x1, .f32⟩
  | .hbm, ⟨12, _⟩ => ⟨S2x1, .f32⟩
  | .hbm, ⟨13, _⟩ => ⟨S6144x1792, .bf16⟩
  | .hbm, ⟨14, _⟩ => ⟨S3x2x2048x128, .fp8e4m3⟩
  | .hbm, ⟨15, _⟩ => ⟨S3x2x2048x128, .fp8e4m3⟩
  | .local _ .vmem, ⟨0, _⟩ => ⟨S6144x7168, .fp8e4m3⟩
  | .local _ .vmem, ⟨1, _⟩ => ⟨S6144x1, .f32⟩
  | .local _ .vmem, ⟨2, _⟩ => ⟨S896x2304, .i32⟩
  | .local _ .vmem, ⟨3, _⟩ => ⟨S56x2304, .fp8e4m3⟩
  | .local _ .vmem, ⟨4, _⟩ => ⟨S56x2304, .i8⟩
  | .local _ .vmem, ⟨5, _⟩ => ⟨S1x2304, .f32⟩
  | .local _ .vmem, ⟨6, _⟩ => ⟨S6144x64, .f32⟩
  | .local _ .vmem, ⟨7, _⟩ => ⟨S6144x64, .f32⟩
  | .local _ .vmem, ⟨8, _⟩ => ⟨S2x1, .f32⟩
  | .local _ .vmem, ⟨9, _⟩ => ⟨S2x1, .f32⟩
  | .local _ .vmem, ⟨10, _⟩ => ⟨S6144x1792, .bf16⟩
  | .local _ .vmem, ⟨11, _⟩ => ⟨S3x2x2048x128, .fp8e4m3⟩
  | .local _ .vmem, ⟨12, _⟩ => ⟨S3x2x2048x128, .fp8e4m3⟩
  | _, _ => ⟨S6144x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S6144x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S896x2304 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x2304 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S56x2304 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6144x1792 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x2x2048x128 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x2x2048x128 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.W4.lean ====
module

public import Idealize.ShloMosaic.Lib.Pointwise

@[expose] public section

set_option maxRecDepth 16384

noncomputable section

open Idealize.ShloMosaic

namespace W4

/-- The weight that word `w` packs at nibble `i` (least significant first), with zero point `z`
    and group scale `s`: `(nibble - z) * s` over the extended reals. -/
def weight (w : BitVec 32) (i : ℕ) (z : BitVec 8) (s : EReal) : EReal :=
  ((((w.toNat / 16 ^ i % 16 : ℕ) : ℝ) - (z.toNat : ℝ) : ℝ) : EReal) * s

/-- A 4-bit field with its top bit flipped, read signed, is the field read unsigned less 8. -/
theorem toInt_flip : ∀ v : BitVec 4, (v ^^^ 8#4).toInt = (v.toNat : ℤ) - 8 := by decide

/-- The kernel's field: flip every nibble's top bit, shift nibble `i` to the top of the word,
    shift it back arithmetically, keep four bits. -/
theorem field_eq (w : BitVec 32) (i : ℕ) (hi : i < 8) :
    BitVec.setWidth 4 (IntOp.shrsi ArithUnit.vector (IntOp.shli ArithUnit.vector
      (IntOp.xori w 2290649224#32) (IntOp.subi (28#32) (IntOp.muli (4#32) (BitVec.ofNat 32 i)))) 28#32)
    = (w.extractLsb' (4 * i) 4) ^^^ 8#4 := by
  have hc : ∀ k : Fin 4, ∀ i : Fin 8,
      (2290649224#32).getLsbD (4 * i.val + k.val) = (8#4).getLsbD k.val := by decide
  have hs : ∀ i : Fin 8, (IntOp.subi (28#32) (IntOp.muli (4#32) (BitVec.ofNat 32 i.val))).toNat
      = 28 - 4 * i.val := by decide
  have h1 := hs ⟨i, hi⟩
  simp only at h1
  unfold IntOp.shrsi IntOp.shli
  rw [h1, if_pos (show (28#32).toNat < 32 by decide), if_pos (by omega)]
  refine BitVec.eq_of_getLsbD_eq fun k hk => ?_
  have h2 := hc ⟨k, hk⟩ ⟨i, hi⟩
  simp only at h2
  rw [BitVec.getLsbD_setWidth, BitVec.sshiftRight_eq', BitVec.getLsbD_sshiftRight]
  rw [BitVec.shiftLeft_eq', h1, BitVec.getLsbD_xor, BitVec.getLsbD_extractLsb']
  have e : (28#32).toNat = 28 := rfl
  rw [e, if_pos (by omega), BitVec.getLsbD_shiftLeft, IntOp.xori, BitVec.getLsbD_xor]
  rw [show 28 + k - (28 - 4 * i) = 4 * i + k by omega, h2]
  simp only [hk, decide_true, Bool.true_and]
  rw [decide_eq_true (by omega : 28 + k < 32), decide_eq_false (by omega : ¬ 28 + k < 28 - 4 * i)]
  rw [decide_eq_false (by omega : ¬ 32 ≤ k)]
  simp

/-- The number a four-bit field of a word holds. -/
theorem toNat_field (w : BitVec 32) (i : ℕ) :
    (w.extractLsb' (4 * i) 4).toNat = w.toNat / 16 ^ i % 16 := by
  rw [BitVec.extractLsb'_toNat, Nat.shiftRight_eq_div_pow, pow_mul]
  rfl

/-- The kernel's weight: the field read signed, less the zero point less 8, times the scale. -/
theorem kernel_weight (w : BitVec 32) (i : ℕ) (hi : i < 8) (z : BitVec 8) (s : EReal) :
    ((FloatOps.sitofp (F := Ideal) FTy.bf16 (BitVec.setWidth 4 (IntOp.shrsi ArithUnit.vector
        (IntOp.shli ArithUnit.vector (IntOp.xori w 2290649224#32)
          (IntOp.subi (28#32) (IntOp.muli (4#32) (BitVec.ofNat 32 i)))) 28#32)) : EReal)
      - ((FloatOps.uitofp (F := Ideal) FTy.f32 z : EReal) - Ideal.ofBits FTy.f32 1090519040#32)) * s
    = weight w i z s := by
  rw [field_eq w i hi]
  have h8 : Ideal.ofBits FTy.f32 1090519040#32 = ((8 : ℝ) : EReal) := by
    simp [Ideal.ofBits, Ideal.ieee, -EReal.coe_mul]
    norm_num
  rw [h8]
  change ((((_ : BitVec 4).toInt : ℝ) : EReal) - (((z.toNat : ℝ) : EReal) - ((8 : ℝ) : EReal))) * s = _
  rw [toInt_flip, toNat_field, weight, ← EReal.coe_sub, ← EReal.coe_sub]
  congr 2
  generalize w.toNat / 16 ^ i % 16 = n
  push_cast
  ring

/-- The reference's weight: shift nibble `i` down, mask it, subtract the zero point as an integer,
    times the scale. -/
theorem ref_weight (w : BitVec 32) (i : ℕ) (hi : i < 8) (z : BitVec 8) (s : EReal) :
    (FloatOps.sitofp (F := Ideal) FTy.bf16 (IntOp.subi (IntOp.andi
        (IntOp.shrsi ArithUnit.vector w (IntOp.muli (4#32) (BitVec.ofNat 32 i))) 15#32)
        (BitVec.setWidth 32 z)) : EReal) * s
    = weight w i z s := by
  have hs : ∀ i : Fin 8, (IntOp.muli (4#32) (BitVec.ofNat 32 i.val)).toNat = 4 * i.val := by decide
  have h1 := hs ⟨i, hi⟩
  simp only at h1
  have hf : IntOp.andi (IntOp.shrsi ArithUnit.vector w (IntOp.muli (4#32) (BitVec.ofNat 32 i))) 15#32
      = (w.extractLsb' (4 * i) 4).setWidth 32 := by
    unfold IntOp.shrsi
    rw [h1, if_pos (by omega)]
    refine BitVec.eq_of_getLsbD_eq fun k hk => ?_
    rw [IntOp.andi, BitVec.getLsbD_and, BitVec.sshiftRight_eq', BitVec.getLsbD_sshiftRight,
      BitVec.getLsbD_setWidth, BitVec.getLsbD_extractLsb', h1]
    have hm : ∀ k : Fin 32, (15#32).getLsbD k.val = decide (k.val < 4) := by decide
    have h2 := hm ⟨k, hk⟩
    simp only at h2
    rw [h2, decide_eq_false (by omega : ¬ 32 ≤ k)]
    by_cases h4 : k < 4
    · rw [if_pos (by omega)]; simp [h4, hk]
    · simp [h4]
  rw [hf, weight]
  change (((BitVec.toInt _ : ℝ) : EReal)) * s = _
  congr 3
  have hx := (w.extractLsb' (4 * i) 4).isLt
  have hz := z.isLt
  have hi : (IntOp.subi ((w.extractLsb' (4 * i) 4).setWidth 32) (z.setWidth 32)).toInt
      = ((w.extractLsb' (4 * i) 4).toNat : ℤ) - z.toNat := by
    generalize w.extractLsb' (4 * i) 4 = v at hx ⊢
    rw [IntOp.subi, BitVec.toInt_sub, BitVec.toInt_setWidth, BitVec.toInt_setWidth]
    simp only [Int.bmod_def]
    omega
  rw [hi, toNat_field]
  generalize w.toNat / 16 ^ i % 16 = n
  push_cast
  rfl

/-- The weights of a packed matrix at row `k`, column `n`: eight rows to a word, one zero point and one
    scale to a group of 128 rows. -/
def weights {K R Q N : ℕ} (h8 : K = 8 * R) (hq : K = 128 * Q) (W : (⟨2, ![R, N]⟩ : Shape).Idx → BitVec 32)
    (Z : (⟨2, ![Q, N]⟩ : Shape).Idx → BitVec 8) (S : (⟨2, ![Q, N]⟩ : Shape).Idx → EReal) (k : Fin K) (n : Fin N) : EReal :=
  weight (W (ix2 ⟨k / 8, by omega⟩ n)) (k % 8) (Z (ix2 ⟨k / 128, by omega⟩ n)) (S (ix2 ⟨k / 128, by omega⟩ n))

/-- The packed linear layer at row `t`, column `n`: the row of `C` times the column of weights, times the
    row's scale, times the column's scale. -/
def linear {T K R Q N : ℕ} (h8 : K = 8 * R) (hq : K = 128 * Q) (C : (⟨2, ![T, K]⟩ : Shape).Idx → EReal)
    (D : (⟨2, ![T, 1]⟩ : Shape).Idx → EReal) (W : (⟨2, ![R, N]⟩ : Shape).Idx → BitVec 32)
    (S : (⟨2, ![Q, N]⟩ : Shape).Idx → EReal) (Z : (⟨2, ![Q, N]⟩ : Shape).Idx → BitVec 8)
    (E : (⟨2, ![1, N]⟩ : Shape).Idx → EReal) (t : Fin T) (n : Fin N) : EReal :=
  (∑ k : Fin K, C (ix2 t k) * weights h8 hq W Z S k n) * D (ix2 t 0) * E (ix2 0 n)

/-- A linear layer on a block of rows and a block of columns is the linear layer at the block's place. -/
theorem linear_block {T K R Q N T' N' : ℕ} (h8 : K = 8 * R) (hq : K = 128 * Q) {C : (⟨2, ![T, K]⟩ : Shape).Idx → EReal}
    {D : (⟨2, ![T, 1]⟩ : Shape).Idx → EReal} {W : (⟨2, ![R, N]⟩ : Shape).Idx → BitVec 32}
    {S : (⟨2, ![Q, N]⟩ : Shape).Idx → EReal} {Z : (⟨2, ![Q, N]⟩ : Shape).Idx → BitVec 8}
    {E : (⟨2, ![1, N]⟩ : Shape).Idx → EReal}
    {C' : (⟨2, ![T', K]⟩ : Shape).Idx → EReal}
    {D' : (⟨2, ![T', 1]⟩ : Shape).Idx → EReal} {W' : (⟨2, ![R, N']⟩ : Shape).Idx → BitVec 32}
    {S' : (⟨2, ![Q, N']⟩ : Shape).Idx → EReal} {Z' : (⟨2, ![Q, N']⟩ : Shape).Idx → BitVec 8}
    {E' : (⟨2, ![1, N']⟩ : Shape).Idx → EReal} {t : Fin T} {n : Fin N} {t' : Fin T'} {n' : Fin N'}
    (hC : ∀ k, C (ix2 t k) = C' (ix2 t' k)) (hD : D (ix2 t 0) = D' (ix2 t' 0))
    (hW : ∀ r, W (ix2 r n) = W' (ix2 r n')) (hS : ∀ q, S (ix2 q n) = S' (ix2 q n'))
    (hZ : ∀ q, Z (ix2 q n) = Z' (ix2 q n')) (hE : E (ix2 0 n) = E' (ix2 0 n')) :
    linear h8 hq C D W S Z E t n = linear h8 hq C' D' W' S' Z' E' t' n' := by
  unfold linear weights
  simp only [hC, hD, hW, hS, hZ, hE]

end W4
-- ==== Proof.Rows.lean ====
module

public import Idealize.ShloMosaic.Lib.Pipeline.ValueKit
public import Idealize.ShloMosaic.Lib.Pointwise
public import proofs.«01_k».proof.Proof.W4

@[expose] public section

set_option maxRecDepth 16384

noncomputable section

open Idealize.ShloMosaic

namespace W4

variable {K N : ℕ} {e : EltTy}

/-- The stores `L` into a `K × N` buffer leave `G` at rows below `a` of the columns below `H`, and
    at rows below `b` of the other columns. -/
def Filled (L : List (View.Piece (Elt Ideal) ⟨2, ![K, N]⟩ e)) (G : (⟨2, ![K, N]⟩ : Shape).Idx → Elt Ideal e)
    (H a b : ℕ) : Prop :=
  ∀ y : (⟨2, ![K, N]⟩ : Shape).Idx, ((y 1 : ℕ) < H ∧ (y 0 : ℕ) < a) ∨ (H ≤ (y 1 : ℕ) ∧ (y 0 : ℕ) < b) →
    View.canon (Val := Elt Ideal) L y = G y

/-- A rectangle of rank two lies inside its shape when each axis does. -/
theorem inb2 {A B o h : ℕ} (ho : o + h ≤ A) :
    ∀ i, ![o, 0] i + ![h, B] i ≤ (⟨2, ![A, B]⟩ : Shape).size i
  | ⟨0, _⟩ => ho
  | ⟨1, _⟩ => le_of_eq (Nat.zero_add B)

/-- Reading the whole of a rank-two shape reads every index where it is. -/
theorem idx_whole {A B : ℕ} (inb : ∀ i, ![0, 0] i + (⟨2, ![A, B]⟩ : Shape).size i ≤ (⟨2, ![A, B]⟩ : Shape).size i)
    (y : (⟨2, ![A, B]⟩ : Shape).Idx) :
    (Rect.unit (s := ⟨2, ![A, B]⟩) ![0, 0] (⟨2, ![A, B]⟩ : Shape).size inb).toLoadRect.idx y = y := by
  funext i
  refine Fin.ext ((ValueKit.rect_emb_unit_val _ _ inb y i).trans ?_)
  match i with
  | ⟨0, _⟩ => exact Nat.zero_add _
  | ⟨1, _⟩ => exact Nat.zero_add _

/-- Nothing stored, nothing claimed. -/
theorem Filled.nil (G : (⟨2, ![K, N]⟩ : Shape).Idx → Elt Ideal e) (H : ℕ) : Filled [] G H 0 0 := by
  intro y hy
  omega

/-- A store of a block of `G` is read back where it lies, and hides nothing elsewhere. -/
theorem canon_cons_of (L : List (View.Piece (Elt Ideal) ⟨2, ![K, N]⟩ e))
    (G : (⟨2, ![K, N]⟩ : Shape).Idx → Elt Ideal e) (off size : Fin 2 → ℕ)
    (inb : ∀ a, off a + size a ≤ (⟨2, ![K, N]⟩ : Shape).size a)
    (w : (Rect.unit (s := ⟨2, ![K, N]⟩) off size inb).shape.Idx → Elt Ideal e)
    (hw : ∀ x, w x = G ((Rect.unit (s := ⟨2, ![K, N]⟩) off size inb).emb x))
    (y : (⟨2, ![K, N]⟩ : Shape).Idx)
    (hy : (∀ a, off a ≤ (y a : ℕ) ∧ (y a : ℕ) < off a + size a) ∨ View.canon (Val := Elt Ideal) L y = G y) :
    View.canon (Val := Elt Ideal) (⟨Rect.unit (s := ⟨2, ![K, N]⟩) off size inb, w⟩ :: L) y = G y := by
  by_cases hm : y ∈ (Rect.unit (s := ⟨2, ![K, N]⟩) off size inb).set
  · obtain ⟨x, rfl⟩ := (Rect.unit (s := ⟨2, ![K, N]⟩) off size inb).exists_idx_of_mem hm
    exact (View.canon_cons_emb _ w L x).trans (hw x)
  · rw [View.canon_cons_of_not_mem _ _ hm]
    refine hy.resolve_left fun h => hm ?_
    mem_blk
    exact h

/-- The next block of rows below, among the left columns. -/
theorem Filled.left {L : List (View.Piece (Elt Ideal) ⟨2, ![K, N]⟩ e)}
    {G : (⟨2, ![K, N]⟩ : Shape).Idx → Elt Ideal e} {H a b a' h : ℕ} (ha : a' = a + h)
    {inb : ∀ i, ![a, 0] i + ![h, H] i ≤ (⟨2, ![K, N]⟩ : Shape).size i}
    {w : (Rect.unit (s := ⟨2, ![K, N]⟩) ![a, 0] ![h, H] inb).shape.Idx → Elt Ideal e}
    (hL : Filled L G H a b)
    (hw : ∀ x, w x = G ((Rect.unit (s := ⟨2, ![K, N]⟩) ![a, 0] ![h, H] inb).emb x)) :
    Filled (⟨Rect.unit (s := ⟨2, ![K, N]⟩) ![a, 0] ![h, H] inb, w⟩ :: L) G H a' b := by
  intro y hy
  refine canon_cons_of L G _ _ inb w hw y ?_
  by_cases hc : (y 1 : ℕ) < H ∧ a ≤ (y 0 : ℕ) ∧ (y 0 : ℕ) < a'
  · left
    intro i
    match i with
    | ⟨0, _⟩ => exact ⟨hc.2.1, ha ▸ hc.2.2⟩
    | ⟨1, _⟩ => exact ⟨Nat.zero_le _, by simpa using hc.1⟩
  · right
    exact hL y (by omega)

/-- The next block of rows below, among the right columns. -/
theorem Filled.right {L : List (View.Piece (Elt Ideal) ⟨2, ![K, N]⟩ e)}
    {G : (⟨2, ![K, N]⟩ : Shape).Idx → Elt Ideal e} {H a b b' h R : ℕ} (hb : b' = b + h) (hR : N = H + R)
    {inb : ∀ i, ![b, H] i + ![h, R] i ≤ (⟨2, ![K, N]⟩ : Shape).size i}
    {w : (Rect.unit (s := ⟨2, ![K, N]⟩) ![b, H] ![h, R] inb).shape.Idx → Elt Ideal e}
    (hL : Filled L G H a b)
    (hw : ∀ x, w x = G ((Rect.unit (s := ⟨2, ![K, N]⟩) ![b, H] ![h, R] inb).emb x)) :
    Filled (⟨Rect.unit (s := ⟨2, ![K, N]⟩) ![b, H] ![h, R] inb, w⟩ :: L) G H a b' := by
  intro y hy
  have hy1 : (y 1 : ℕ) < N := (y 1).isLt
  refine canon_cons_of L G _ _ inb w hw y ?_
  by_cases hc : H ≤ (y 1 : ℕ) ∧ b ≤ (y 0 : ℕ) ∧ (y 0 : ℕ) < b'
  · left
    intro i
    match i with
    | ⟨0, _⟩ => exact ⟨hc.2.1, hb ▸ hc.2.2⟩
    | ⟨1, _⟩ => exact ⟨hc.1, hR ▸ hy1⟩
  · right
    exact hL y (by omega)

/-- The weights of group `g`, read from the group's own sixteen word rows, its zero points and its scales,
    are the packed matrix's weights at rows `128 g` onwards. -/
theorem weight_of_group {K R Q N : ℕ} (h8 : K = 8 * R) (hq : K = 128 * Q) (X2 : (⟨2, ![R, N]⟩ : Shape).Idx → BitVec 32)
    (X4 : (⟨2, ![Q, N]⟩ : Shape).Idx → BitVec 8) (X3 : (⟨2, ![Q, N]⟩ : Shape).Idx → EReal) {a b g : ℕ}
    (ha : a = 128 * g) (hb : b = 16 * g)
    (ib : ∀ i, ![b, 0] i + ![16, N] i ≤ (⟨2, ![R, N]⟩ : Shape).size i)
    (ig : ∀ i, ![g, 0] i + ![1, N] i ≤ (⟨2, ![Q, N]⟩ : Shape).size i)
    (r : Fin 128) (j : Fin N) (k : Fin K) (n : Fin N) (hk : (k : ℕ) = a + r) (hn : n = j)
    {i2 : (Rect.unit (s := ⟨2, ![R, N]⟩) ![b, 0] ![16, N] ib).shape.Idx}
    {i4 : (Rect.unit (s := ⟨2, ![Q, N]⟩) ![g, 0] ![1, N] ig).shape.Idx}
    (h20 : (i2 0 : ℕ) = r / 8) (h21 : (i2 1 : ℕ) = j) (h41 : (i4 1 : ℕ) = j) :
    weight (X2 ((Rect.unit (s := ⟨2, ![R, N]⟩) ![b, 0] ![16, N] ib).idx i2)) (r % 8)
      (X4 ((Rect.unit (s := ⟨2, ![Q, N]⟩) ![g, 0] ![1, N] ig).idx i4))
      (X3 ((Rect.unit (s := ⟨2, ![Q, N]⟩) ![g, 0] ![1, N] ig).idx i4)) = weights h8 hq X2 X4 X3 k n := by
  subst hn
  have e2 : (Rect.unit (s := ⟨2, ![R, N]⟩) ![b, 0] ![16, N] ib).idx i2 = ix2 ⟨k / 8, by omega⟩ n := by
    funext i
    refine Fin.ext ((ValueKit.rect_emb_unit_val _ _ ib i2 i).trans ?_)
    match i with
    | ⟨0, _⟩ => show b + (i2 0 : ℕ) = k / 8; omega
    | ⟨1, _⟩ => show 0 + (i2 1 : ℕ) = n; omega
  have e4 : (Rect.unit (s := ⟨2, ![Q, N]⟩) ![g, 0] ![1, N] ig).idx i4 = ix2 ⟨k / 128, by omega⟩ n := by
    have h40 : (i4 0 : ℕ) < 1 := (i4 0).isLt
    funext i
    refine Fin.ext ((ValueKit.rect_emb_unit_val _ _ ig i4 i).trans ?_)
    match i with
    | ⟨0, _⟩ => show g + (i4 0 : ℕ) = k / 128; omega
    | ⟨1, _⟩ => show 0 + (i4 1 : ℕ) = n; omega
  unfold weights
  rw [e2, e4, show (r : ℕ) % 8 = k % 8 by omega]

end W4
-- ==== Proof.DownValue.lean ====
module

public import proofs.«01_k».proof.Proof.Gen.DownIdeal.Value
public import proofs.«01_k».proof.Proof.Gen.DownRefIdeal.Value
public import proofs.«01_k».proof.Proof.W4
public import proofs.«01_k».proof.Proof.Rows
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.DownIdeal.Value
open Cert.DownIdeal Cert.DownIdeal.Gen
variable (m : (ℓ : Loc nD τ sig) → Buf (Elt Ideal) ℓ)

/-- The block of each operand at grid point `t`: row block `t / 14`, column block `t % 14`. -/
theorem idx : ∀ t : Fin cfg0.N, win0_0.index t = ![t.val / 14, 0] ∧ win0_1.index t = ![t.val / 14, 0]
    ∧ win0_2.index t = ![0, t.val % 14] ∧ win0_3.index t = ![0, t.val % 14] ∧ win0_4.index t = ![0, t.val % 14]
    ∧ win0_5.index t = ![0, t.val % 14] ∧ win0_6.index t = ![t.val / 14, t.val % 14]
    ∧ win0_7.index t = ![t.val / 14, t.val % 14] ∧ t.val / 14 < 6 :=
  (by decide +kernel : ∀ t : Fin grid0.N, _)

/-- One group of the weight block, as the kernel stores it: row `r` of the group takes nibble `r % 8` of
    word row `r / 8`, and the group's one zero point and one scale. -/
theorem group_at (w : Vec Ideal S16x512 .i32) (z : Vec Ideal S1x512 .i8) (s : Vec Ideal S1x512 .fp8e4m3)
    (r : Fin 128) (j : Fin 512) :
    k0_pay2 (F := Ideal) w z s (ix2 r j)
      = W4.weight (w (ix2 ⟨r / 8, by omega⟩ j)) (r % 8) (z (ix2 0 j)) (s (ix2 0 j)) := by
  pointwise [k0_pay2]
  exact W4.kernel_weight _ _ (Nat.mod_lt _ (by decide)) _ _

/-- The weight block of a grid point: the packed block's own weights. -/
abbrev block (X2 : Vec Ideal S640x512 .i32) (X4 : Vec Ideal S40x512 .i8) (X3 : Vec Ideal S40x512 .fp8e4m3) :
    Vec Ideal S5120x512 .bf16 := fun y =>
  W4.weights (K := 5120) (R := 640) (Q := 40) (N := 512) rfl rfl X2 X4 X3 (y 0) (y 1)

/-- Storing group `g` at rows `128 g` onwards extends the filled part of the weight block by 128 rows. -/
theorem group_step (X2 : Vec Ideal S640x512 .i32) (X4 : Vec Ideal S40x512 .i8) (X3 : Vec Ideal S40x512 .fp8e4m3)
    {L : List (View.Piece (Elt Ideal) S5120x512 .bf16)} {a g : ℕ} (ha : a = 128 * g) (hg : g < 40)
    {ia : ∀ i, ![a, 0] i + ![128, 512] i ≤ S5120x512.size i}
    {w : (Rect.unit (s := S5120x512) ![a, 0] ![128, 512] ia).shape.Idx → Elt Ideal .bf16}
    (hL : W4.Filled L (block X2 X4 X3) 512 (128 * g) 0)
    (hw : w = k0_pay2 (F := Ideal) (View.ld X2 (Rect.unit ![16 * g, 0] ![16, 512] (W4.inb2 (by omega))))
      (View.ld X4 (Rect.unit ![g, 0] ![1, 512] (W4.inb2 (by omega))))
      (View.ld X3 (Rect.unit ![g, 0] ![1, 512] (W4.inb2 (by omega))))) :
    W4.Filled (⟨Rect.unit (s := S5120x512) ![a, 0] ![128, 512] ia, w⟩ :: L) (block X2 X4 X3) 512 (128 * (g + 1)) 0 := by
  subst ha
  refine W4.Filled.left (Nat.mul_succ _ _) hL fun x => ?_
  rw [hw]
  have e0 : ((Rect.unit (s := S5120x512) ![128 * g, 0] ![128, 512] ia).emb x 0 : ℕ) = 128 * g + x 0 :=
    ValueKit.rect_emb_unit_val _ _ ia x 0
  have e1 : ((Rect.unit (s := S5120x512) ![128 * g, 0] ![128, 512] ia).emb x 1 : ℕ) = 0 + x 1 :=
    ValueKit.rect_emb_unit_val _ _ ia x 1
  generalize (Rect.unit (s := S5120x512) ![128 * g, 0] ![128, 512] ia).emb x = z at e0 e1 ⊢
  idx_vars x
  idx_vars z
  exact (group_at _ _ _ _ _).trans
    (W4.weight_of_group rfl rfl X2 X4 X3 rfl rfl _ _ x0 x1 z0 z1 e0 (Fin.ext (by omega)) rfl rfl rfl)

/-- What the body stores over a weight block `W`: the carried rows plus the rescaled product. -/
theorem body_at (x0 : Vec Ideal S1024x5120 .fp8e4m3) (x1 : Vec Ideal S1024x1 .f32) (x5 : Vec Ideal S1x512 .f32)
    (x6 : Vec Ideal S1024x512 .f32) (W : Vec Ideal S5120x512 .bf16) (V : Fin 5120 → Fin 512 → EReal)
    (hW : ∀ k n, W (ix2 k n) = V k n) (r : Fin 1024) (j : Fin 512) :
    k0_pay1 (F := Ideal) x6 (k0_pay87 x0 W x1) x5 (ix2 r j)
      = x6 (ix2 r j) + (∑ k, x0 (ix2 r k) * V k j) * x1 (ix2 r 0) * x5 (ix2 0 j) := by
  pointwise [k0_pay1, k0_pay87]
  simp only [hW]

/-- What a grid point leaves in its output block: the carried rows plus the packed linear layer of its blocks. -/
theorem point (c : Dev nD) (t : Fin cfg0.N) (r : Fin 1024) (j : Fin 512) : outsAt0 m c t (ix2 r j)
    = (show Vec Ideal S1024x512 .f32 from iblk m c 6 t) (ix2 r j)
      + W4.linear (K := 5120) (R := 640) (Q := 40) rfl rfl (iblk m c 0 t) (iblk m c 1 t) (iblk m c 2 t)
          (iblk m c 3 t) (iblk m c 4 t) (iblk m c 5 t) r j := by
  unfold outsAt0
  frame_open
  rw [View.readCov_eq_canon']
  frame_out
  refine body_at _ _ _ _ _ _ (fun k n => ?_) r j
  have hF := fun L (hL : W4.Filled L (block (iblk m c 2 t) (iblk m c 4 t) (iblk m c 3 t)) 512 (128 * 40) 0) =>
    hL (ix2 k n) (Or.inl ⟨n.isLt, k.isLt⟩)
  refine Eq.trans (congrArg _ (W4.idx_whole _ _)) (hF _ ?_)
  iterate 40 refine group_step _ _ _ rfl (by decide) ?_ rfl
  exact W4.Filled.nil _ _

/-- The result array: the carried rows plus the packed linear layer, at every element. -/
def result (C : Vec Ideal S6144x5120 .fp8e4m3) (D : Vec Ideal S6144x1 .f32) (W : Vec Ideal S640x7168 .i32)
    (S : Vec Ideal S40x7168 .fp8e4m3) (Z : Vec Ideal S40x7168 .i8) (E : Vec Ideal S1x7168 .f32)
    (H : Vec Ideal S6144x7168 .f32) : Vec Ideal S6144x7168 .bf16 := fun i =>
  (H i + W4.linear (K := 5120) (R := 640) (Q := 40) rfl rfl C D W S Z E (i 0) (i 1) : EReal)

/-- The kernel's result array after the run, as a function of its argument arrays. -/
theorem final (c : Dev nD) : (dats m 0 c).arrAt 7 (cfgs 0).N
    = result (m ((c : Thread nD τ).loc main_arg0)) (m ((c : Thread nD τ).loc main_arg1))
        (m ((c : Thread nD τ).loc main_arg2)) (m ((c : Thread nD τ).loc main_arg3))
        (m ((c : Thread nD τ).loc main_arg4)) (V m c main_v0)
        (m ((c : Thread nD τ).loc main_arg6)) := by
  refine (dats m 0 c).arrAt_eq_of_covers 7 _ (by decide +kernel) fun t _ y => ?_
  blk_simp
  rw [after0_7]
  have hc : t.val / 14 < 6 := (idx t).2.2.2.2.2.2.2.2
  have e0 : (((cfg0.win 7).blk t).view.emb y 0 : ℕ) = t.val / 14 * 1024 + y 0 := by blk_simp [idx t]
  have e1 : (((cfg0.win 7).blk t).view.emb y 1 : ℕ) = t.val % 14 * 512 + y 1 := by blk_simp [idx t]
  idx_vars y
  rw [point m c t y0 y1]
  unfold result
  refine Ideal.add_congr ?_ (W4.linear_block rfl rfl (fun k => ?_) ?_ (fun k => ?_) (fun k => ?_) (fun k => ?_) ?_)
  all_goals blk_ext [iblk, V, idx t]
end Cert.DownIdeal.Value

namespace Cert.DownRefIdeal.Value
open Cert.DownRefIdeal Cert.DownRefIdeal.Gen
variable (m : (ℓ : Loc nD τ sig) → Buf (Elt Ideal) ℓ)

/-- The reference's one grid point reads every operand whole. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The reference's result, read at an element. -/
theorem pay_eq (x0 : Vec Ideal S6144x5120 .fp8e4m3) (x1 : Vec Ideal S6144x1 .f32) (x2 : Vec Ideal S640x7168 .i32)
    (x3 : Vec Ideal S40x7168 .fp8e4m3) (x5 : Vec Ideal S1x7168 .f32) (x4 : Vec Ideal S40x7168 .i8)
    (x6 : Vec Ideal S6144x7168 .f32) :
    k0_pay1 (F := Ideal) x0 x1 x2 x3 x5 x4 x6 = Cert.DownIdeal.Value.result x0 x1 x2 x3 x4 x5 x6 := by
  funext y
  idx_vars y
  unfold Cert.DownIdeal.Value.result W4.linear W4.weights
  pointwise [k0_pay1]
  simp only [W4.ref_weight _ _ (Nat.mod_lt _ (by decide : 0 < 8)) _ _]

/-- The reference's result array after the run, as the same function of its argument arrays. -/
theorem final (c : Dev nD) : (dats m 0 c).arrAt 7 (cfgs 0).N
    = Cert.DownIdeal.Value.result (m ((c : Thread nD τ).loc main_arg0)) (m ((c : Thread nD τ).loc main_arg1))
        (m ((c : Thread nD τ).loc main_arg2)) (m ((c : Thread nD τ).loc main_arg3))
        (m ((c : Thread nD τ).loc main_arg4)) (V m c main_v0)
        (m ((c : Thread nD τ).loc main_arg6)) := by
  refine (dats m 0 c).arrAt_eq_of_after_last 7 t0_0 (by decide +kernel) _ fun j => ?_
  blk_simp
  rw [after0_7]
  frame_out
  rw [pay_eq]
  have h0 : iblk m c 0 t0_0 = m ((c : Thread nD τ).loc main_arg0) := by blk_ext! [iblk, V, idx t0_0]
  have h1 : iblk m c 1 t0_0 = m ((c : Thread nD τ).loc main_arg1) := by blk_ext! [iblk, V, idx t0_0]
  have h2 : iblk m c 2 t0_0 = m ((c : Thread nD τ).loc main_arg2) := by blk_ext! [iblk, V, idx t0_0]
  have h3 : iblk m c 3 t0_0 = m ((c : Thread nD τ).loc main_arg3) := by blk_ext! [iblk, V, idx t0_0]
  have h4 : iblk m c 4 t0_0 = m ((c : Thread nD τ).loc main_arg4) := by blk_ext! [iblk, V, idx t0_0]
  have h5 : iblk m c 5 t0_0 = V m c main_v0 := by blk_ext! [iblk, idx t0_0]
  have h6 : iblk m c 6 t0_0 = m ((c : Thread nD τ).loc main_arg6) := by blk_ext! [iblk, V, idx t0_0]
  rw [h0, h1, h2, h3, h4, h5, h6]
end Cert.DownRefIdeal.Value
-- ==== Proof.GuFrame.lean ====
module

public import proofs.«01_k».proof.Proof.Gen.Gu.Skeleton
public import proofs.«01_k».proof.Proof.Gen.Gu.Launch
public import proofs.«01_k».proof.Proof.Gen.Gu.Points
public import proofs.«01_k».proof.Proof.Gen.Gu.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Gu.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Gu Cert.Gu.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame from any run whose inputs end unchanged. -/
theorem forget_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 3 rfl).trans ((hA c 3).trans (V_main_arg2 m c)),
      (Pipeline.RDat.FramePost.arr_in h c 5 rfl).trans ((hA c 5).trans (V_main_arg3 m c)),
      (Pipeline.RDat.FramePost.arr_in h c 7 rfl).trans ((hA c 7).trans (V_main_arg4 m c)),
      ((h c).2 main_arg5 (Pipeline.mem_restRefs_of main_arg5 (by decide) (by decide))).trans (V_main_arg5 m c)⟩) h

/-- The condition under which the body finishes a block of rows. -/
abbrev cond0_0 (i : grid0.Coords) : Prop := k0_cond1 i = 1#1
/-- It holds at the last column tile of each block of rows. -/
theorem hcond0_0 : ∀ t : Fin cfg0.N, cond0_0 (grid0.coords t) ↔ t.val % 20 = 19 :=
  (fun t => by
    have ht : t.val < 240 := Nat.lt_of_lt_of_eq t.isLt N_0
    have e0 : (grid0.coords t 0).val = t.val / 20 % 12 := Pipeline.Grid.coords_val t 0 (by decide) rfl
    have e1 : (grid0.coords t 1).val = t.val / 1 % 20 := Pipeline.Grid.coords_val t 1 (by decide) rfl
    simp only [cond0_0, k0_cond1, e0, e1]
    word_cmp
   : ∀ t : Fin grid0.N, cond0_0 (grid0.coords t) ↔ t.val % 20 = 19)

/-- Window 0 is in use at every point. -/
theorem liveAt0_0 : ∀ t : Fin cfg0.N, cfg0.idle 0 (grid0.coords t) = false := fun _ => rfl
/-- Window 1 is in use at every point. -/
theorem liveAt0_1 : ∀ t : Fin cfg0.N, cfg0.idle 1 (grid0.coords t) = false := fun _ => rfl
/-- Window 2 is in use at every point. -/
theorem liveAt0_2 : ∀ t : Fin cfg0.N, cfg0.idle 2 (grid0.coords t) = false := fun _ => rfl
/-- Window 3 is in use at every point. -/
theorem liveAt0_3 : ∀ t : Fin cfg0.N, cfg0.idle 3 (grid0.coords t) = false := fun _ => rfl
/-- Window 4 is in use at every point. -/
theorem liveAt0_4 : ∀ t : Fin cfg0.N, cfg0.idle 4 (grid0.coords t) = false := fun _ => rfl
/-- Window 5 is in use at every point. -/
theorem liveAt0_5 : ∀ t : Fin cfg0.N, cfg0.idle 5 (grid0.coords t) = false := fun _ => rfl
/-- Window 6 is in use at every point. -/
theorem liveAt0_6 : ∀ t : Fin cfg0.N, cfg0.idle 6 (grid0.coords t) = false := fun _ => rfl
/-- Window 7 is in use at every point. -/
theorem liveAt0_7 : ∀ t : Fin cfg0.N, cfg0.idle 7 (grid0.coords t) = false := fun _ => rfl
/-- Window 8 is in use at every point. -/
theorem liveAt0_8 : ∀ t : Fin cfg0.N, cfg0.idle 8 (grid0.coords t) = false := fun _ => rfl
/-- Window 9 is in use at every point. -/
theorem liveAt0_9 : ∀ t : Fin cfg0.N, cfg0.idle 9 (grid0.coords t) = false := fun _ => rfl

/-- The buffer window 0 uses at a point, -/
abbrev ms0_0 (t : Fin cfg0.N) : Memref sig .tc .vmem S512x7168 .fp8e4m3 := win0_0.stage (cfg0.slots t 0)
/-- which is a whole buffer. -/
abbrev hs0_0 (t : Fin cfg0.N) : (ms0_0 t).IsWhole := hstage0_0 ((cfg0.slots t 0).cast nbuf0_0)
/-- The buffer window 1 uses at a point, -/
abbrev ms0_1 (t : Fin cfg0.N) : Memref sig .tc .vmem S512x1 .f32 := win0_1.stage (cfg0.slots t 1)
/-- which is a whole buffer. -/
abbrev hs0_1 (t : Fin cfg0.N) : (ms0_1 t).IsWhole := hstage0_1 ((cfg0.slots t 1).cast nbuf0_1)
/-- The buffer window 2 uses at a point, -/
abbrev ms0_2 (t : Fin cfg0.N) : Memref sig .tc .vmem S896x256 .i32 := win0_2.stage (cfg0.slots t 2)
/-- which is a whole buffer. -/
abbrev hs0_2 (t : Fin cfg0.N) : (ms0_2 t).IsWhole := hstage0_2 ((cfg0.slots t 2).cast nbuf0_2)
/-- The buffer window 3 uses at a point, -/
abbrev ms0_3 (t : Fin cfg0.N) : Memref sig .tc .vmem S896x256 .i32 := win0_3.stage (cfg0.slots t 3)
/-- which is a whole buffer. -/
abbrev hs0_3 (t : Fin cfg0.N) : (ms0_3 t).IsWhole := hstage0_3 ((cfg0.slots t 3).cast nbuf0_3)
/-- The buffer window 4 uses at a point, -/
abbrev ms0_4 (t : Fin cfg0.N) : Memref sig .tc .vmem S56x256 .fp8e4m3 := win0_4.stage (cfg0.slots t 4)
/-- which is a whole buffer. -/
abbrev hs0_4 (t : Fin cfg0.N) : (ms0_4 t).IsWhole := hstage0_4 ((cfg0.slots t 4).cast nbuf0_4)
/-- The buffer window 5 uses at a point, -/
abbrev ms0_5 (t : Fin cfg0.N) : Memref sig .tc .vmem S56x256 .fp8e4m3 := win0_5.stage (cfg0.slots t 5)
/-- which is a whole buffer. -/
abbrev hs0_5 (t : Fin cfg0.N) : (ms0_5 t).IsWhole := hstage0_5 ((cfg0.slots t 5).cast nbuf0_5)
/-- The buffer window 6 uses at a point, -/
abbrev ms0_6 (t : Fin cfg0.N) : Memref sig .tc .vmem S56x256 .i8 := win0_6.stage (cfg0.slots t 6)
/-- which is a whole buffer. -/
abbrev hs0_6 (t : Fin cfg0.N) : (ms0_6 t).IsWhole := hstage0_6 ((cfg0.slots t 6).cast nbuf0_6)
/-- The buffer window 7 uses at a point, -/
abbrev ms0_7 (t : Fin cfg0.N) : Memref sig .tc .vmem S56x256 .i8 := win0_7.stage (cfg0.slots t 7)
/-- which is a whole buffer. -/
abbrev hs0_7 (t : Fin cfg0.N) : (ms0_7 t).IsWhole := hstage0_7 ((cfg0.slots t 7).cast nbuf0_7)
/-- The buffer window 8 uses at a point, -/
abbrev ms0_8 (t : Fin cfg0.N) : Memref sig .tc .vmem S1x256 .f32 := win0_8.stage (cfg0.slots t 8)
/-- which is a whole buffer. -/
abbrev hs0_8 (t : Fin cfg0.N) : (ms0_8 t).IsWhole := hstage0_8 ((cfg0.slots t 8).cast nbuf0_8)
/-- The buffer window 9 uses at a point, -/
abbrev ms0_9 (t : Fin cfg0.N) : Memref sig .tc .vmem S1x256 .f32 := win0_9.stage (cfg0.slots t 9)
/-- which is a whole buffer. -/
abbrev hs0_9 (t : Fin cfg0.N) : (ms0_9 t).IsWhole := hstage0_9 ((cfg0.slots t 9).cast nbuf0_9)
/-- The buffer window 10 uses at a point, -/
abbrev ms0_10 (t : Fin cfg0.N) : Memref sig .tc .vmem S512x5120 .fp8e4m3 := win0_10.stage (cfg0.slots t 10)
/-- which is a whole buffer. -/
abbrev hs0_10 (t : Fin cfg0.N) : (ms0_10 t).IsWhole := hstage0_10 ((cfg0.slots t 10).cast nbuf0_10)
/-- The buffer window 11 uses at a point, -/
abbrev ms0_11 (t : Fin cfg0.N) : Memref sig .tc .vmem S512x1 .f32 := win0_11.stage (cfg0.slots t 11)
/-- which is a whole buffer. -/
abbrev hs0_11 (t : Fin cfg0.N) : (ms0_11 t).IsWhole := hstage0_11 ((cfg0.slots t 11).cast nbuf0_11)
/-- Scratch buffer 0, whole. -/
abbrev scM0_0 : Memref sig .tc .vmem S7168x512 .bf16 := Memref.whole cc0_scratch0
/-- Scratch buffer 1, whole. -/
abbrev scM0_1 : Memref sig .tc .vmem S20x512x256 .f32 := Memref.whole cc0_scratch1

/-- What the body is lent besides its windows: the scratch buffers and the register of random bits. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl
set_option maxHeartbeats 3496000 in
/-- The body at a point that only adds its tile, run whole. -/
theorem run_A (c : Dev nD) (i : grid0.Coords) (arg2 : Memref sig .tc .vmem S512x7168 .fp8e4m3) (harg2 : arg2.IsWhole) (arg3 : Memref sig .tc .vmem S512x1 .f32) (harg3 : arg3.IsWhole) (arg4 : Memref sig .tc .vmem S896x256 .i32) (harg4 : arg4.IsWhole) (arg5 : Memref sig .tc .vmem S896x256 .i32) (harg5 : arg5.IsWhole) (arg6 : Memref sig .tc .vmem S56x256 .fp8e4m3) (harg6 : arg6.IsWhole) (arg7 : Memref sig .tc .vmem S56x256 .fp8e4m3) (harg7 : arg7.IsWhole) (arg8 : Memref sig .tc .vmem S56x256 .i8) (harg8 : arg8.IsWhole) (arg9 : Memref sig .tc .vmem S56x256 .i8) (harg9 : arg9.IsWhole) (arg10 : Memref sig .tc .vmem S1x256 .f32) (harg10 : arg10.IsWhole) (arg11 : Memref sig .tc .vmem S1x256 .f32) (harg11 : arg11.IsWhole) (arg12 : Memref sig .tc .vmem S512x5120 .fp8e4m3) (harg12 : arg12.IsWhole) (arg13 : Memref sig .tc .vmem S512x1 .f32) (harg13 : arg13.IsWhole) (arg14 : Memref sig .tc .vmem S7168x512 .bf16) (harg14 : arg14.IsWhole) (arg15 : Memref sig .tc .vmem S20x512x256 .f32) (harg15 : arg15.IsWhole) (hc0 : ¬cond0_0 i)
    (x0 : Vec F S512x7168 .fp8e4m3) (x1 : Vec F S512x1 .f32) (x2 : Vec F S896x256 .i32) (x3 : Vec F S896x256 .i32) (x4 : Vec F S56x256 .fp8e4m3) (x5 : Vec F S56x256 .fp8e4m3) (x6 : Vec F S56x256 .i8) (x7 : Vec F S56x256 .i8) (x8 : Vec F S1x256 .f32) (x9 : Vec F S1x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_gate_up_eq_skeleton]; unfold cc0_gate_up_skel
    simp only [k0_part96_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part97_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    iexists _, _; isplitr; swap; · iexact HS1
    ipureintro; rfl
set_option maxHeartbeats 3984000 in
/-- The body at the last point of a block of rows, run whole. -/
theorem run_B (c : Dev nD) (i : grid0.Coords) (arg2 : Memref sig .tc .vmem S512x7168 .fp8e4m3) (harg2 : arg2.IsWhole) (arg3 : Memref sig .tc .vmem S512x1 .f32) (harg3 : arg3.IsWhole) (arg4 : Memref sig .tc .vmem S896x256 .i32) (harg4 : arg4.IsWhole) (arg5 : Memref sig .tc .vmem S896x256 .i32) (harg5 : arg5.IsWhole) (arg6 : Memref sig .tc .vmem S56x256 .fp8e4m3) (harg6 : arg6.IsWhole) (arg7 : Memref sig .tc .vmem S56x256 .fp8e4m3) (harg7 : arg7.IsWhole) (arg8 : Memref sig .tc .vmem S56x256 .i8) (harg8 : arg8.IsWhole) (arg9 : Memref sig .tc .vmem S56x256 .i8) (harg9 : arg9.IsWhole) (arg10 : Memref sig .tc .vmem S1x256 .f32) (harg10 : arg10.IsWhole) (arg11 : Memref sig .tc .vmem S1x256 .f32) (harg11 : arg11.IsWhole) (arg12 : Memref sig .tc .vmem S512x5120 .fp8e4m3) (harg12 : arg12.IsWhole) (arg13 : Memref sig .tc .vmem S512x1 .f32) (harg13 : arg13.IsWhole) (arg14 : Memref sig .tc .vmem S7168x512 .bf16) (harg14 : arg14.IsWhole) (arg15 : Memref sig .tc .vmem S20x512x256 .f32) (harg15 : arg15.IsWhole) (hc0 : cond0_0 i)
    (x0 : Vec F S512x7168 .fp8e4m3) (x1 : Vec F S512x1 .f32) (x2 : Vec F S896x256 .i32) (x3 : Vec F S896x256 .i32) (x4 : Vec F S56x256 .fp8e4m3) (x5 : Vec F S56x256 .fp8e4m3) (x6 : Vec F S56x256 .i8) (x7 : Vec F S56x256 .i8) (x8 : Vec F S1x256 .f32) (x9 : Vec F S1x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_gate_up_eq_skeleton]; unfold cc0_gate_up_skel
    simp only [k0_part96_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part97_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    iexists _, _; isplitr; swap; · iexact HS1
    ipureintro; rfl

/-- The outputs, of whose contents this frame states nothing. -/
def forgets0 : Fin 12 → Bool := fun w => w.val == 10 || w.val == 11

/-- The proof data: the arrays as the region finds them, each input's buffer at its block, nothing said of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q w := Pipeline.shareOf spec0 w
  owed _ := 0

/-- The data's arrays are those the region finds. -/
theorem A_eq (c : Dev nD) (w : Fin cfg0.W) : (dats m 0 c).A w = V m c (Pipeline.arrRef spec0 w) := by
  dsimp only [dats]

/-- What window 0's buffer holds after the body at a point. -/
theorem after0_0 (c : Dev nD) (t : Fin cfg0.N) : (dats m 0 c).after 0 t = iblk m c 0 t := by dsimp only [dats]
/-- What window 1's buffer holds after the body at a point. -/
theorem after0_1 (c : Dev nD) (t : Fin cfg0.N) : (dats m 0 c).after 1 t = iblk m c 1 t := by dsimp only [dats]
/-- What window 2's buffer holds after the body at a point. -/
theorem after0_2 (c : Dev nD) (t : Fin cfg0.N) : (dats m 0 c).after 2 t = iblk m c 2 t := by dsimp only [dats]
/-- What window 3's buffer holds after the body at a point. -/
theorem after0_3 (c : Dev nD) (t : Fin cfg0.N) : (dats m 0 c).after 3 t = iblk m c 3 t := by dsimp only [dats]
/-- What window 4's buffer holds after the body at a point. -/
theorem after0_4 (c : Dev nD) (t : Fin cfg0.N) : (dats m 0 c).after 4 t = iblk m c 4 t := by dsimp only [dats]
/-- What window 5's buffer holds after the body at a point. -/
theorem after0_5 (c : Dev nD) (t : Fin cfg0.N) : (dats m 0 c).after 5 t = iblk m c 5 t := by dsimp only [dats]
/-- What window 6's buffer holds after the body at a point. -/
theorem after0_6 (c : Dev nD) (t : Fin cfg0.N) : (dats m 0 c).after 6 t = iblk m c 6 t := by dsimp only [dats]
/-- What window 7's buffer holds after the body at a point. -/
theorem after0_7 (c : Dev nD) (t : Fin cfg0.N) : (dats m 0 c).after 7 t = iblk m c 7 t := by dsimp only [dats]
/-- What window 8's buffer holds after the body at a point. -/
theorem after0_8 (c : Dev nD) (t : Fin cfg0.N) : (dats m 0 c).after 8 t = iblk m c 8 t := by dsimp only [dats]
/-- What window 9's buffer holds after the body at a point. -/
theorem after0_9 (c : Dev nD) (t : Fin cfg0.N) : (dats m 0 c).after 9 t = iblk m c 9 t := by dsimp only [dats]

/-- What window 0's buffer holds before the body at a point: its block. -/
theorem before0_0 (c : Dev nD) (t : Fin cfg0.N) (d) : (dats m 0 c).before 0 t d = iblk m c 0 t :=
  before0_0_of m (dats m 0 c) (A_eq m c 0) (after0_0 m c) t d
/-- What window 1's buffer holds before the body at a point: its block. -/
theorem before0_1 (c : Dev nD) (t : Fin cfg0.N) (d) : (dats m 0 c).before 1 t d = iblk m c 1 t :=
  before0_1_of m (dats m 0 c) (A_eq m c 1) (after0_1 m c) t d
/-- What window 2's buffer holds before the body at a point: its block. -/
theorem before0_2 (c : Dev nD) (t : Fin cfg0.N) (d) : (dats m 0 c).before 2 t d = iblk m c 2 t :=
  before0_2_of m (dats m 0 c) (A_eq m c 2) (after0_2 m c) t d
/-- What window 3's buffer holds before the body at a point: its block. -/
theorem before0_3 (c : Dev nD) (t : Fin cfg0.N) (d) : (dats m 0 c).before 3 t d = iblk m c 3 t :=
  before0_3_of m (dats m 0 c) (A_eq m c 3) (after0_3 m c) t d
/-- What window 4's buffer holds before the body at a point: its block. -/
theorem before0_4 (c : Dev nD) (t : Fin cfg0.N) (d) : (dats m 0 c).before 4 t d = iblk m c 4 t :=
  before0_4_of m (dats m 0 c) (A_eq m c 4) (after0_4 m c) t d
/-- What window 5's buffer holds before the body at a point: its block. -/
theorem before0_5 (c : Dev nD) (t : Fin cfg0.N) (d) : (dats m 0 c).before 5 t d = iblk m c 5 t :=
  before0_5_of m (dats m 0 c) (A_eq m c 5) (after0_5 m c) t d
/-- What window 6's buffer holds before the body at a point: its block. -/
theorem before0_6 (c : Dev nD) (t : Fin cfg0.N) (d) : (dats m 0 c).before 6 t d = iblk m c 6 t :=
  before0_6_of m (dats m 0 c) (A_eq m c 6) (after0_6 m c) t d
/-- What window 7's buffer holds before the body at a point: its block. -/
theorem before0_7 (c : Dev nD) (t : Fin cfg0.N) (d) : (dats m 0 c).before 7 t d = iblk m c 7 t :=
  before0_7_of m (dats m 0 c) (A_eq m c 7) (after0_7 m c) t d
/-- What window 8's buffer holds before the body at a point: its block. -/
theorem before0_8 (c : Dev nD) (t : Fin cfg0.N) (d) : (dats m 0 c).before 8 t d = iblk m c 8 t :=
  before0_8_of m (dats m 0 c) (A_eq m c 8) (after0_8 m c) t d
/-- What window 9's buffer holds before the body at a point: its block. -/
theorem before0_9 (c : Dev nD) (t : Fin cfg0.N) (d) : (dats m 0 c).before 9 t d = iblk m c 9 t :=
  before0_9_of m (dats m 0 c) (A_eq m c 9) (after0_9 m c) t d

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d)
    ∗ (∃ d, owns (c : Thread nD τ) (ms0_11 t) fullShare d))

set_option maxHeartbeats 2400000 in
/-- The body at any point: it takes its buffers and gives them back, the inputs unchanged. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 240 := lt_of_lt_of_eq t.isLt (show cfg0.N = 240 from N_0)
  by_cases h0 : t.val % 20 = 19
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((run_B c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((run_A c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl
set_option backward.isDefEq.respectTransparency.types false in
/-- Every execution ends with the inputs unchanged and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- Every execution ends with the inputs unchanged. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  forget_of m ρ (fun c => (dats m 0 c).toRForget forgets0) (A_eq m) (run_main m ρ)

/-- The frame: every execution ends, the arguments unchanged and every semaphore counter zero again. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Gu.Hand
-- ==== Proof.GuKit.lean ====
module

public import proofs.«01_k».proof.Proof.Gen.GuIdeal.Frame
public import proofs.«01_k».proof.Proof.Gen.GuIdeal.Skeleton

@[expose] public section

set_option maxRecDepth 16384

noncomputable section

namespace Cert.GuIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GuIdeal.Gen

variable {F : FTy → Type} [FloatOps F]

local notation "𝕄" => MT nD τ sig Unit (Elt F) ℕ (UR sig nD τ) ℕ

/-! ## The body's branch conditions -/

/-- The condition of the body's first branch, of the grid coordinates. -/
abbrev cond0_0 (i : grid0.Coords) : Prop := k0_cond1 i = 1#1
/-- It holds at the points ≡ 19 (mod 20) — by arithmetic of the point. -/
theorem hcond0_0 : ∀ t : Fin cfg0.N, cond0_0 (grid0.coords t) ↔ t.val % 20 = 19 :=
  (fun t => by
    have ht : t.val < 240 := Nat.lt_of_lt_of_eq t.isLt N_0
    have e0 : (grid0.coords t 0).val = t.val / 20 % 12 := Pipeline.Grid.coords_val t 0 (by decide) rfl
    have e1 : (grid0.coords t 1).val = t.val / 1 % 20 := Pipeline.Grid.coords_val t 1 (by decide) rfl
    simp only [cond0_0, k0_cond1, e0, e1]
    word_cmp
   : ∀ t : Fin grid0.N, cond0_0 (grid0.coords t) ↔ t.val % 20 = 19)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl

/-- Each window's current staging memref at point `t`, spelled as the pipeline passes it (`bodyAt0`), and its wholeness. -/
abbrev ms0_0 (t : Fin cfg0.N) : Memref sig .tc .vmem S512x7168 .fp8e4m3 := win0_0.stage (cfg0.slots t 0)
/-- which is a whole buffer. -/
abbrev hs0_0 (t : Fin cfg0.N) : (ms0_0 t).IsWhole := hstage0_0 ((cfg0.slots t 0).cast nbuf0_0)
/-- The buffer window 1 uses at a point, -/
abbrev ms0_1 (t : Fin cfg0.N) : Memref sig .tc .vmem S512x1 .f32 := win0_1.stage (cfg0.slots t 1)
/-- which is a whole buffer. -/
abbrev hs0_1 (t : Fin cfg0.N) : (ms0_1 t).IsWhole := hstage0_1 ((cfg0.slots t 1).cast nbuf0_1)
/-- The buffer window 2 uses at a point, -/
abbrev ms0_2 (t : Fin cfg0.N) : Memref sig .tc .vmem S896x256 .i32 := win0_2.stage (cfg0.slots t 2)
/-- which is a whole buffer. -/
abbrev hs0_2 (t : Fin cfg0.N) : (ms0_2 t).IsWhole := hstage0_2 ((cfg0.slots t 2).cast nbuf0_2)
/-- The buffer window 3 uses at a point, -/
abbrev ms0_3 (t : Fin cfg0.N) : Memref sig .tc .vmem S896x256 .i32 := win0_3.stage (cfg0.slots t 3)
/-- which is a whole buffer. -/
abbrev hs0_3 (t : Fin cfg0.N) : (ms0_3 t).IsWhole := hstage0_3 ((cfg0.slots t 3).cast nbuf0_3)
/-- The buffer window 4 uses at a point, -/
abbrev ms0_4 (t : Fin cfg0.N) : Memref sig .tc .vmem S56x256 .fp8e4m3 := win0_4.stage (cfg0.slots t 4)
/-- which is a whole buffer. -/
abbrev hs0_4 (t : Fin cfg0.N) : (ms0_4 t).IsWhole := hstage0_4 ((cfg0.slots t 4).cast nbuf0_4)
/-- The buffer window 5 uses at a point, -/
abbrev ms0_5 (t : Fin cfg0.N) : Memref sig .tc .vmem S56x256 .fp8e4m3 := win0_5.stage (cfg0.slots t 5)
/-- which is a whole buffer. -/
abbrev hs0_5 (t : Fin cfg0.N) : (ms0_5 t).IsWhole := hstage0_5 ((cfg0.slots t 5).cast nbuf0_5)
/-- The buffer window 6 uses at a point, -/
abbrev ms0_6 (t : Fin cfg0.N) : Memref sig .tc .vmem S56x256 .i8 := win0_6.stage (cfg0.slots t 6)
/-- which is a whole buffer. -/
abbrev hs0_6 (t : Fin cfg0.N) : (ms0_6 t).IsWhole := hstage0_6 ((cfg0.slots t 6).cast nbuf0_6)
/-- The buffer window 7 uses at a point, -/
abbrev ms0_7 (t : Fin cfg0.N) : Memref sig .tc .vmem S56x256 .i8 := win0_7.stage (cfg0.slots t 7)
/-- which is a whole buffer. -/
abbrev hs0_7 (t : Fin cfg0.N) : (ms0_7 t).IsWhole := hstage0_7 ((cfg0.slots t 7).cast nbuf0_7)
/-- The buffer window 8 uses at a point, -/
abbrev ms0_8 (t : Fin cfg0.N) : Memref sig .tc .vmem S1x256 .f32 := win0_8.stage (cfg0.slots t 8)
/-- which is a whole buffer. -/
abbrev hs0_8 (t : Fin cfg0.N) : (ms0_8 t).IsWhole := hstage0_8 ((cfg0.slots t 8).cast nbuf0_8)
/-- The buffer window 9 uses at a point, -/
abbrev ms0_9 (t : Fin cfg0.N) : Memref sig .tc .vmem S1x256 .f32 := win0_9.stage (cfg0.slots t 9)
/-- which is a whole buffer. -/
abbrev hs0_9 (t : Fin cfg0.N) : (ms0_9 t).IsWhole := hstage0_9 ((cfg0.slots t 9).cast nbuf0_9)
/-- The buffer window 10 uses at a point, -/
abbrev ms0_10 (t : Fin cfg0.N) : Memref sig .tc .vmem S512x5120 .fp8e4m3 := win0_10.stage (cfg0.slots t 10)
/-- which is a whole buffer. -/
abbrev hs0_10 (t : Fin cfg0.N) : (ms0_10 t).IsWhole := hstage0_10 ((cfg0.slots t 10).cast nbuf0_10)
/-- The buffer window 11 uses at a point, -/
abbrev ms0_11 (t : Fin cfg0.N) : Memref sig .tc .vmem S512x1 .f32 := win0_11.stage (cfg0.slots t 11)
/-- which is a whole buffer. -/
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S7168x512 .bf16 := Memref.whole cc0_scratch0
/-- Scratch buffer 1, whole. -/
abbrev scM0_1 : Memref sig .tc .vmem S20x512x256 .f32 := Memref.whole cc0_scratch1

/-- The region's invariant with the scratch operands owned at some contents: what the body is handed and gives back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- At the last of the 20 points of a block of rows the slice of `h_ref` written is slice 19. -/
theorem off1_last : ∀ t : Fin cfg0.N, t.val % 20 = 19 → k0_off1 (grid0.coords t) = ![19, 0, 0] := by
  decide +kernel

/-- Where output 10's window is idle (all but the last point of a block of rows). -/
theorem idleAt0_10 : ∀ t : Fin cfg0.N, ¬t.val % 20 = 19 → cfg0.idle 10 (grid0.coords t) = true := by decide +kernel
/-- Window 10 is not written back at the other points. -/
theorem noFlush0_10 : ∀ t : Fin cfg0.N, ¬t.val % 20 = 19 → (cfg0.win 10).flush t = false := by decide +kernel
/-- Window 10 is in use at the points that store it. -/
theorem liveAt0_10 : ∀ t : Fin cfg0.N, t.val % 20 = 19 → cfg0.idle 10 (grid0.coords t) = false := by decide +kernel
/-- Where output 11's window is idle (all but the last point of a block of rows). -/
theorem idleAt0_11 : ∀ t : Fin cfg0.N, ¬t.val % 20 = 19 → cfg0.idle 11 (grid0.coords t) = true := by decide +kernel
/-- Window 11 is not written back at the other points. -/
theorem noFlush0_11 : ∀ t : Fin cfg0.N, ¬t.val % 20 = 19 → (cfg0.win 11).flush t = false := by decide +kernel
/-- Window 11 is in use at the points that store it. -/
theorem liveAt0_11 : ∀ t : Fin cfg0.N, t.val % 20 = 19 → cfg0.idle 11 (grid0.coords t) = false := by decide +kernel

end Cert.GuIdeal.Hand

end
-- ==== Proof.GuRunA.lean ====
module

public import proofs.«01_k».proof.Proof.GuKit

@[expose] public section

set_option maxRecDepth 16384

noncomputable section

namespace Cert.GuIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GuIdeal.Gen

variable {F : FTy → Type} [FloatOps F]

local notation "𝕄" => MT nD τ sig Unit (Elt F) ℕ (UR sig nD τ) ℕ

set_option maxHeartbeats 8000000 in
/-- The body at a point that is not the last of its block of rows: from the inputs' blocks, `h_ref` at
    `xs1`, it leaves the inputs and both outputs' buffers as they were and `h_ref` at `xs1` with the
    list of pieces written over it. -/
noncomputable def run_A (c : Dev nD) (i : grid0.Coords) (arg2 : Memref sig .tc .vmem S512x7168 .fp8e4m3) (harg2 : arg2.IsWhole) (arg3 : Memref sig .tc .vmem S512x1 .f32) (harg3 : arg3.IsWhole) (arg4 : Memref sig .tc .vmem S896x256 .i32) (harg4 : arg4.IsWhole) (arg5 : Memref sig .tc .vmem S896x256 .i32) (harg5 : arg5.IsWhole) (arg6 : Memref sig .tc .vmem S56x256 .fp8e4m3) (harg6 : arg6.IsWhole) (arg7 : Memref sig .tc .vmem S56x256 .fp8e4m3) (harg7 : arg7.IsWhole) (arg8 : Memref sig .tc .vmem S56x256 .i8) (harg8 : arg8.IsWhole) (arg9 : Memref sig .tc .vmem S56x256 .i8) (harg9 : arg9.IsWhole) (arg10 : Memref sig .tc .vmem S1x256 .f32) (harg10 : arg10.IsWhole) (arg11 : Memref sig .tc .vmem S1x256 .f32) (harg11 : arg11.IsWhole) (arg12 : Memref sig .tc .vmem S512x5120 .fp8e4m3) (harg12 : arg12.IsWhole) (arg13 : Memref sig .tc .vmem S512x1 .f32) (harg13 : arg13.IsWhole) (arg14 : Memref sig .tc .vmem S7168x512 .bf16) (harg14 : arg14.IsWhole) (arg15 : Memref sig .tc .vmem S20x512x256 .f32) (harg15 : arg15.IsWhole) (hc0 : ¬cond0_0 i)
    (x0 : Vec F S512x7168 .fp8e4m3) (x1 : Vec F S512x1 .f32) (x2 : Vec F S896x256 .i32) (x3 : Vec F S896x256 .i32) (x4 : Vec F S56x256 .fp8e4m3) (x5 : Vec F S56x256 .fp8e4m3) (x6 : Vec F S56x256 .i8) (x7 : Vec F S56x256 .i8) (x8 : Vec F S1x256 .f32) (x9 : Vec F S1x256 .f32) (xs1 : Vec F S20x512x256 .f32) :
    { LS1 : List (View.Piece (Elt F) S20x512x256 .f32) //
      ∀ (xi10 : Vec F S512x5120 .fp8e4m3) (xi11 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ d, owns (c : Thread nD τ) arg14 fullShare d) ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ d, owns (c : Thread nD τ) arg14 fullShare d) ∗ (arg15.view.loc (c : Thread nD τ) ↦[arg15.view.set]{fullShare} arg15.view.writes (Elt F) (harg15.unread xs1) LS1)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun xi10 xi11 E K => ?run⟩
  case run =>
    simp only [cc0_gate_up_eq_skeleton]; unfold cc0_gate_up_skel
    simp only [k0_part96_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part97_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]
    · iexists _, _; isplitr; swap; · iexact HS0
      ipureintro; rfl
    iexact HS1

end Cert.GuIdeal.Hand

end
-- ==== Proof.GuRunB.lean ====
module

public import proofs.«01_k».proof.Proof.GuRunA

@[expose] public section

set_option maxRecDepth 16384

noncomputable section

namespace Cert.GuIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GuIdeal.Gen

variable {F : FTy → Type} [FloatOps F]

local notation "𝕄" => MT nD τ sig Unit (Elt F) ℕ (UR sig nD τ) ℕ

set_option maxHeartbeats 8000000 in
/-- The body at the last point of a block of rows: from the inputs' blocks, `h_ref` at `xs1`, it leaves
    the inputs as they were and the two outputs' buffers at the lists of pieces. -/
noncomputable def run_B (c : Dev nD) (i : grid0.Coords) (arg2 : Memref sig .tc .vmem S512x7168 .fp8e4m3) (harg2 : arg2.IsWhole) (arg3 : Memref sig .tc .vmem S512x1 .f32) (harg3 : arg3.IsWhole) (arg4 : Memref sig .tc .vmem S896x256 .i32) (harg4 : arg4.IsWhole) (arg5 : Memref sig .tc .vmem S896x256 .i32) (harg5 : arg5.IsWhole) (arg6 : Memref sig .tc .vmem S56x256 .fp8e4m3) (harg6 : arg6.IsWhole) (arg7 : Memref sig .tc .vmem S56x256 .fp8e4m3) (harg7 : arg7.IsWhole) (arg8 : Memref sig .tc .vmem S56x256 .i8) (harg8 : arg8.IsWhole) (arg9 : Memref sig .tc .vmem S56x256 .i8) (harg9 : arg9.IsWhole) (arg10 : Memref sig .tc .vmem S1x256 .f32) (harg10 : arg10.IsWhole) (arg11 : Memref sig .tc .vmem S1x256 .f32) (harg11 : arg11.IsWhole) (arg12 : Memref sig .tc .vmem S512x5120 .fp8e4m3) (harg12 : arg12.IsWhole) (arg13 : Memref sig .tc .vmem S512x1 .f32) (harg13 : arg13.IsWhole) (arg14 : Memref sig .tc .vmem S7168x512 .bf16) (harg14 : arg14.IsWhole) (arg15 : Memref sig .tc .vmem S20x512x256 .f32) (harg15 : arg15.IsWhole) (hc0 : cond0_0 i) (hl0 : k0_off1 i = ![19, 0, 0])
    (x0 : Vec F S512x7168 .fp8e4m3) (x1 : Vec F S512x1 .f32) (x2 : Vec F S896x256 .i32) (x3 : Vec F S896x256 .i32) (x4 : Vec F S56x256 .fp8e4m3) (x5 : Vec F S56x256 .fp8e4m3) (x6 : Vec F S56x256 .i8) (x7 : Vec F S56x256 .i8) (x8 : Vec F S1x256 .f32) (x9 : Vec F S1x256 .f32) (xs1 : Vec F S20x512x256 .f32) :
    Σ' (L10 : List (View.Piece (Elt F) S512x5120 .fp8e4m3)), Σ' (L11 : List (View.Piece (Elt F) S512x1 .f32)), { LS1 : List (View.Piece (Elt F) S20x512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ d, owns (c : Thread nD τ) arg14 fullShare d) ∗ (arg15.view.loc (c : Thread nD τ) ↦[arg15.view.set]{fullShare} arg15.view.writes (Elt F) (harg15.unread xs1) LS1)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    letI : ClosedOff (k0_off1 i) := ⟨![19, 0, 0], hl0⟩
    simp only [cc0_gate_up_eq_skeleton]; unfold cc0_gate_up_skel
    simp only [k0_part96_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part97_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg15.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]
    · iexists _, _; isplitr; swap; · iexact HS0
      ipureintro; rfl
    iexact HS1

end Cert.GuIdeal.Hand

end
-- ==== Proof.Quant.lean ====
module

public import proofs.«01_k».proof.Proof.Rows

@[expose] public section

set_option maxRecDepth 16384

noncomputable section

open Idealize.ShloMosaic

namespace W4

/-- The gated unit: `silu(g) * u`, with `silu(g) = g * logistic(g)`. -/
def glu (g u : EReal) : EReal := g * Ideal.logistic g * u

/-- The magnitude of an extended real, as the programs' operation reads over the extended reals. -/
abbrev mag (x : EReal) : EReal := FloatOps.absf (F := Ideal) (φ := .f32) x

/-- The largest magnitude of a row. -/
def rowmax {N : ℕ} (f : Fin N → EReal) : EReal :=
  Finset.univ.fold max (Ideal.ofBits FTy.f32 4286578688#32) fun k => mag (f k)

/-- The quantiser's scale from a row's largest magnitude: 1 for a row of zeros, else the magnitude over 448. -/
def scaleOf (a : EReal) : EReal := if a = 0 then 1 else Ideal.div a (Ideal.ofBits FTy.f32 1138753536#32)

/-- The quantiser's code: the value over the scale, clipped to ±448. -/
def codeOf (h s : EReal) : EReal :=
  min (Ideal.ofBits FTy.f32 1138753536#32) (max (Ideal.ofBits FTy.f32 3286237184#32) (Ideal.div h s))

/-- A row divided by the square root of its mean square (over 7168 elements, plus the small constant), times a gain. -/
def normed {N : ℕ} (x g : Fin N → EReal) (n : Fin N) : EReal :=
  Ideal.div (x n) (Ideal.sqrt (Ideal.div (∑ k, x k * x k) (Ideal.ofBits FTy.f32 1172307968#32)
    + Ideal.ofBits FTy.f32 925353388#32)) * g n

/-- `a` is the least upper bound of the magnitudes of the first `n` elements of `f`. -/
def Top {N : ℕ} (f : Fin N → EReal) (n : ℕ) (a : EReal) : Prop :=
  ∀ c, a ≤ c ↔ ∀ k : Fin N, (k : ℕ) < n → mag (f k) ≤ c

/-- The starting value of the maximum is below everything. -/
theorem init_le (c : EReal) : Ideal.ofBits FTy.f32 4286578688#32 ≤ c := by
  have h : Ideal.ofBits FTy.f32 4286578688#32 = ⊥ := by
    simp [Ideal.ofBits, Ideal.ieee]
  rw [h]
  exact bot_le

/-- The largest magnitude is at most a bound exactly when each is. -/
theorem rowmax_le {N : ℕ} (f : Fin N → EReal) (c : EReal) : rowmax f ≤ c ↔ ∀ k, mag (f k) ≤ c := by
  unfold rowmax
  rw [Finset.fold_max_le]
  exact ⟨fun h k => h.2 k (Finset.mem_univ k), fun h => ⟨init_le c, fun k _ => h k⟩⟩

/-- The maximum of the first block. -/
theorem Top.first {N L : ℕ} {f : Fin N → EReal} {g : Fin L → EReal} (hN : L ≤ N)
    (hg : ∀ (j : Fin L) (k : Fin N), (k : ℕ) = j → g j = f k) : Top f L (rowmax g) := by
  intro c
  rw [rowmax_le]
  constructor
  · intro h k hk
    rw [← hg ⟨k, hk⟩ k rfl]
    exact h _
  · intro h j
    rw [hg j ⟨j, by omega⟩ rfl]
    exact h _ j.isLt

/-- The running maximum, taken over one more block. -/
theorem Top.step {N L : ℕ} {f : Fin N → EReal} {g : Fin L → EReal} {a : EReal} {i : ℕ} (hN : L * (i + 1) ≤ N)
    (ha : Top f (L * i) a)
    (hg : ∀ (j : Fin L) (k : Fin N), (k : ℕ) = L * i + j → g j = f k) : Top f (L * (i + 1)) (max a (rowmax g)) := by
  intro c
  rw [max_le_iff, ha c, rowmax_le]
  have hL : L * (i + 1) = L * i + L := Nat.mul_succ _ _
  constructor
  · rintro ⟨h1, h2⟩ k hk
    by_cases hk' : (k : ℕ) < L * i
    · exact h1 k hk'
    · rw [← hg ⟨k - L * i, by omega⟩ k (by simp only; omega)]
      exact h2 _
  · intro h
    refine ⟨fun k hk => h k (by omega), fun j => ?_⟩
    rw [hg j ⟨L * i + j, by omega⟩ rfl]
    exact h _ (by simp only; omega)

/-- The maximum over all the blocks is the row's. -/
theorem Top.eq {N : ℕ} {f : Fin N → EReal} {a : EReal} (h : Top f N a) : a = rowmax f :=
  le_antisymm ((h _).mpr fun k _ => (rowmax_le f _).mp le_rfl k)
    ((rowmax_le f a).mpr fun k => (h a).mp le_rfl k k.isLt)

/-- The stores `L` into a `K × N` buffer leave `G` at the columns below `n`. -/
def Cols {K N : ℕ} {e : EltTy} (L : List (View.Piece (Elt Ideal) ⟨2, ![K, N]⟩ e))
    (G : (⟨2, ![K, N]⟩ : Shape).Idx → Elt Ideal e) (n : ℕ) : Prop :=
  ∀ y : (⟨2, ![K, N]⟩ : Shape).Idx, (y 1 : ℕ) < n → View.canon (Val := Elt Ideal) L y = G y

/-- Before any tile is stored no column is claimed. -/
theorem Cols.nil {K N : ℕ} {e : EltTy} (G : (⟨2, ![K, N]⟩ : Shape).Idx → Elt Ideal e) : Cols [] G 0 :=
  fun _ h => absurd h (Nat.not_lt_zero _)

/-- The next block of columns. -/
theorem Cols.step {K N : ℕ} {e : EltTy} {L : List (View.Piece (Elt Ideal) ⟨2, ![K, N]⟩ e)}
    {G : (⟨2, ![K, N]⟩ : Shape).Idx → Elt Ideal e} {n n' h : ℕ} (hn : n' = n + h)
    {inb : ∀ i, ![0, n] i + ![K, h] i ≤ (⟨2, ![K, N]⟩ : Shape).size i}
    {w : (Rect.unit (s := ⟨2, ![K, N]⟩) ![0, n] ![K, h] inb).shape.Idx → Elt Ideal e}
    (hL : Cols L G n)
    (hw : ∀ x, w x = G ((Rect.unit (s := ⟨2, ![K, N]⟩) ![0, n] ![K, h] inb).emb x)) :
    Cols (⟨Rect.unit (s := ⟨2, ![K, N]⟩) ![0, n] ![K, h] inb, w⟩ :: L) G n' := by
  intro y hy
  have hy0 : (y 0 : ℕ) < K := (y 0).isLt
  refine canon_cons_of L G _ _ inb w hw y ?_
  by_cases hc : n ≤ (y 1 : ℕ)
  · left
    intro i
    match i with
    | ⟨0, _⟩ => exact ⟨Nat.zero_le _, by simpa using hy0⟩
    | ⟨1, _⟩ => exact ⟨hc, hn ▸ hy⟩
  · right
    exact hL y (by omega)

end W4
-- ==== Proof.GuValue.lean ====
module

public import proofs.«01_k».proof.Proof.GuRunB
public import proofs.«01_k».proof.Proof.Quant
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
namespace Cert.GuIdeal.Hand
open Cert.GuIdeal Cert.GuIdeal.Gen

/-- One group of the weight block, as the kernel stores it: row `r` of the group takes nibble `r % 8` of
    word row `r / 8`, and the group's one zero point and one scale. -/
theorem group_at (w : Vec Ideal S16x256 .i32) (z : Vec Ideal S1x256 .i8) (s : Vec Ideal S1x256 .fp8e4m3)
    (r : Fin 128) (j : Fin 256) :
    k0_pay30 (F := Ideal) w z s (ix2 r j)
      = W4.weight (w (ix2 ⟨r / 8, by omega⟩ j)) (r % 8) (z (ix2 0 j)) (s (ix2 0 j)) := by
  pointwise [k0_pay30]
  exact W4.kernel_weight _ _ (Nat.mod_lt _ (by decide)) _ _

/-- The weight block of a grid point: the gate columns' weights on the left, the up columns' on the right. -/
def block (X2 X3 : Vec Ideal S896x256 .i32) (X4 X5 : Vec Ideal S56x256 .fp8e4m3) (X6 X7 : Vec Ideal S56x256 .i8) :
    Vec Ideal S7168x512 .bf16 := fun y =>
  if h : (y 1 : ℕ) < 256 then
    W4.weights (K := 7168) (R := 896) (Q := 56) (N := 256) rfl rfl X2 X6 X4 (y 0) ⟨y 1, h⟩
  else
    W4.weights (K := 7168) (R := 896) (Q := 56) (N := 256) rfl rfl X3 X7 X5 (y 0)
      ⟨y 1 - 256, by have : (y 1 : ℕ) < 512 := (y 1).isLt; omega⟩

section
variable {X2 X3 : Vec Ideal S896x256 .i32} {X4 X5 : Vec Ideal S56x256 .fp8e4m3} {X6 X7 : Vec Ideal S56x256 .i8}

/-- Storing gate group `g` extends the filled part of the left columns by 128 rows. -/
theorem group_left {L : List (View.Piece (Elt Ideal) S7168x512 .bf16)} {a b g : ℕ} (ha : a = 128 * g) (hg : g < 56)
    {ia : ∀ i, ![a, 0] i + ![128, 256] i ≤ S7168x512.size i}
    {w : (Rect.unit (s := S7168x512) ![a, 0] ![128, 256] ia).shape.Idx → Elt Ideal .bf16}
    (hL : W4.Filled L (block X2 X3 X4 X5 X6 X7) 256 (128 * g) b)
    (hw : w = k0_pay30 (F := Ideal) (View.ld X2 (Rect.unit ![16 * g, 0] ![16, 256] (W4.inb2 (by omega))))
      (View.ld X6 (Rect.unit ![g, 0] ![1, 256] (W4.inb2 (by omega))))
      (View.ld X4 (Rect.unit ![g, 0] ![1, 256] (W4.inb2 (by omega))))) :
    W4.Filled (⟨Rect.unit (s := S7168x512) ![a, 0] ![128, 256] ia, w⟩ :: L) (block X2 X3 X4 X5 X6 X7) 256
      (128 * (g + 1)) b := by
  subst ha
  refine W4.Filled.left (Nat.mul_succ _ _) hL fun x => ?_
  rw [hw]
  have e0 : ((Rect.unit (s := S7168x512) ![128 * g, 0] ![128, 256] ia).emb x 0 : ℕ) = 128 * g + x 0 :=
    ValueKit.rect_emb_unit_val _ _ ia x 0
  have e1 : ((Rect.unit (s := S7168x512) ![128 * g, 0] ![128, 256] ia).emb x 1 : ℕ) = 0 + x 1 :=
    ValueKit.rect_emb_unit_val _ _ ia x 1
  generalize (Rect.unit (s := S7168x512) ![128 * g, 0] ![128, 256] ia).emb x = z at e0 e1 ⊢
  idx_vars x
  idx_vars z
  have h1 : (z1 : ℕ) = 0 + x1 := e1
  have hx : (x1 : ℕ) < 256 := x1.isLt
  refine (group_at _ _ _ _ _).trans (Eq.trans ?_ (dif_pos (show (z1 : ℕ) < 256 by omega)).symm)
  exact W4.weight_of_group rfl rfl X2 X6 X4 rfl rfl _ _ x0 x1 z0 ⟨z1, by omega⟩ e0 (Fin.ext (by simp only; omega)) rfl rfl rfl

/-- Storing up group `g` extends the filled part of the right columns by 128 rows. -/
theorem group_right {L : List (View.Piece (Elt Ideal) S7168x512 .bf16)} {a b g : ℕ} (ha : a = 128 * g) (hg : g < 56)
    {ia : ∀ i, ![a, 256] i + ![128, 256] i ≤ S7168x512.size i}
    {w : (Rect.unit (s := S7168x512) ![a, 256] ![128, 256] ia).shape.Idx → Elt Ideal .bf16}
    (hL : W4.Filled L (block X2 X3 X4 X5 X6 X7) 256 b (128 * g))
    (hw : w = k0_pay30 (F := Ideal) (View.ld X3 (Rect.unit ![16 * g, 0] ![16, 256] (W4.inb2 (by omega))))
      (View.ld X7 (Rect.unit ![g, 0] ![1, 256] (W4.inb2 (by omega))))
      (View.ld X5 (Rect.unit ![g, 0] ![1, 256] (W4.inb2 (by omega))))) :
    W4.Filled (⟨Rect.unit (s := S7168x512) ![a, 256] ![128, 256] ia, w⟩ :: L) (block X2 X3 X4 X5 X6 X7) 256
      b (128 * (g + 1)) := by
  subst ha
  refine W4.Filled.right (Nat.mul_succ _ _) rfl hL fun x => ?_
  rw [hw]
  have e0 : ((Rect.unit (s := S7168x512) ![128 * g, 256] ![128, 256] ia).emb x 0 : ℕ) = 128 * g + x 0 :=
    ValueKit.rect_emb_unit_val _ _ ia x 0
  have e1 : ((Rect.unit (s := S7168x512) ![128 * g, 256] ![128, 256] ia).emb x 1 : ℕ) = 256 + x 1 :=
    ValueKit.rect_emb_unit_val _ _ ia x 1
  generalize (Rect.unit (s := S7168x512) ![128 * g, 256] ![128, 256] ia).emb x = z at e0 e1 ⊢
  idx_vars x
  idx_vars z
  have h1 : (z1 : ℕ) = 256 + x1 := e1
  have hx : (x1 : ℕ) < 256 := x1.isLt
  refine (group_at _ _ _ _ _).trans (Eq.trans ?_ (dif_neg (show ¬(z1 : ℕ) < 256 by omega)).symm)
  exact W4.weight_of_group rfl rfl X3 X7 X5 rfl rfl _ _ x0 x1 z0 ⟨z1 - 256, by omega⟩ e0 (Fin.ext (by simp only; omega)) rfl rfl rfl
end

/-- What the body stores to its slice of `h_ref` over a weight block `W`: the gated unit of the two rescaled products. -/
theorem body_at (x0 : Vec Ideal S512x7168 .fp8e4m3) (x1 : Vec Ideal S512x1 .f32) (x8 x9 : Vec Ideal S1x256 .f32)
    (W : Vec Ideal S7168x512 .bf16) (X2 X3 : Vec Ideal S896x256 .i32) (X4 X5 : Vec Ideal S56x256 .fp8e4m3)
    (X6 X7 : Vec Ideal S56x256 .i8) (hW : ∀ k n, W (ix2 k n) = block X2 X3 X4 X5 X6 X7 (ix2 k n))
    (u : Fin 1) (r : Fin 512) (j : Fin 256) :
    k0_pay1 (F := Ideal) (k0_pay271 (k0_pay270 x0) W x1 x8 x1 x9) (ix3 u r j)
      = W4.glu (W4.linear (K := 7168) (R := 896) (Q := 56) rfl rfl x0 x1 X2 X4 X6 x8 r j)
          (W4.linear (K := 7168) (R := 896) (Q := 56) rfl rfl x0 x1 X3 X5 X7 x9 r j) := by
  have hl : ∀ k (h : (j : ℕ) < 512), W (ix2 k ⟨j, h⟩)
      = W4.weights (K := 7168) (R := 896) (Q := 56) rfl rfl X2 X6 X4 k j := fun k h =>
    (hW _ _).trans (dif_pos j.isLt)
  have hr : ∀ k (h : 256 + (j : ℕ) < 512), W (ix2 k ⟨256 + j, h⟩)
      = W4.weights (K := 7168) (R := 896) (Q := 56) rfl rfl X3 X7 X5 k j := fun k h =>
    (hW _ _).trans ((dif_neg (by simp [ix2])).trans (congrArg _ (Fin.ext (by simp [ix2]))))
  pointwise [k0_pay1, k0_pay271, k0_pay270]
  simp only [hl, hr]
  rfl

end Cert.GuIdeal.Hand
-- ==== Proof.GuTile.lean ====
module

public import proofs.«01_k».proof.Proof.GuValue

@[expose] public section
set_option maxRecDepth 16384
noncomputable section
open Idealize.ShloMosaic Idealize.ShloMosaic.TcCoe Idealize.SL.Sem
namespace Cert.GuIdeal.Hand
open Cert.GuIdeal Cert.GuIdeal.Gen
variable (c : Dev nD) (i : grid0.Coords)
variable (arg2 : Memref sig .tc .vmem S512x7168 .fp8e4m3) (harg2 : arg2.IsWhole) (arg3 : Memref sig .tc .vmem S512x1 .f32) (harg3 : arg3.IsWhole) (arg4 : Memref sig .tc .vmem S896x256 .i32) (harg4 : arg4.IsWhole) (arg5 : Memref sig .tc .vmem S896x256 .i32) (harg5 : arg5.IsWhole) (arg6 : Memref sig .tc .vmem S56x256 .fp8e4m3) (harg6 : arg6.IsWhole) (arg7 : Memref sig .tc .vmem S56x256 .fp8e4m3) (harg7 : arg7.IsWhole) (arg8 : Memref sig .tc .vmem S56x256 .i8) (harg8 : arg8.IsWhole) (arg9 : Memref sig .tc .vmem S56x256 .i8) (harg9 : arg9.IsWhole) (arg10 : Memref sig .tc .vmem S1x256 .f32) (harg10 : arg10.IsWhole) (arg11 : Memref sig .tc .vmem S1x256 .f32) (harg11 : arg11.IsWhole) (arg12 : Memref sig .tc .vmem S512x5120 .fp8e4m3) (harg12 : arg12.IsWhole) (arg13 : Memref sig .tc .vmem S512x1 .f32) (harg13 : arg13.IsWhole) (arg14 : Memref sig .tc .vmem S7168x512 .bf16) (harg14 : arg14.IsWhole) (arg15 : Memref sig .tc .vmem S20x512x256 .f32) (harg15 : arg15.IsWhole)
variable (x0 : Vec Ideal S512x7168 .fp8e4m3) (x1 : Vec Ideal S512x1 .f32) (x2 x3 : Vec Ideal S896x256 .i32)
  (x4 x5 : Vec Ideal S56x256 .fp8e4m3) (x6 x7 : Vec Ideal S56x256 .i8) (x8 x9 : Vec Ideal S1x256 .f32)

/-- The weight block as the body reads it back. -/
theorem weights_A (k : Fin 7168) (n : Fin 512) :
    run_A.sl.v3586 (F := Ideal) c arg4 harg4 arg5 harg5 arg6 harg6 arg7 harg7 arg8 harg8 arg9 harg9 arg14 x2 x3 x4 x5 x6 x7 (ix2 k n)
      = block x2 x3 x4 x5 x6 x7 (ix2 k n) := by
  refine Eq.trans (b := block (arg4.view.read (Elt Ideal) (harg4.unread x2)) (arg5.view.read (Elt Ideal) (harg5.unread x3))
    (arg6.view.read (Elt Ideal) (harg6.unread x4)) (arg7.view.read (Elt Ideal) (harg7.unread x5))
    (arg8.view.read (Elt Ideal) (harg8.unread x6)) (arg9.view.read (Elt Ideal) (harg9.unread x7)) (ix2 k n)) ?_
    (by rw [harg4.read_unread, harg5.read_unread, harg6.read_unread, harg7.read_unread, harg8.read_unread, harg9.read_unread])
  unfold run_A.sl.v3586
  rw [View.readCov_eq_canon']
  have hF := fun L G (hL : W4.Filled (K := 7168) (N := 512) (e := .bf16) L G 256 (128 * 56) (128 * 56)) =>
    hL (ix2 k n) (by
      have hk : (k : ℕ) < 128 * 56 := k.isLt
      by_cases h : (n : ℕ) < 256
      · exact Or.inl ⟨h, hk⟩
      · exact Or.inr ⟨Nat.le_of_not_lt h, hk⟩)
  refine Eq.trans (congrArg _ (W4.idx_whole _ _)) (hF _ _ ?_)
  refine group_right rfl (by decide) ?_ rfl
  iterate 55 refine group_right rfl (by decide) ?_ rfl
  refine (?_ : W4.Filled (K := 7168) (N := 512) (e := .bf16) _ _ 256 (128 * 56) 0)
  iterate 56 refine group_left rfl (by decide) ?_ rfl
  exact W4.Filled.nil _ _

/-- The tile of `h` the body computes from its blocks, at an element. -/
abbrev tileAt (r : Fin 512) (j : Fin 256) : EReal :=
  W4.glu (W4.linear (K := 7168) (R := 896) (Q := 56) rfl rfl x0 x1 x2 x4 x6 x8 r j)
    (W4.linear (K := 7168) (R := 896) (Q := 56) rfl rfl x0 x1 x3 x5 x7 x9 r j)

/-- Reading the whole of a buffer holding `x` reads `x`. -/
theorem read_whole {A B : ℕ} {e : EltTy} (M : Memref sig .tc .vmem ⟨2, ![A, B]⟩ e) (hM : M.IsWhole)
    (x : Vec Ideal ⟨2, ![A, B]⟩ e) (inb) :
    View.readAt (Elt Ideal) M.view (Rect.unit (s := ⟨2, ![A, B]⟩) ![0, 0] (⟨2, ![A, B]⟩ : Shape).size inb).toLoadRect (hM.unread x) = x := by
  funext y
  exact (congrFun (hM.read_unread x) _).trans (congrArg x (W4.idx_whole inb y))

/-- What a point that is not the last of its block of rows stores to its slice of `h_ref`. -/
theorem tile_A (u : Fin 1) (r : Fin 512) (j : Fin 256) :
    k0_pay1 (F := Ideal) (run_A.sl.r_120 c arg2 harg2 arg3 harg3 arg4 harg4 arg5 harg5 arg6 harg6 arg7 harg7 arg8 harg8 arg9 harg9 arg10 harg10 arg11 harg11 arg14 x0 x1 x2 x3 x4 x5 x6 x7 x8 x9) (ix3 u r j) = tileAt x0 x1 x2 x3 x4 x5 x6 x7 x8 x9 r j := by
  unfold run_A.sl.r_120 run_A.sl.r_119
  rw [read_whole arg2 harg2, read_whole arg3 harg3, read_whole arg10 harg10, read_whole arg11 harg11]
  exact body_at _ _ _ _ _ _ _ _ _ _ _ (weights_A c arg4 harg4 arg5 harg5 arg6 harg6 arg7 harg7 arg8 harg8 arg9 harg9 arg14 x2 x3 x4 x5 x6 x7) u r j

/-- The last point computes its tile in the same way. -/
theorem same_tile : run_B.sl.r_120 (F := Ideal) c arg2 harg2 arg3 harg3 arg4 harg4 arg5 harg5 arg6 harg6 arg7 harg7 arg8 harg8 arg9 harg9 arg10 harg10 arg11 harg11 arg14 x0 x1 x2 x3 x4 x5 x6 x7 x8 x9 = run_A.sl.r_120 (F := Ideal) c arg2 harg2 arg3 harg3 arg4 harg4 arg5 harg5 arg6 harg6 arg7 harg7 arg8 harg8 arg9 harg9 arg10 harg10 arg11 harg11 arg14 x0 x1 x2 x3 x4 x5 x6 x7 x8 x9 := rfl

end Cert.GuIdeal.Hand
-- ==== Proof.GuLast.lean ====
module

public import proofs.«01_k».proof.Proof.GuTile

@[expose] public section
set_option maxRecDepth 16384
noncomputable section
open Idealize.ShloMosaic Idealize.ShloMosaic.TcCoe Idealize.SL.Sem
namespace Cert.GuIdeal.Hand
open Cert.GuIdeal Cert.GuIdeal.Gen

/-- `T` is columns `256 i` onwards of the rows `H`. -/
def Tile (H : Fin 512 → Fin 5120 → EReal) (i : ℕ) (T : Vec Ideal S1x512x256 .f32) : Prop :=
  ∀ (r : Fin 512) (j : Fin 256) (n : Fin 5120), (n : ℕ) = 256 * i + j → T (ix3 0 r j) = H r n

/-- The scale the last point computes from the twenty tiles of a row. -/
theorem scale_of {S0 S1 S2 S3 S4 S5 S6 S7 S8 S9 S10 S11 S12 S13 S14 S15 S16 S17 S18 S19 : Vec Ideal S1x512x256 .f32} {H : Fin 512 → Fin 5120 → EReal}
    (h0 : Tile H 0 S0) (h1 : Tile H 1 S1) (h2 : Tile H 2 S2) (h3 : Tile H 3 S3) (h4 : Tile H 4 S4) (h5 : Tile H 5 S5) (h6 : Tile H 6 S6) (h7 : Tile H 7 S7) (h8 : Tile H 8 S8) (h9 : Tile H 9 S9) (h10 : Tile H 10 S10) (h11 : Tile H 11 S11) (h12 : Tile H 12 S12) (h13 : Tile H 13 S13) (h14 : Tile H 14 S14) (h15 : Tile H 15 S15) (h16 : Tile H 16 S16) (h17 : Tile H 17 S17) (h18 : Tile H 18 S18) (h19 : Tile H 19 S19) (r : Fin 512) :
    k0_pay7 (F := Ideal) (k0_pay6 (k0_pay5 (k0_pay4 S0 S1 S2 S3 S4 S5) S6 S7 S8 S9 S10 S11) S12 S13 S14 S15 S16 S17) S18 S19 (ix2 r 0)
      = W4.scaleOf (W4.rowmax (H r)) := by
  have hT : ∀ a, W4.Top (H r) (256 * 20) a →
      (if a = 0 then (1 : EReal) else Ideal.div a (Ideal.ofBits FTy.f32 1138753536#32)) = W4.scaleOf (W4.rowmax (H r)) := by
    rintro a ha
    rw [ha.eq]
    rfl
  pointwise [k0_pay7, k0_pay6, k0_pay5, k0_pay4]
  refine hT _ ?_
  refine W4.Top.step (by decide) ?_ fun j n => h19 r j n
  refine W4.Top.step (by decide) ?_ fun j n => h18 r j n
  refine W4.Top.step (by decide) ?_ fun j n => h17 r j n
  refine W4.Top.step (by decide) ?_ fun j n => h16 r j n
  refine W4.Top.step (by decide) ?_ fun j n => h15 r j n
  refine W4.Top.step (by decide) ?_ fun j n => h14 r j n
  refine W4.Top.step (by decide) ?_ fun j n => h13 r j n
  refine W4.Top.step (by decide) ?_ fun j n => h12 r j n
  refine W4.Top.step (by decide) ?_ fun j n => h11 r j n
  refine W4.Top.step (by decide) ?_ fun j n => h10 r j n
  refine W4.Top.step (by decide) ?_ fun j n => h9 r j n
  refine W4.Top.step (by decide) ?_ fun j n => h8 r j n
  refine W4.Top.step (by decide) ?_ fun j n => h7 r j n
  refine W4.Top.step (by decide) ?_ fun j n => h6 r j n
  refine W4.Top.step (by decide) ?_ fun j n => h5 r j n
  refine W4.Top.step (by decide) ?_ fun j n => h4 r j n
  refine W4.Top.step (by decide) ?_ fun j n => h3 r j n
  refine W4.Top.step (by decide) ?_ fun j n => h2 r j n
  refine W4.Top.step (by decide) ?_ fun j n => h1 r j n
  exact W4.Top.first (by decide) fun j n hn => h0 r j n (by omega)

/-- The codes of a block of rows `H` with scales `σ`. -/
abbrev codes (H : Fin 512 → Fin 5120 → EReal) (σ : Fin 512 → EReal) : Vec Ideal S512x5120 .fp8e4m3 := fun y =>
  W4.codeOf (H (y 0) (y 1)) (σ (y 0))

/-- A code of the hidden tile at row `r` and column `j` of a block. -/
theorem code_at (s : Vec Ideal S512x1 .f32) (T : Vec Ideal S1x512x256 .f32) (r : Fin 512) (j : Fin 256) :
    k0_pay2 (F := Ideal) s T (ix2 r j) = W4.codeOf (T (ix3 0 r j)) (s (ix2 r 0)) := by
  pointwise [k0_pay2]
  rfl

/-- Storing the codes of tile `i` extends the stored columns by 256. -/
theorem code_step {H : Fin 512 → Fin 5120 → EReal} {σ : Fin 512 → EReal} {s : Vec Ideal S512x1 .f32}
    (hs : ∀ r, s (ix2 r 0) = σ r) {L : List (View.Piece (Elt Ideal) S512x5120 .fp8e4m3)} {T : Vec Ideal S1x512x256 .f32}
    {a i : ℕ} (ha : a = 256 * i)
    {ia : ∀ k, ![0, a] k + ![512, 256] k ≤ S512x5120.size k}
    {w : (Rect.unit (s := S512x5120) ![0, a] ![512, 256] ia).shape.Idx → Elt Ideal .fp8e4m3}
    (hw : w = k0_pay2 (F := Ideal) s T) (hT : Tile H i T) (hL : W4.Cols L (codes H σ) (256 * i)) :
    W4.Cols (⟨Rect.unit (s := S512x5120) ![0, a] ![512, 256] ia, w⟩ :: L) (codes H σ) (256 * (i + 1)) := by
  subst ha
  refine W4.Cols.step (Nat.mul_succ _ _) hL fun x => ?_
  rw [hw]
  have e0 : ((Rect.unit (s := S512x5120) ![0, 256 * i] ![512, 256] ia).emb x 0 : ℕ) = 0 + x 0 :=
    ValueKit.rect_emb_unit_val _ _ ia x 0
  have e1 : ((Rect.unit (s := S512x5120) ![0, 256 * i] ![512, 256] ia).emb x 1 : ℕ) = 256 * i + x 1 :=
    ValueKit.rect_emb_unit_val _ _ ia x 1
  generalize (Rect.unit (s := S512x5120) ![0, 256 * i] ![512, 256] ia).emb x = z at e0 e1 ⊢
  idx_vars x
  idx_vars z
  have e : z0 = x0 := Fin.ext (e0.trans (Nat.zero_add _))
  subst e
  refine (code_at _ _ _ _).trans ?_
  rw [hT z0 x1 z1 e1, hs]
  rfl

/-- What one store leaves at a rectangle whose offset is known by an equation. -/
theorem canon_at {s : Shape} {e : EltTy} {off off' size : Fin s.rank → ℕ} (h : off = off')
    (inb : ∀ a, off a + size a ≤ s.size a) (inb' : ∀ a, off' a + size a ≤ s.size a)
    (w : (Rect.unit off size inb).shape.Idx → Elt Ideal e) (x : (Rect.unit off size inb).shape.Idx) :
    View.canon (Val := Elt Ideal) [⟨Rect.unit off size inb, w⟩] ((Rect.unit off' size inb').toLoadRect.idx x) = w x := by
  subst h
  exact View.canon_cons_emb _ w [] x

variable (c : Dev nD) (i : grid0.Coords)
variable (arg2 : Memref sig .tc .vmem S512x7168 .fp8e4m3) (harg2 : arg2.IsWhole) (arg3 : Memref sig .tc .vmem S512x1 .f32) (harg3 : arg3.IsWhole) (arg4 : Memref sig .tc .vmem S896x256 .i32) (harg4 : arg4.IsWhole) (arg5 : Memref sig .tc .vmem S896x256 .i32) (harg5 : arg5.IsWhole) (arg6 : Memref sig .tc .vmem S56x256 .fp8e4m3) (harg6 : arg6.IsWhole) (arg7 : Memref sig .tc .vmem S56x256 .fp8e4m3) (harg7 : arg7.IsWhole) (arg8 : Memref sig .tc .vmem S56x256 .i8) (harg8 : arg8.IsWhole) (arg9 : Memref sig .tc .vmem S56x256 .i8) (harg9 : arg9.IsWhole) (arg10 : Memref sig .tc .vmem S1x256 .f32) (harg10 : arg10.IsWhole) (arg11 : Memref sig .tc .vmem S1x256 .f32) (harg11 : arg11.IsWhole) (arg12 : Memref sig .tc .vmem S512x5120 .fp8e4m3) (harg12 : arg12.IsWhole) (arg13 : Memref sig .tc .vmem S512x1 .f32) (harg13 : arg13.IsWhole) (arg14 : Memref sig .tc .vmem S7168x512 .bf16) (harg14 : arg14.IsWhole) (arg15 : Memref sig .tc .vmem S20x512x256 .f32) (harg15 : arg15.IsWhole)
variable (x0 : Vec Ideal S512x7168 .fp8e4m3) (x1 : Vec Ideal S512x1 .f32) (x2 x3 : Vec Ideal S896x256 .i32)
  (x4 x5 : Vec Ideal S56x256 .fp8e4m3) (x6 x7 : Vec Ideal S56x256 .i8) (x8 x9 : Vec Ideal S1x256 .f32)
  (xs1 : Vec Ideal S20x512x256 .f32)
  {H : Fin 512 → Fin 5120 → EReal}

/-- A slice of `h_ref` read back. -/
theorem read_tile
    (hx : ∀ (k : Fin 20) (r : Fin 512) (j : Fin 256) (n : Fin 5120), (k : ℕ) < 19 → (n : ℕ) = 256 * k + j →
      xs1 (ix3 k r j) = H r n)
    (k : ℕ) (hk : k < 19) (inb) :
    Tile H k (View.readAt (Elt Ideal) arg15.view (Rect.unit (s := S20x512x256) ![k, 0, 0] S1x512x256.size inb).toLoadRect (harg15.unread xs1)) := by
  intro r j n hn
  refine Eq.trans ?_ (hx ⟨k, by omega⟩ r j n hk hn)
  refine (congrFun (harg15.read_unread xs1) _).trans (congrArg xs1 ?_)
  funext a
  refine Fin.ext ((ValueKit.rect_emb_unit_val _ _ inb (ix3 0 r j) a).trans ?_)
  match a with
  | ⟨0, _⟩ => exact Nat.add_zero _
  | ⟨1, _⟩ => exact Nat.zero_add _
  | ⟨2, _⟩ => exact Nat.zero_add _

/-- The last point's own tile, read back from `h_ref`. -/
theorem last_tile (hl0 : k0_off1 i = ![19, 0, 0])
    (hx : ∀ (r : Fin 512) (j : Fin 256) (n : Fin 5120), (n : ℕ) = 256 * 19 + j →
      tileAt x0 x1 x2 x3 x4 x5 x6 x7 x8 x9 r j = H r n) : Tile H 19 (run_B.sl.v3727 (F := Ideal) c i arg2 harg2 arg3 harg3 arg4 harg4 arg5 harg5 arg6 harg6 arg7 harg7 arg8 harg8 arg9 harg9 arg10 harg10 arg11 harg11 arg14 arg15 x0 x1 x2 x3 x4 x5 x6 x7 x8 x9) := by
  intro r j n hn
  refine Eq.trans ?_ (hx r j n hn)
  rw [← tile_A c arg2 harg2 arg3 harg3 arg4 harg4 arg5 harg5 arg6 harg6 arg7 harg7 arg8 harg8 arg9 harg9 arg10 harg10 arg11 harg11 arg14 x0 x1 x2 x3 x4 x5 x6 x7 x8 x9 0 r j, ← same_tile]
  unfold run_B.sl.v3727 run_B.sl.HS1_1
  rw [View.readCov_eq_canon']
  exact canon_at hl0 _ _ _ _

section
variable (hx : ∀ (k : Fin 20) (r : Fin 512) (j : Fin 256) (n : Fin 5120), (k : ℕ) < 19 → (n : ℕ) = 256 * k + j →
    xs1 (ix3 k r j) = H r n)
  (hl0 : k0_off1 i = ![19, 0, 0])
  (hn : ∀ (r : Fin 512) (j : Fin 256) (n : Fin 5120), (n : ℕ) = 256 * 19 + j → tileAt x0 x1 x2 x3 x4 x5 x6 x7 x8 x9 r j = H r n)
include hx hl0 hn

/-- The last point's scales. -/
theorem last_scale (r : Fin 512) : run_B.sl.r_125 (F := Ideal) c i arg2 harg2 arg3 harg3 arg4 harg4 arg5 harg5 arg6 harg6 arg7 harg7 arg8 harg8 arg9 harg9 arg10 harg10 arg11 harg11 arg14 arg15 harg15 x0 x1 x2 x3 x4 x5 x6 x7 x8 x9 xs1 (ix2 r 0) = W4.scaleOf (W4.rowmax (H r)) := by
  refine scale_of ?_ ?_ ?_ ?_ ?_ ?_ ?_ ?_ ?_ ?_ ?_ ?_ ?_ ?_ ?_ ?_ ?_ ?_ ?_ (last_tile c i arg2 harg2 arg3 harg3 arg4 harg4 arg5 harg5 arg6 harg6 arg7 harg7 arg8 harg8 arg9 harg9 arg10 harg10 arg11 harg11 arg14 arg15 x0 x1 x2 x3 x4 x5 x6 x7 x8 x9 hl0 hn) r
  all_goals exact read_tile arg15 harg15 xs1 hx _ (by decide) _

/-- The codes the last point stores. -/
theorem last_codes (hc0 : cond0_0 i) :
    View.canon (run_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hl0 x0 x1 x2 x3 x4 x5 x6 x7 x8 x9 xs1).1 = codes H fun r => W4.scaleOf (W4.rowmax (H r)) := by
  have hs := last_scale c i arg2 harg2 arg3 harg3 arg4 harg4 arg5 harg5 arg6 harg6 arg7 harg7 arg8 harg8 arg9 harg9 arg10 harg10 arg11 harg11 arg14 arg15 harg15 x0 x1 x2 x3 x4 x5 x6 x7 x8 x9 xs1 hx hl0 hn
  have hC : W4.Cols (run_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hl0 x0 x1 x2 x3 x4 x5 x6 x7 x8 x9 xs1).1 (codes H fun r => W4.scaleOf (W4.rowmax (H r))) (256 * 20) := by
    unfold run_B
    refine code_step hs rfl rfl (last_tile c i arg2 harg2 arg3 harg3 arg4 harg4 arg5 harg5 arg6 harg6 arg7 harg7 arg8 harg8 arg9 harg9 arg10 harg10 arg11 harg11 arg14 arg15 x0 x1 x2 x3 x4 x5 x6 x7 x8 x9 hl0 hn) ?_
    iterate 19 refine code_step hs rfl rfl (read_tile arg15 harg15 xs1 hx _ (by decide) _) ?_
    exact W4.Cols.nil _
  exact funext fun y => hC y (show (y 1 : ℕ) < 5120 from (y 1).isLt)

/-- The scales the last point stores. -/
theorem last_scales (hc0 : cond0_0 i) :
    View.canon (run_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hl0 x0 x1 x2 x3 x4 x5 x6 x7 x8 x9 xs1).2.1 = fun y => W4.scaleOf (W4.rowmax (H (y 0))) := by
  funext y
  have hs := last_scale c i arg2 harg2 arg3 harg3 arg4 harg4 arg5 harg5 arg6 harg6 arg7 harg7 arg8 harg8 arg9 harg9 arg10 harg10 arg11 harg11 arg14 arg15 harg15 x0 x1 x2 x3 x4 x5 x6 x7 x8 x9 xs1 hx hl0 hn
  have e : (y 1 : ℕ) = 0 := by have h : (y 1 : ℕ) < 1 := (y 1).isLt; omega
  unfold run_B
  refine Eq.trans ?_ (hs (y 0))
  refine Eq.trans ?_ (View.canon_cons_emb (Rect.unit (s := S512x1) ![0, 0] ![512, 1] inb_S512x1_S512x1_0_0) _ [] (ix2 (y 0) 0))
  refine congrArg _ (funext fun a => Fin.ext (Eq.trans ?_ (ValueKit.rect_emb_unit_val _ _ _ _ a).symm))
  match a with
  | ⟨0, _⟩ => exact (Nat.zero_add _).symm
  | ⟨1, _⟩ => exact e
end
end Cert.GuIdeal.Hand
-- ==== Proof.GuBody.lean ====
module

public import proofs.«01_k».proof.Proof.GuLast
public import Idealize.ShloMosaic.Lib.WritesUnit

@[expose] public section
set_option maxRecDepth 16384
noncomputable section
namespace Cert.GuIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GuIdeal Cert.GuIdeal.Gen

local notation "𝕄" => MT nD τ sig Unit (Elt Ideal) ℕ (UR sig nD τ) ℕ

variable (m : (ℓ : Loc nD τ sig) → Buf (Elt Ideal) ℓ) (ρ : Dev nD → PrngReg)

/-! ## The values -/

/-- The hidden layer: the gated unit of the gate columns and the up columns of one packed linear layer. -/
def hidden (C : Vec Ideal S6144x7168 .fp8e4m3) (D : Vec Ideal S6144x1 .f32) (W : Vec Ideal S896x10240 .i32)
    (S : Vec Ideal S56x10240 .fp8e4m3) (Z : Vec Ideal S56x10240 .i8) (E : Vec Ideal S1x10240 .f32)
    (t : Fin 6144) (n : Fin 5120) : EReal :=
  W4.glu (W4.linear (K := 7168) (R := 896) (Q := 56) rfl rfl C D W S Z E t ⟨n, by omega⟩)
    (W4.linear (K := 7168) (R := 896) (Q := 56) rfl rfl C D W S Z E t ⟨5120 + n, by omega⟩)

/-- The hidden layer of the arrays the launch finds. -/
def hid (c : Dev nD) : Fin 6144 → Fin 5120 → EReal :=
  hidden (m ((c : Thread nD τ).loc main_arg0)) (m ((c : Thread nD τ).loc main_arg1)) (m ((c : Thread nD τ).loc main_arg2))
    (m ((c : Thread nD τ).loc main_arg3)) (m ((c : Thread nD τ).loc main_arg4)) (V m c main_v0)

/-- The quantised codes of rows `h`. -/
def resultCodes (h : Fin 6144 → Fin 5120 → EReal) : Vec Ideal S6144x5120 .fp8e4m3 := fun y =>
  W4.codeOf (h (y 0) (y 1)) (W4.scaleOf (W4.rowmax (h (y 0))))

/-- The quantiser's scales of rows `h`. -/
def resultScales (h : Fin 6144 → Fin 5120 → EReal) : Vec Ideal S6144x1 .f32 := fun y =>
  W4.scaleOf (W4.rowmax (h (y 0)))

/-- The block of each operand at grid point `t`: row block `t / 20`, column tile `t % 20`; the up columns' blocks
    lie twenty further right. -/
theorem idx : ∀ t : Fin cfg0.N, win0_0.index t = ![t.val / 20, 0] ∧ win0_1.index t = ![t.val / 20, 0]
    ∧ win0_2.index t = ![0, t.val % 20] ∧ win0_3.index t = ![0, t.val % 20 + 20] ∧ win0_4.index t = ![0, t.val % 20]
    ∧ win0_5.index t = ![0, t.val % 20 + 20] ∧ win0_6.index t = ![0, t.val % 20] ∧ win0_7.index t = ![0, t.val % 20 + 20]
    ∧ win0_8.index t = ![0, t.val % 20] ∧ win0_9.index t = ![0, t.val % 20 + 20] ∧ win0_10.index t = ![t.val / 20, 0]
    ∧ win0_11.index t = ![t.val / 20, 0] ∧ t.val / 20 < 12 :=
  (by decide +kernel : ∀ t : Fin grid0.N, _)

/-- The slice of `h_ref` a point writes. -/
theorem off1 : ∀ t : Fin cfg0.N, k0_off1 (grid0.coords t) = ![t.val % 20, 0, 0] := by decide +kernel

/-- The rows of the hidden layer in block `q`. -/
def rows (c : Dev nD) (q : ℕ) (r : Fin 512) (n : Fin 5120) : EReal :=
  hid m c ⟨(512 * q + r) % 6144, Nat.mod_lt _ (by decide)⟩ n

/-- A point's tile is the hidden layer's at its place. -/
theorem tile_hid (c : Dev nD) (t : Fin cfg0.N) (r : Fin 512) (j : Fin 256) (n : Fin 5120)
    (hn : (n : ℕ) = 256 * (t.val % 20) + j) :
    tileAt (iblk m c 0 t) (iblk m c 1 t) (iblk m c 2 t) (iblk m c 3 t) (iblk m c 4 t) (iblk m c 5 t) (iblk m c 6 t) (iblk m c 7 t) (iblk m c 8 t) (iblk m c 9 t) r j = rows m c (t.val / 20) r n := by
  have hq : t.val / 20 < 12 := (idx t).2.2.2.2.2.2.2.2.2.2.2.2
  have hR : (512 * (t.val / 20) + (r : ℕ)) % 6144 = t.val / 20 * 512 + r := by omega
  unfold tileAt rows hid hidden
  refine congrArg₂ W4.glu ?_ ?_
  · refine (W4.linear_block rfl rfl (fun k => ?_) ?_ (fun k => ?_) (fun k => ?_) (fun k => ?_) ?_)
    all_goals blk_ext [iblk, V, idx t]
  · refine (W4.linear_block rfl rfl (fun k => ?_) ?_ (fun k => ?_) (fun k => ?_) (fun k => ?_) ?_)
    all_goals blk_ext [iblk, V, idx t]

/-- What `h_ref` holds before point `n`: the tiles of the current block of rows written so far. -/
def Held (c : Dev nD) (n : ℕ) (x : Vec Ideal S20x512x256 .f32) : Prop :=
  ∀ (k : Fin 20) (r : Fin 512) (j : Fin 256) (N : Fin 5120), (k : ℕ) < n % 20 → (N : ℕ) = 256 * k + j →
    x (ix3 k r j) = rows m c (n / 20) r N

/-- A point that is not the last of its block of rows adds its tile. -/
theorem Held.step (c : Dev nD) (t : Fin cfg0.N) (ht : ¬t.val % 20 = 19) (hc0 : ¬cond0_0 (grid0.coords t))
    (x : Vec Ideal S20x512x256 .f32) (hx : Held m c t.val x) :
    Held m c (t.val + 1) (scM0_1.view.read (Elt Ideal) (scM0_1.view.writes (Elt Ideal) ((Memref.isWhole_whole _ : scM0_1.IsWhole).unread x)
      (run_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) hc0 (iblk m c 0 t) (iblk m c 1 t) (iblk m c 2 t) (iblk m c 3 t) (iblk m c 4 t) (iblk m c 5 t) (iblk m c 6 t) (iblk m c 7 t) (iblk m c 8 t) (iblk m c 9 t) x).1)) := by
  intro k r j N hk hN
  have e1 : (t.val + 1) / 20 = t.val / 20 := by omega
  have e2 : (t.val + 1) % 20 = t.val % 20 + 1 := by omega
  rw [e1]
  rw [e2] at hk
  unfold run_A
  by_cases hkt : (k : ℕ) = t.val % 20
  · refine (View.read_writes_cons_unit_of_mem _ _ _ _ [] (ix3 k r j) (ix3 0 r j) (off1 t) fun a => ?_).trans ?_
    · match a with
      | ⟨0, _⟩ => exact hkt
      | ⟨1, _⟩ => exact (Nat.zero_add _).symm
      | ⟨2, _⟩ => exact (Nat.zero_add _).symm
    · exact (tile_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (iblk m c 0 t) (iblk m c 1 t) (iblk m c 2 t) (iblk m c 3 t) (iblk m c 4 t) (iblk m c 5 t) (iblk m c 6 t) (iblk m c 7 t) (iblk m c 8 t) (iblk m c 9 t) 0 r j).trans (tile_hid m c t r j N (by omega))
  · refine (View.read_writes_cons_unit_of_not_mem _ _ _ _ [] (ix3 k r j) (off1 t) 0 (Or.inl ?_)).trans ?_
    · show (k : ℕ) < t.val % 20
      omega
    · exact (congrFun ((Memref.isWhole_whole _ : scM0_1.IsWhole).read_unread x) _).trans (hx k r j N (by omega) hN)

/-! ## The pipeline's proof data -/

/-- The region invariant before position `n`: the weight block at anything, `h_ref` at what the points before have
    written, the generator register at some state. -/
def PhiS (c : Dev nD) (n : ℕ) : sProp 𝕄 :=
  iprop(iprop((∃ d, owns (c : Thread nD τ) scM0_0 fullShare d)
    ∗ (∃ x, ⌜Held m c n x⌝ ∗ owns (c : Thread nD τ) scM0_1 fullShare x)) ∗ (∃ r, prngReg c r))

/-- The proof data of the one pipeline on core `c`: after the body at point `t` each input's buffer at its block, the
    outputs' at the codes and scales of the point's block of rows. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => codes (rows m c (t.val / 20)) fun r => W4.scaleOf (W4.rowmax (rows m c (t.val / 20) r))
    | ⟨11, _⟩ => fun y : S512x1.Idx => W4.scaleOf (W4.rowmax (rows m c (t.val / 20) (y 0)))
  Φ t := PhiS m c t.val
  q w := Pipeline.shareOf spec0 w
  owed _ := 0

/-- The data's arrays are those the region finds. -/
theorem A_eq (c : Dev nD) (w : Fin cfg0.W) : (dats m 0 c).A w = V m c (Pipeline.arrRef spec0 w) := by
  dsimp only [dats]

/-- The invariant before a point, by the point's number. -/
theorem PhiS_castSucc (c : Dev nD) (t : Fin cfg0.N) : (dats m 0 c).Φ t.castSucc = PhiS m c t.val := by
  dsimp only [dats]; rfl

/-- What window 0's buffer holds after the body at a point. -/
theorem after0_0 (c : Dev nD) (t : Fin cfg0.N) : (dats m 0 c).after 0 t = iblk m c 0 t := by dsimp only [dats]
/-- What window 1's buffer holds after the body at a point. -/
theorem after0_1 (c : Dev nD) (t : Fin cfg0.N) : (dats m 0 c).after 1 t = iblk m c 1 t := by dsimp only [dats]
/-- What window 2's buffer holds after the body at a point. -/
theorem after0_2 (c : Dev nD) (t : Fin cfg0.N) : (dats m 0 c).after 2 t = iblk m c 2 t := by dsimp only [dats]
/-- What window 3's buffer holds after the body at a point. -/
theorem after0_3 (c : Dev nD) (t : Fin cfg0.N) : (dats m 0 c).after 3 t = iblk m c 3 t := by dsimp only [dats]
/-- What window 4's buffer holds after the body at a point. -/
theorem after0_4 (c : Dev nD) (t : Fin cfg0.N) : (dats m 0 c).after 4 t = iblk m c 4 t := by dsimp only [dats]
/-- What window 5's buffer holds after the body at a point. -/
theorem after0_5 (c : Dev nD) (t : Fin cfg0.N) : (dats m 0 c).after 5 t = iblk m c 5 t := by dsimp only [dats]
/-- What window 6's buffer holds after the body at a point. -/
theorem after0_6 (c : Dev nD) (t : Fin cfg0.N) : (dats m 0 c).after 6 t = iblk m c 6 t := by dsimp only [dats]
/-- What window 7's buffer holds after the body at a point. -/
theorem after0_7 (c : Dev nD) (t : Fin cfg0.N) : (dats m 0 c).after 7 t = iblk m c 7 t := by dsimp only [dats]
/-- What window 8's buffer holds after the body at a point. -/
theorem after0_8 (c : Dev nD) (t : Fin cfg0.N) : (dats m 0 c).after 8 t = iblk m c 8 t := by dsimp only [dats]
/-- What window 9's buffer holds after the body at a point. -/
theorem after0_9 (c : Dev nD) (t : Fin cfg0.N) : (dats m 0 c).after 9 t = iblk m c 9 t := by dsimp only [dats]
/-- What window 10's buffer holds after the body at a point. -/
theorem after0_10 (c : Dev nD) (t : Fin cfg0.N) : (dats m 0 c).after 10 t
    = codes (rows m c (t.val / 20)) fun r => W4.scaleOf (W4.rowmax (rows m c (t.val / 20) r)) := by dsimp only [dats]
/-- What window 11's buffer holds after the body at a point. -/
theorem after0_11 (c : Dev nD) (t : Fin cfg0.N) : (dats m 0 c).after 11 t
    = fun y : S512x1.Idx => W4.scaleOf (W4.rowmax (rows m c (t.val / 20) (y 0))) := by dsimp only [dats]

/-- What window 0's buffer holds before the body at a point: its block. -/
theorem before0_0 (c : Dev nD) (t : Fin cfg0.N) (d) : (dats m 0 c).before 0 t d = iblk m c 0 t :=
  before0_0_of m (dats m 0 c) (A_eq m c 0) (after0_0 m c) t d
/-- What window 1's buffer holds before the body at a point: its block. -/
theorem before0_1 (c : Dev nD) (t : Fin cfg0.N) (d) : (dats m 0 c).before 1 t d = iblk m c 1 t :=
  before0_1_of m (dats m 0 c) (A_eq m c 1) (after0_1 m c) t d
/-- What window 2's buffer holds before the body at a point: its block. -/
theorem before0_2 (c : Dev nD) (t : Fin cfg0.N) (d) : (dats m 0 c).before 2 t d = iblk m c 2 t :=
  before0_2_of m (dats m 0 c) (A_eq m c 2) (after0_2 m c) t d
/-- What window 3's buffer holds before the body at a point: its block. -/
theorem before0_3 (c : Dev nD) (t : Fin cfg0.N) (d) : (dats m 0 c).before 3 t d = iblk m c 3 t :=
  before0_3_of m (dats m 0 c) (A_eq m c 3) (after0_3 m c) t d
/-- What window 4's buffer holds before the body at a point: its block. -/
theorem before0_4 (c : Dev nD) (t : Fin cfg0.N) (d) : (dats m 0 c).before 4 t d = iblk m c 4 t :=
  before0_4_of m (dats m 0 c) (A_eq m c 4) (after0_4 m c) t d
/-- What window 5's buffer holds before the body at a point: its block. -/
theorem before0_5 (c : Dev nD) (t : Fin cfg0.N) (d) : (dats m 0 c).before 5 t d = iblk m c 5 t :=
  before0_5_of m (dats m 0 c) (A_eq m c 5) (after0_5 m c) t d
/-- What window 6's buffer holds before the body at a point: its block. -/
theorem before0_6 (c : Dev nD) (t : Fin cfg0.N) (d) : (dats m 0 c).before 6 t d = iblk m c 6 t :=
  before0_6_of m (dats m 0 c) (A_eq m c 6) (after0_6 m c) t d
/-- What window 7's buffer holds before the body at a point: its block. -/
theorem before0_7 (c : Dev nD) (t : Fin cfg0.N) (d) : (dats m 0 c).before 7 t d = iblk m c 7 t :=
  before0_7_of m (dats m 0 c) (A_eq m c 7) (after0_7 m c) t d
/-- What window 8's buffer holds before the body at a point: its block. -/
theorem before0_8 (c : Dev nD) (t : Fin cfg0.N) (d) : (dats m 0 c).before 8 t d = iblk m c 8 t :=
  before0_8_of m (dats m 0 c) (A_eq m c 8) (after0_8 m c) t d
/-- What window 9's buffer holds before the body at a point: its block. -/
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 9600000 in
/-- The body at any point: the inputs' buffers hold their blocks; the invariant hands it `h_ref` with the tiles written
    so far; a point that is not the last of its block of rows adds its tile and leaves the outputs' buffers alone, the
    last one stores the codes and the scales of the rows. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) from rfl, PhiS_castSucc m c t]
  unfold PhiS
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  by_cases h0 : t.val % 20 = 19
  · rw [show (dats m 0 c).leavesExact 10 t = owns (c : Thread nD τ) (ms0_10 t) fullShare ((dats m 0 c).after 10 t) from by
      unfold Dat.leavesExact; rw [liveAt0_10 t h0], after0_10]
    rw [show (dats m 0 c).leavesExact 11 t = owns (c : Thread nD τ) (ms0_11 t) fullShare ((dats m 0 c).after 11 t) from by
      unfold Dat.leavesExact; rw [liveAt0_11 t h0], after0_11]
    iintro ⟨⟨⟨HS0, %xs1, %hx, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    have hl0 := off1_last t h0
    have hn : ∀ (r : Fin 512) (j : Fin 256) (n : Fin 5120), (n : ℕ) = 256 * 19 + j →
        tileAt (iblk m c 0 t) (iblk m c 1 t) (iblk m c 2 t) (iblk m c 3 t) (iblk m c 4 t) (iblk m c 5 t) (iblk m c 6 t) (iblk m c 7 t) (iblk m c 8 t) (iblk m c 9 t) r j = rows m c (t.val / 20) r n := fun r j n hn => tile_hid m c t r j n (by omega)
    have hx' : ∀ (k : Fin 20) (r : Fin 512) (j : Fin 256) (n : Fin 5120), (k : ℕ) < 19 → (n : ℕ) = 256 * k + j →
        xs1 (ix3 k r j) = rows m c (t.val / 20) r n := fun k r j n hk => hx k r j n (by omega)
    iapply ((run_B c (grid0.coords t) _ _ _ _ _ _ _ _ _ _ _ _ _ _ _ _ _ _ _ _ _ _ _ _ _ _ _ _ ((hcond0_0 t).mpr h0) hl0 (iblk m c 0 t) (iblk m c 1 t) (iblk m c 2 t) (iblk m c 3 t) (iblk m c 4 t) (iblk m c 5 t) (iblk m c 6 t) (iblk m c 7 t) (iblk m c 8 t) (iblk m c 9 t) xs1).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, ⟨%e10, H10⟩, ⟨%e11, H11⟩, HS0, HS1⟩
    isplitl [HS0 HS1 Hg]
    · isplitl [HS0 HS1]
      · isplitl [HS0]; · iexact HS0
        iexists _
        isplitr
        swap
        · unfold owns; iexists _; isplitr
          swap; · iexact HS1
          ipureintro; rfl
        ipureintro
        intro k r j N hk
        exact absurd hk (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro
      refine (View.read_writes_eq_canon _ _ _ (View.cover_of_tiledL (run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) hl0 (iblk m c 0 t) (iblk m c 1 t) (iblk m c 2 t) (iblk m c 3 t) (iblk m c 4 t) (iblk m c 5 t) (iblk m c 6 t) (iblk m c 7 t) (iblk m c 8 t) (iblk m c 9 t) xs1).1 S512x256.size (by sl_kernel_rfl))).trans ?_
      exact last_codes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) xs1 hx' hl0 hn ((hcond0_0 t).mpr h0)
    unfold owns; iexists _; isplitr
    swap; · iexact H11
    ipureintro
    refine (View.read_writes_eq_canon _ _ _ (View.cover_of_tiledL (run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) hl0 (iblk m c 0 t) (iblk m c 1 t) (iblk m c 2 t) (iblk m c 3 t) (iblk m c 4 t) (iblk m c 5 t) (iblk m c 6 t) (iblk m c 7 t) (iblk m c 8 t) (iblk m c 9 t) xs1).2.1 S512x1.size (by sl_kernel_rfl))).trans ?_
    exact last_scales c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) xs1 hx' hl0 hn ((hcond0_0 t).mpr h0)
  · rw [Dat.leavesExact_idle (dats m 0 c) 10 t (idleAt0_10 t h0) (noFlush0_10 t h0)]
    rw [Dat.leavesExact_idle (dats m 0 c) 11 t (idleAt0_11 t h0) (noFlush0_11 t h0)]
    iintro ⟨⟨⟨HS0, %xs1, %hx, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    have hc0 : ¬cond0_0 (grid0.coords t) := fun h => h0 ((hcond0_0 t).mp h)
    iapply ((run_A c (grid0.coords t) _ _ _ _ _ _ _ _ _ _ _ _ _ _ _ _ _ _ _ _ _ _ _ _ _ _ _ _ hc0 (iblk m c 0 t) (iblk m c 1 t) (iblk m c 2 t) (iblk m c 3 t) (iblk m c 4 t) (iblk m c 5 t) (iblk m c 6 t) (iblk m c 7 t) (iblk m c 8 t) (iblk m c 9 t) xs1).2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    iintro ⟨H0, H1, H2, H3, H4, H5, H6, H7, H8, H9, H10, H11, HS0, HS1⟩
    isplitl [HS0 HS1 Hg]
    · isplitl [HS0 HS1]
      · isplitl [HS0]; · iexact HS0
        iexists _
        isplitr
        swap
        · unfold owns; iexists _; isplitr
          swap; · iexact HS1
          ipureintro; rfl
        ipureintro
        exact Held.step m c t h0 hc0 xs1 hx
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨HS0, ⟨%xs1, HS1⟩⟩, Hg⟩
  isplitl [HS0 HS1]
  · isplitl [HS0]; · iexact HS0
    iexists xs1
    isplitr
    swap; · iexact HS1
    ipureintro
    intro k r j N hk
    exact absurd hk (Nat.not_lt_zero _)
  iexact Hg

/-- After the last point the invariant gives back what the launch handed over. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨HS0, %xs1, %hx, HS1⟩, Hg⟩
  isplitl [HS0 HS1]
  · isplitl [HS0]; · iexact HS0
    iexists _; iexact HS1
  iexact Hg

/-! ## The run and the frame -/

set_option backward.isDefEq.respectTransparency.types false in
/-- Every execution ends, with every array at what the proof data say and every semaphore counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run of the whole program, with every array after it named. -/
theorem run_main : θ_run defs (onTc (τ := τ) (main (F := Ideal))) (s₀ m ρ) (Pipeline.FramePost cfgs (dats m) 0 (V m)) :=
  (θ_run defs _ _).mono (fun _ h => h.1) (run_main_quiescent m ρ)

/-- The arguments end unchanged and every semaphore counter is zero again. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.GuIdeal.Hand
-- ==== Proof.GuFinal.lean ====
module

public import proofs.«01_k».proof.Proof.GuBody
public import proofs.«01_k».proof.Proof.Gen.GuRefIdeal.Value
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)

namespace Cert.GuIdeal.Hand
open Cert.GuIdeal Cert.GuIdeal.Gen
variable (m : (ℓ : Loc nD τ sig) → Buf (Elt Ideal) ℓ)

/-- The kernel's array of codes after the run. -/
theorem final_codes (c : Dev nD) : (dats m 0 c).arrAt 10 (cfgs 0).N = resultCodes (hid m c) := by
  refine (dats m 0 c).arrAt_eq_of_covers 10 _ (by decide +kernel) fun t _ y => ?_
  blk_simp
  rw [after0_10]
  have hq : t.val / 20 < 12 := (idx t).2.2.2.2.2.2.2.2.2.2.2.2
  have e0 : (((cfg0.win 10).blk t).view.emb y 0 : ℕ) = t.val / 20 * 512 + y 0 := by blk_simp [idx t]
  have e1 : (((cfg0.win 10).blk t).view.emb y 1 : ℕ) = y 1 := by blk_simp [idx t]
  idx_vars y
  have hy : (y0 : ℕ) < 512 := y0.isLt
  have hr : rows m c (t.val / 20) y0 = hid m c (((cfg0.win 10).blk t).view.emb (ix2 y0 y1) 0) := by
    funext n
    unfold rows
    refine congrArg (fun R => hid m c R n) (Fin.ext ?_)
    rw [e0]
    show (512 * (t.val / 20) + (y0 : ℕ)) % 6144 = t.val / 20 * 512 + y0
    omega
  have h1 : y1 = ((cfg0.win 10).blk t).view.emb (ix2 y0 y1) 1 := Fin.ext e1.symm
  exact congrArg₂ W4.codeOf ((congrFun hr y1).trans (congrArg _ h1)) (congrArg W4.scaleOf (congrArg W4.rowmax hr))

/-- The kernel's array of scales after the run. -/
theorem final_scales (c : Dev nD) : (dats m 0 c).arrAt 11 (cfgs 0).N = resultScales (hid m c) := by
  refine (dats m 0 c).arrAt_eq_of_covers 11 _ (by decide +kernel) fun t _ y => ?_
  blk_simp
  rw [after0_11]
  have hq : t.val / 20 < 12 := (idx t).2.2.2.2.2.2.2.2.2.2.2.2
  have e0 : (((cfg0.win 11).blk t).view.emb y 0 : ℕ) = t.val / 20 * 512 + y 0 := by blk_simp [idx t]
  idx_vars y
  have hy : (y0 : ℕ) < 512 := y0.isLt
  have hr : rows m c (t.val / 20) y0 = hid m c (((cfg0.win 11).blk t).view.emb (ix2 y0 y1) 0) := by
    funext n
    unfold rows
    refine congrArg (fun R => hid m c R n) (Fin.ext ?_)
    rw [e0]
    show (512 * (t.val / 20) + (y0 : ℕ)) % 6144 = t.val / 20 * 512 + y0
    omega
  exact congrArg W4.scaleOf (congrArg W4.rowmax hr)

end Cert.GuIdeal.Hand

namespace Cert.GuRefIdeal.Value
open Cert.GuRefIdeal Cert.GuRefIdeal.Gen
variable (m : (ℓ : Loc nD τ sig) → Buf (Elt Ideal) ℓ)

/-- The reference's one grid point reads every operand whole. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- The reference's hidden layer, read at an element. -/
theorem hidden_at (x0 : Vec Ideal S6144x7168 .fp8e4m3) (x1 : Vec Ideal S6144x1 .f32) (x2 : Vec Ideal S896x10240 .i32)
    (x3 : Vec Ideal S56x10240 .fp8e4m3) (x5 : Vec Ideal S1x10240 .f32) (x4 : Vec Ideal S56x10240 .i8)
    (r : Fin 6144) (j : Fin 5120) :
    k0_pay3 (F := Ideal) x0 x1 x2 x3 x5 x4 (ix2 r j) = Cert.GuIdeal.Hand.hidden x0 x1 x2 x3 x4 x5 r j := by
  unfold Cert.GuIdeal.Hand.hidden W4.glu W4.linear W4.weights
  pointwise [k0_pay3]
  simp only [W4.ref_weight _ _ (Nat.mod_lt _ (by decide : 0 < 8)) _ _]

/-- The reference's largest magnitudes, read at an element. -/
theorem amax_at (x0 : Vec Ideal S6144x7168 .fp8e4m3) (x1 : Vec Ideal S6144x1 .f32) (x2 : Vec Ideal S896x10240 .i32)
    (x3 : Vec Ideal S56x10240 .fp8e4m3) (x5 : Vec Ideal S1x10240 .f32) (x4 : Vec Ideal S56x10240 .i8)
    (r : Fin 6144) (j : Fin 1) :
    k0_pay4 (F := Ideal) x0 x1 x2 x3 x5 x4 (ix2 r j) = W4.rowmax (Cert.GuIdeal.Hand.hidden x0 x1 x2 x3 x4 x5 r) := by
  unfold k0_pay4 W4.rowmax
  simp only [← hidden_at]
  generalize k0_pay3 (F := Ideal) x0 x1 x2 x3 x5 x4 = hh
  pointwise []

/-- The reference's scale, read at an element. -/
theorem scale_at (aa : Vec Ideal S6144x1 .f32) (r : Fin 6144) (j : Fin 1) :
    k0_pay1 (F := Ideal) aa (Scalar.ofBits .f32 0x00000000#32) (ix2 r j) = W4.scaleOf (aa (ix2 r j)) := by
  unfold W4.scaleOf
  pointwise [k0_pay1]

/-- The reference's code, read at an element. -/
theorem code_at (hh : Vec Ideal S6144x5120 .f32) (aa : Vec Ideal S6144x1 .f32) (r : Fin 6144) (j : Fin 5120) :
    k0_pay2 (F := Ideal) hh aa (Scalar.ofBits .f32 0x00000000#32) (ix2 r j)
      = W4.codeOf (hh (ix2 r j)) (W4.scaleOf (aa (ix2 r 0))) := by
  unfold W4.codeOf W4.scaleOf
  pointwise [k0_pay2, k0_pay1]

/-- Every operand's block at the one grid point is the array the launch finds. -/
theorem whole (c : Dev nD) : iblk m c 0 t0_0 = m ((c : Thread nD τ).loc main_arg0)
    ∧ iblk m c 1 t0_0 = m ((c : Thread nD τ).loc main_arg1) ∧ iblk m c 2 t0_0 = m ((c : Thread nD τ).loc main_arg2)
    ∧ iblk m c 3 t0_0 = m ((c : Thread nD τ).loc main_arg3) ∧ iblk m c 4 t0_0 = m ((c : Thread nD τ).loc main_arg4)
    ∧ iblk m c 5 t0_0 = V m c main_v0 := by
  refine ⟨?_, ?_, ?_, ?_, ?_, ?_⟩
  iterate 5 blk_ext! [iblk, V, idx t0_0]
  blk_ext! [iblk, idx t0_0]

/-- The reference's array of codes after the run. -/
theorem final_codes (c : Dev nD) : (dats m 0 c).arrAt 6 (cfgs 0).N
    = Cert.GuIdeal.Hand.resultCodes (Cert.GuIdeal.Hand.hidden (m ((c : Thread nD τ).loc main_arg0)) (m ((c : Thread nD τ).loc main_arg1))
        (m ((c : Thread nD τ).loc main_arg2)) (m ((c : Thread nD τ).loc main_arg3))
        (m ((c : Thread nD τ).loc main_arg4)) (V m c main_v0)) := by
  refine (dats m 0 c).arrAt_eq_of_after_last 6 t0_0 (by decide +kernel) _ fun j => ?_
  blk_simp
  rw [after0_6]
  frame_out [k0_pay5]
  obtain ⟨h0, h1, h2, h3, h4, h5⟩ := whole m c
  rw [h0, h1, h2, h3, h4, h5]
  idx_vars j
  refine (code_at _ _ j0 j1).trans (congrArg₂ W4.codeOf (hidden_at _ _ _ _ _ _ j0 j1)
    (congrArg W4.scaleOf (amax_at _ _ _ _ _ _ j0 0)))

/-- The reference's array of scales after the run. -/
theorem final_scales (c : Dev nD) : (dats m 0 c).arrAt 7 (cfgs 0).N
    = Cert.GuIdeal.Hand.resultScales (Cert.GuIdeal.Hand.hidden (m ((c : Thread nD τ).loc main_arg0)) (m ((c : Thread nD τ).loc main_arg1))
        (m ((c : Thread nD τ).loc main_arg2)) (m ((c : Thread nD τ).loc main_arg3))
        (m ((c : Thread nD τ).loc main_arg4)) (V m c main_v0)) := by
  refine (dats m 0 c).arrAt_eq_of_after_last 7 t0_0 (by decide +kernel) _ fun j => ?_
  blk_simp
  rw [after0_7]
  frame_out [k0_pay5]
  obtain ⟨h0, h1, h2, h3, h4, h5⟩ := whole m c
  rw [h0, h1, h2, h3, h4, h5]
  idx_vars j
  exact (scale_at _ j0 j1).trans (congrArg W4.scaleOf (amax_at _ _ _ _ _ _ j0 j1))

end Cert.GuRefIdeal.Value
-- ==== Proof.OprojFrame.lean ====
module

public import proofs.«01_k».proof.Proof.Gen.Oproj.Skeleton
public import proofs.«01_k».proof.Proof.Gen.Oproj.Launch
public import proofs.«01_k».proof.Proof.Gen.Oproj.Points
public import proofs.«01_k».proof.Proof.Gen.Oproj.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Oproj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Oproj Cert.Oproj.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame from any run whose inputs end unchanged. -/
theorem forget_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      (Pipeline.RDat.FramePost.arr_in h c 6 rfl).trans ((hA c 6).trans (V_main_arg6 m c)),
      ((h c).2 main_arg7 (Pipeline.mem_restRefs_of main_arg7 (by decide) (by decide))).trans (V_main_arg7 m c)⟩) h

/-- The condition under which the body finishes a block of rows. -/
abbrev cond0_0 (i : grid0.Coords) : Prop := k0_cond1 i = 1#1
/-- It holds at the last column tile of each block of rows. -/
theorem hcond0_0 : ∀ t : Fin cfg0.N, cond0_0 (grid0.coords t) ↔ t.val % 7 = 6 :=
  (fun t => by
    have ht : t.val < 84 := Nat.lt_of_lt_of_eq t.isLt N_0
    have e0 : (grid0.coords t 0).val = t.val / 7 % 12 := Pipeline.Grid.coords_val t 0 (by decide) rfl
    have e1 : (grid0.coords t 1).val = t.val / 1 % 7 := Pipeline.Grid.coords_val t 1 (by decide) rfl
    simp only [cond0_0, k0_cond1, e0, e1]
    word_cmp
   : ∀ t : Fin grid0.N, cond0_0 (grid0.coords t) ↔ t.val % 7 = 6)

/-- Window 0 is in use at every point. -/
theorem liveAt0_0 : ∀ t : Fin cfg0.N, cfg0.idle 0 (grid0.coords t) = false := fun _ => rfl
/-- Window 1 is in use at every point. -/
theorem liveAt0_1 : ∀ t : Fin cfg0.N, cfg0.idle 1 (grid0.coords t) = false := fun _ => rfl
/-- Window 2 is in use at every point. -/
theorem liveAt0_2 : ∀ t : Fin cfg0.N, cfg0.idle 2 (grid0.coords t) = false := fun _ => rfl
/-- Window 3 is in use at every point. -/
theorem liveAt0_3 : ∀ t : Fin cfg0.N, cfg0.idle 3 (grid0.coords t) = false := fun _ => rfl
/-- Window 4 is in use at every point. -/
theorem liveAt0_4 : ∀ t : Fin cfg0.N, cfg0.idle 4 (grid0.coords t) = false := fun _ => rfl
/-- Window 5 is in use at every point. -/
theorem liveAt0_5 : ∀ t : Fin cfg0.N, cfg0.idle 5 (grid0.coords t) = false := fun _ => rfl
/-- Window 6 is in use at every point. -/
theorem liveAt0_6 : ∀ t : Fin cfg0.N, cfg0.idle 6 (grid0.coords t) = false := fun _ => rfl
/-- Window 7 is in use at every point. -/
theorem liveAt0_7 : ∀ t : Fin cfg0.N, cfg0.idle 7 (grid0.coords t) = false := fun _ => rfl

/-- The buffer window 0 uses at a point, -/
abbrev ms0_0 (t : Fin cfg0.N) : Memref sig .tc .vmem S512x1792 .fp8e4m3 := win0_0.stage (cfg0.slots t 0)
/-- which is a whole buffer. -/
abbrev hs0_0 (t : Fin cfg0.N) : (ms0_0 t).IsWhole := hstage0_0 ((cfg0.slots t 0).cast nbuf0_0)
/-- The buffer window 1 uses at a point, -/
abbrev ms0_1 (t : Fin cfg0.N) : Memref sig .tc .vmem S512x1 .f32 := win0_1.stage (cfg0.slots t 1)
/-- which is a whole buffer. -/
abbrev hs0_1 (t : Fin cfg0.N) : (ms0_1 t).IsWhole := hstage0_1 ((cfg0.slots t 1).cast nbuf0_1)
/-- The buffer window 2 uses at a point, -/
abbrev ms0_2 (t : Fin cfg0.N) : Memref sig .tc .vmem S224x1024 .i32 := win0_2.stage (cfg0.slots t 2)
/-- which is a whole buffer. -/
abbrev hs0_2 (t : Fin cfg0.N) : (ms0_2 t).IsWhole := hstage0_2 ((cfg0.slots t 2).cast nbuf0_2)
/-- The buffer window 3 uses at a point, -/
abbrev ms0_3 (t : Fin cfg0.N) : Memref sig .tc .vmem S14x1024 .fp8e4m3 := win0_3.stage (cfg0.slots t 3)
/-- which is a whole buffer. -/
abbrev hs0_3 (t : Fin cfg0.N) : (ms0_3 t).IsWhole := hstage0_3 ((cfg0.slots t 3).cast nbuf0_3)
/-- The buffer window 4 uses at a point, -/
abbrev ms0_4 (t : Fin cfg0.N) : Memref sig .tc .vmem S14x1024 .i8 := win0_4.stage (cfg0.slots t 4)
/-- which is a whole buffer. -/
abbrev hs0_4 (t : Fin cfg0.N) : (ms0_4 t).IsWhole := hstage0_4 ((cfg0.slots t 4).cast nbuf0_4)
/-- The buffer window 5 uses at a point, -/
abbrev ms0_5 (t : Fin cfg0.N) : Memref sig .tc .vmem S1x1024 .f32 := win0_5.stage (cfg0.slots t 5)
/-- which is a whole buffer. -/
abbrev hs0_5 (t : Fin cfg0.N) : (ms0_5 t).IsWhole := hstage0_5 ((cfg0.slots t 5).cast nbuf0_5)
/-- The buffer window 6 uses at a point, -/
abbrev ms0_6 (t : Fin cfg0.N) : Memref sig .tc .vmem S512x1024 .bf16 := win0_6.stage (cfg0.slots t 6)
/-- which is a whole buffer. -/
abbrev hs0_6 (t : Fin cfg0.N) : (ms0_6 t).IsWhole := hstage0_6 ((cfg0.slots t 6).cast nbuf0_6)
/-- The buffer window 7 uses at a point, -/
abbrev ms0_7 (t : Fin cfg0.N) : Memref sig .tc .vmem S1x7168 .f32 := win0_7.stage (cfg0.slots t 7)
/-- which is a whole buffer. -/
abbrev hs0_7 (t : Fin cfg0.N) : (ms0_7 t).IsWhole := hstage0_7 ((cfg0.slots t 7).cast nbuf0_7)
/-- The buffer window 8 uses at a point, -/
abbrev ms0_8 (t : Fin cfg0.N) : Memref sig .tc .vmem S512x7168 .f32 := win0_8.stage (cfg0.slots t 8)
/-- which is a whole buffer. -/
abbrev hs0_8 (t : Fin cfg0.N) : (ms0_8 t).IsWhole := hstage0_8 ((cfg0.slots t 8).cast nbuf0_8)
/-- The buffer window 9 uses at a point, -/
abbrev ms0_9 (t : Fin cfg0.N) : Memref sig .tc .vmem S512x7168 .fp8e4m3 := win0_9.stage (cfg0.slots t 9)
/-- which is a whole buffer. -/
abbrev hs0_9 (t : Fin cfg0.N) : (ms0_9 t).IsWhole := hstage0_9 ((cfg0.slots t 9).cast nbuf0_9)
/-- The buffer window 10 uses at a point, -/
abbrev ms0_10 (t : Fin cfg0.N) : Memref sig .tc .vmem S512x1 .f32 := win0_10.stage (cfg0.slots t 10)
/-- which is a whole buffer. -/
abbrev hs0_10 (t : Fin cfg0.N) : (ms0_10 t).IsWhole := hstage0_10 ((cfg0.slots t 10).cast nbuf0_10)
/-- Scratch buffer 0, whole. -/
abbrev scM0_0 : Memref sig .tc .vmem S1792x1024 .bf16 := Memref.whole cc0_scratch0

/-- What the body is lent besides its windows: the scratch buffers and the register of random bits. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl
set_option maxHeartbeats 1000000 in
/-- The body at a point that only adds its tile, run whole. -/
theorem run_A (c : Dev nD) (i : grid0.Coords) (arg2 : Memref sig .tc .vmem S512x1792 .fp8e4m3) (harg2 : arg2.IsWhole) (arg3 : Memref sig .tc .vmem S512x1 .f32) (harg3 : arg3.IsWhole) (arg4 : Memref sig .tc .vmem S224x1024 .i32) (harg4 : arg4.IsWhole) (arg5 : Memref sig .tc .vmem S14x1024 .fp8e4m3) (harg5 : arg5.IsWhole) (arg6 : Memref sig .tc .vmem S14x1024 .i8) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x7168 .f32) (harg9 : arg9.IsWhole) (arg10 : Memref sig .tc .vmem S512x7168 .f32) (harg10 : arg10.IsWhole) (arg11 : Memref sig .tc .vmem S512x7168 .fp8e4m3) (harg11 : arg11.IsWhole) (arg12 : Memref sig .tc .vmem S512x1 .f32) (harg12 : arg12.IsWhole) (arg13 : Memref sig .tc .vmem S1792x1024 .bf16) (harg13 : arg13.IsWhole) (hc0 : ¬cond0_0 i)
    (x0 : Vec F S512x1792 .fp8e4m3) (x1 : Vec F S512x1 .f32) (x2 : Vec F S224x1024 .i32) (x3 : Vec F S14x1024 .fp8e4m3) (x4 : Vec F S14x1024 .i8) (x5 : Vec F S1x1024 .f32) (x6 : Vec F S512x1024 .bf16) (x7 : Vec F S1x7168 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_o_proj i arg2 harg2 arg3 harg3 arg4 harg4 arg5 harg5 arg6 harg6 arg7 harg7 arg8 harg8 arg9 harg9 arg10 harg10 arg11 harg11 arg12 harg12 arg13 harg13) K := by
    intro E K
    simp only [cc0_o_proj_eq_skeleton]; unfold cc0_o_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact HS0
    ipureintro; rfl
set_option maxHeartbeats 1000000 in
/-- The body at the last point of a block of rows, run whole. -/
theorem run_B (c : Dev nD) (i : grid0.Coords) (arg2 : Memref sig .tc .vmem S512x1792 .fp8e4m3) (harg2 : arg2.IsWhole) (arg3 : Memref sig .tc .vmem S512x1 .f32) (harg3 : arg3.IsWhole) (arg4 : Memref sig .tc .vmem S224x1024 .i32) (harg4 : arg4.IsWhole) (arg5 : Memref sig .tc .vmem S14x1024 .fp8e4m3) (harg5 : arg5.IsWhole) (arg6 : Memref sig .tc .vmem S14x1024 .i8) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x7168 .f32) (harg9 : arg9.IsWhole) (arg10 : Memref sig .tc .vmem S512x7168 .f32) (harg10 : arg10.IsWhole) (arg11 : Memref sig .tc .vmem S512x7168 .fp8e4m3) (harg11 : arg11.IsWhole) (arg12 : Memref sig .tc .vmem S512x1 .f32) (harg12 : arg12.IsWhole) (arg13 : Memref sig .tc .vmem S1792x1024 .bf16) (harg13 : arg13.IsWhole) (hc0 : cond0_0 i)
    (x0 : Vec F S512x1792 .fp8e4m3) (x1 : Vec F S512x1 .f32) (x2 : Vec F S224x1024 .i32) (x3 : Vec F S14x1024 .fp8e4m3) (x4 : Vec F S14x1024 .i8) (x5 : Vec F S1x1024 .f32) (x6 : Vec F S512x1024 .bf16) (x7 : Vec F S1x7168 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_o_proj i arg2 harg2 arg3 harg3 arg4 harg4 arg5 harg5 arg6 harg6 arg7 harg7 arg8 harg8 arg9 harg9 arg10 harg10 arg11 harg11 arg12 harg12 arg13 harg13) K := by
    intro E K
    simp only [cc0_o_proj_eq_skeleton]; unfold cc0_o_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact HS0
    ipureintro; rfl

/-- The outputs, of whose contents this frame states nothing. -/
def forgets0 : Fin 11 → Bool := fun w => w.val == 8 || w.val == 9 || w.val == 10

/-- The proof data: the arrays as the region finds them, each input's buffer at its block, nothing said of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The data's arrays are those the region finds. -/
theorem A_eq (c : Dev nD) (w : Fin cfg0.W) : (dats m 0 c).A w = V m c (Pipeline.arrRef spec0 w) := by
  dsimp only [dats]

/-- What window 0's buffer holds after the body at a point. -/
theorem after0_0 (c : Dev nD) (t : Fin cfg0.N) : (dats m 0 c).after 0 t = iblk m c 0 t := by dsimp only [dats]
/-- What window 1's buffer holds after the body at a point. -/
theorem after0_1 (c : Dev nD) (t : Fin cfg0.N) : (dats m 0 c).after 1 t = iblk m c 1 t := by dsimp only [dats]
/-- What window 2's buffer holds after the body at a point. -/
theorem after0_2 (c : Dev nD) (t : Fin cfg0.N) : (dats m 0 c).after 2 t = iblk m c 2 t := by dsimp only [dats]
/-- What window 3's buffer holds after the body at a point. -/
theorem after0_3 (c : Dev nD) (t : Fin cfg0.N) : (dats m 0 c).after 3 t = iblk m c 3 t := by dsimp only [dats]
/-- What window 4's buffer holds after the body at a point. -/
theorem after0_4 (c : Dev nD) (t : Fin cfg0.N) : (dats m 0 c).after 4 t = iblk m c 4 t := by dsimp only [dats]
/-- What window 5's buffer holds after the body at a point. -/
theorem after0_5 (c : Dev nD) (t : Fin cfg0.N) : (dats m 0 c).after 5 t = iblk m c 5 t := by dsimp only [dats]
/-- What window 6's buffer holds after the body at a point. -/
theorem after0_6 (c : Dev nD) (t : Fin cfg0.N) : (dats m 0 c).after 6 t = iblk m c 6 t := by dsimp only [dats]
/-- What window 7's buffer holds after the body at a point. -/
theorem after0_7 (c : Dev nD) (t : Fin cfg0.N) : (dats m 0 c).after 7 t = iblk m c 7 t := by dsimp only [dats]

/-- What window 0's buffer holds before the body at a point: its block. -/
theorem before0_0 (c : Dev nD) (t : Fin cfg0.N) (d) : (dats m 0 c).before 0 t d = iblk m c 0 t :=
  before0_0_of m (dats m 0 c) (A_eq m c 0) (after0_0 m c) t d
/-- What window 1's buffer holds before the body at a point: its block. -/
theorem before0_1 (c : Dev nD) (t : Fin cfg0.N) (d) : (dats m 0 c).before 1 t d = iblk m c 1 t :=
  before0_1_of m (dats m 0 c) (A_eq m c 1) (after0_1 m c) t d
/-- What window 2's buffer holds before the body at a point: its block. -/
theorem before0_2 (c : Dev nD) (t : Fin cfg0.N) (d) : (dats m 0 c).before 2 t d = iblk m c 2 t :=
  before0_2_of m (dats m 0 c) (A_eq m c 2) (after0_2 m c) t d
/-- What window 3's buffer holds before the body at a point: its block. -/
theorem before0_3 (c : Dev nD) (t : Fin cfg0.N) (d) : (dats m 0 c).before 3 t d = iblk m c 3 t :=
  before0_3_of m (dats m 0 c) (A_eq m c 3) (after0_3 m c) t d
/-- What window 4's buffer holds before the body at a point: its block. -/
theorem before0_4 (c : Dev nD) (t : Fin cfg0.N) (d) : (dats m 0 c).before 4 t d = iblk m c 4 t :=
  before0_4_of m (dats m 0 c) (A_eq m c 4) (after0_4 m c) t d
/-- What window 5's buffer holds before the body at a point: its block. -/
theorem before0_5 (c : Dev nD) (t : Fin cfg0.N) (d) : (dats m 0 c).before 5 t d = iblk m c 5 t :=
  before0_5_of m (dats m 0 c) (A_eq m c 5) (after0_5 m c) t d
/-- What window 6's buffer holds before the body at a point: its block. -/
theorem before0_6 (c : Dev nD) (t : Fin cfg0.N) (d) : (dats m 0 c).before 6 t d = iblk m c 6 t :=
  before0_6_of m (dats m 0 c) (A_eq m c 6) (after0_6 m c) t d
/-- What window 7's buffer holds before the body at a point: its block. -/
theorem before0_7 (c : Dev nD) (t : Fin cfg0.N) (d) : (dats m 0 c).before 7 t d = iblk m c 7 t :=
  before0_7_of m (dats m 0 c) (A_eq m c 7) (after0_7 m c) t d

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 2400000 in
/-- The body at any point: it takes its buffers and gives them back, the inputs unchanged. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 84 := lt_of_lt_of_eq t.isLt (show cfg0.N = 84 from N_0)
  by_cases h0 : t.val % 7 = 6
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((run_B c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    iintro ⟨H0, H1, H2, H3, H4, H5, H6, H7, H8, H9, H10, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((run_A c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    iintro ⟨H0, H1, H2, H3, H4, H5, H6, H7, H8, H9, H10, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl
set_option backward.isDefEq.respectTransparency.types false in
/-- Every execution ends with the inputs unchanged and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends with the inputs unchanged. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  forget_of m ρ (fun c => (dats m 0 c).toRForget forgets0) (A_eq m) (run_main m ρ)

/-- The frame: every execution ends, the arguments unchanged and every semaphore counter zero again. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Oproj.Hand
-- ==== Proof.OprojKit.lean ====
module

public import proofs.«01_k».proof.Proof.Gen.OprojIdeal.Frame
public import proofs.«01_k».proof.Proof.Gen.OprojIdeal.Skeleton

@[expose] public section

set_option maxRecDepth 16384

noncomputable section

namespace Cert.OprojIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OprojIdeal.Gen

variable {F : FTy → Type} [FloatOps F]

local notation "𝕄" => MT nD τ sig Unit (Elt F) ℕ (UR sig nD τ) ℕ

/-! ## The body's branch conditions -/

/-- The condition of the body's first branch, of the grid coordinates. -/
abbrev cond0_0 (i : grid0.Coords) : Prop := k0_cond1 i = 1#1
/-- It holds at the points ≡ 6 (mod 7) — by arithmetic of the point. -/
theorem hcond0_0 : ∀ t : Fin cfg0.N, cond0_0 (grid0.coords t) ↔ t.val % 7 = 6 :=
  (fun t => by
    have ht : t.val < 84 := Nat.lt_of_lt_of_eq t.isLt N_0
    have e0 : (grid0.coords t 0).val = t.val / 7 % 12 := Pipeline.Grid.coords_val t 0 (by decide) rfl
    have e1 : (grid0.coords t 1).val = t.val / 1 % 7 := Pipeline.Grid.coords_val t 1 (by decide) rfl
    simp only [cond0_0, k0_cond1, e0, e1]
    word_cmp
   : ∀ t : Fin grid0.N, cond0_0 (grid0.coords t) ↔ t.val % 7 = 6)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl

/-- Each window's current staging memref at point `t`, spelled as the pipeline passes it (`bodyAt0`), and its wholeness. -/
abbrev ms0_0 (t : Fin cfg0.N) : Memref sig .tc .vmem S512x1792 .fp8e4m3 := win0_0.stage (cfg0.slots t 0)
/-- which is a whole buffer. -/
abbrev hs0_0 (t : Fin cfg0.N) : (ms0_0 t).IsWhole := hstage0_0 ((cfg0.slots t 0).cast nbuf0_0)
/-- The buffer window 1 uses at a point, -/
abbrev ms0_1 (t : Fin cfg0.N) : Memref sig .tc .vmem S512x1 .f32 := win0_1.stage (cfg0.slots t 1)
/-- which is a whole buffer. -/
abbrev hs0_1 (t : Fin cfg0.N) : (ms0_1 t).IsWhole := hstage0_1 ((cfg0.slots t 1).cast nbuf0_1)
/-- The buffer window 2 uses at a point, -/
abbrev ms0_2 (t : Fin cfg0.N) : Memref sig .tc .vmem S224x1024 .i32 := win0_2.stage (cfg0.slots t 2)
/-- which is a whole buffer. -/
abbrev hs0_2 (t : Fin cfg0.N) : (ms0_2 t).IsWhole := hstage0_2 ((cfg0.slots t 2).cast nbuf0_2)
/-- The buffer window 3 uses at a point, -/
abbrev ms0_3 (t : Fin cfg0.N) : Memref sig .tc .vmem S14x1024 .fp8e4m3 := win0_3.stage (cfg0.slots t 3)
/-- which is a whole buffer. -/
abbrev hs0_3 (t : Fin cfg0.N) : (ms0_3 t).IsWhole := hstage0_3 ((cfg0.slots t 3).cast nbuf0_3)
/-- The buffer window 4 uses at a point, -/
abbrev ms0_4 (t : Fin cfg0.N) : Memref sig .tc .vmem S14x1024 .i8 := win0_4.stage (cfg0.slots t 4)
/-- which is a whole buffer. -/
abbrev hs0_4 (t : Fin cfg0.N) : (ms0_4 t).IsWhole := hstage0_4 ((cfg0.slots t 4).cast nbuf0_4)
/-- The buffer window 5 uses at a point, -/
abbrev ms0_5 (t : Fin cfg0.N) : Memref sig .tc .vmem S1x1024 .f32 := win0_5.stage (cfg0.slots t 5)
/-- which is a whole buffer. -/
abbrev hs0_5 (t : Fin cfg0.N) : (ms0_5 t).IsWhole := hstage0_5 ((cfg0.slots t 5).cast nbuf0_5)
/-- The buffer window 6 uses at a point, -/
abbrev ms0_6 (t : Fin cfg0.N) : Memref sig .tc .vmem S512x1024 .bf16 := win0_6.stage (cfg0.slots t 6)
/-- which is a whole buffer. -/
abbrev hs0_6 (t : Fin cfg0.N) : (ms0_6 t).IsWhole := hstage0_6 ((cfg0.slots t 6).cast nbuf0_6)
/-- The buffer window 7 uses at a point, -/
abbrev ms0_7 (t : Fin cfg0.N) : Memref sig .tc .vmem S1x7168 .f32 := win0_7.stage (cfg0.slots t 7)
/-- which is a whole buffer. -/
abbrev hs0_7 (t : Fin cfg0.N) : (ms0_7 t).IsWhole := hstage0_7 ((cfg0.slots t 7).cast nbuf0_7)
/-- The buffer window 8 uses at a point, -/
abbrev ms0_8 (t : Fin cfg0.N) : Memref sig .tc .vmem S512x7168 .f32 := win0_8.stage (cfg0.slots t 8)
/-- which is a whole buffer. -/
abbrev hs0_8 (t : Fin cfg0.N) : (ms0_8 t).IsWhole := hstage0_8 ((cfg0.slots t 8).cast nbuf0_8)
/-- The buffer window 9 uses at a point, -/
abbrev ms0_9 (t : Fin cfg0.N) : Memref sig .tc .vmem S512x7168 .fp8e4m3 := win0_9.stage (cfg0.slots t 9)
/-- which is a whole buffer. -/
abbrev hs0_9 (t : Fin cfg0.N) : (ms0_9 t).IsWhole := hstage0_9 ((cfg0.slots t 9).cast nbuf0_9)
/-- The buffer window 10 uses at a point, -/
abbrev ms0_10 (t : Fin cfg0.N) : Memref sig .tc .vmem S512x1 .f32 := win0_10.stage (cfg0.slots t 10)
/-- which is a whole buffer. -/
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1792x1024 .bf16 := Memref.whole cc0_scratch0

/-- The invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The columns of the block of `h` a point writes. -/
theorem off1 : ∀ t : Fin cfg0.N, k0_off1 (grid0.coords t) = ![0, t.val % 7 * 1024] := by decide +kernel

/-- At the last of the 7 points of a block of rows they start at 6144. -/
theorem off1_last : ∀ t : Fin cfg0.N, t.val % 7 = 6 → k0_off1 (grid0.coords t) = ![0, 6144] := by
  decide +kernel

/-- Where output 9's window is idle (all but the last point of a block of rows). -/
theorem idleAt0_9 : ∀ t : Fin cfg0.N, ¬t.val % 7 = 6 → cfg0.idle 9 (grid0.coords t) = true := by decide +kernel
/-- Window 9 is not written back at the other points. -/
theorem noFlush0_9 : ∀ t : Fin cfg0.N, ¬t.val % 7 = 6 → (cfg0.win 9).flush t = false := by decide +kernel
/-- Window 9 is in use at the points that store it. -/
theorem liveAt0_9 : ∀ t : Fin cfg0.N, t.val % 7 = 6 → cfg0.idle 9 (grid0.coords t) = false := by decide +kernel
/-- Where output 10's window is idle (all but the last point of a block of rows). -/
theorem idleAt0_10 : ∀ t : Fin cfg0.N, ¬t.val % 7 = 6 → cfg0.idle 10 (grid0.coords t) = true := by decide +kernel
/-- Window 10 is not written back at the other points. -/
theorem noFlush0_10 : ∀ t : Fin cfg0.N, ¬t.val % 7 = 6 → (cfg0.win 10).flush t = false := by decide +kernel
/-- Window 10 is in use at the points that store it. -/
theorem liveAt0_10 : ∀ t : Fin cfg0.N, t.val % 7 = 6 → cfg0.idle 10 (grid0.coords t) = false := by decide +kernel

/-- Output 8's buffer is never filled from its array, and goes back at the last point of a block of rows. -/
theorem fetch0_8 : ∀ t : Fin cfg0.N, (cfg0.win 8).fetch t = false := by decide +kernel
/-- When window 8 is written back. -/
theorem flush0_8 : ∀ t : Fin cfg0.N, (cfg0.win 8).flush t = true ↔ t.val % 7 = 6 := by decide +kernel

end Cert.OprojIdeal.Hand

end
-- ==== Proof.OprojRunA.lean ====
module

public import proofs.«01_k».proof.Proof.OprojKit

@[expose] public section

set_option maxRecDepth 16384

noncomputable section

namespace Cert.OprojIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OprojIdeal.Gen

variable {F : FTy → Type} [FloatOps F]

local notation "𝕄" => MT nD τ sig Unit (Elt F) ℕ (UR sig nD τ) ℕ

set_option maxHeartbeats 8000000 in
/-- The body at a point that is not the last of its block of rows: from the inputs' blocks, the block of `h` at
    `x8`, it leaves the inputs and the other outputs' buffers as they were and the block of `h` at `x8` with the
    list of pieces written over it. -/
noncomputable def run_A (c : Dev nD) (i : grid0.Coords) (arg2 : Memref sig .tc .vmem S512x1792 .fp8e4m3) (harg2 : arg2.IsWhole) (arg3 : Memref sig .tc .vmem S512x1 .f32) (harg3 : arg3.IsWhole) (arg4 : Memref sig .tc .vmem S224x1024 .i32) (harg4 : arg4.IsWhole) (arg5 : Memref sig .tc .vmem S14x1024 .fp8e4m3) (harg5 : arg5.IsWhole) (arg6 : Memref sig .tc .vmem S14x1024 .i8) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x7168 .f32) (harg9 : arg9.IsWhole) (arg10 : Memref sig .tc .vmem S512x7168 .f32) (harg10 : arg10.IsWhole) (arg11 : Memref sig .tc .vmem S512x7168 .fp8e4m3) (harg11 : arg11.IsWhole) (arg12 : Memref sig .tc .vmem S512x1 .f32) (harg12 : arg12.IsWhole) (arg13 : Memref sig .tc .vmem S1792x1024 .bf16) (harg13 : arg13.IsWhole) (hc0 : ¬cond0_0 i)
    (x0 : Vec F S512x1792 .fp8e4m3) (x1 : Vec F S512x1 .f32) (x2 : Vec F S224x1024 .i32) (x3 : Vec F S14x1024 .fp8e4m3) (x4 : Vec F S14x1024 .i8) (x5 : Vec F S1x1024 .f32) (x6 : Vec F S512x1024 .bf16) (x7 : Vec F S1x7168 .f32) (x8 : Vec F S512x7168 .f32) :
    { L8 : List (View.Piece (Elt F) S512x7168 .f32) //
      ∀ (xi9 : Vec F S512x7168 .fp8e4m3) (xi10 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg10.view.loc (c : Thread nD τ) ↦[arg10.view.set]{fullShare} arg10.view.writes (Elt F) (harg10.unread x8) L8) ∗ owns (c : Thread nD τ) arg11 fullShare xi9 ∗ owns (c : Thread nD τ) arg12 fullShare xi10 ∗ (∃ d, owns (c : Thread nD τ) arg13 fullShare d)) -∗ K ⟨⟩))
          ⊢ wp frame (wpE (defs₀ (F := F)) Variants.none c none) E (cc0_o_proj i arg2 harg2 arg3 harg3 arg4 harg4 arg5 harg5 arg6 harg6 arg7 harg7 arg8 harg8 arg9 harg9 arg10 harg10 arg11 harg11 arg12 harg12 arg13 harg13) K } := by
  refine ⟨?_, fun xi9 xi10 E K => ?run⟩
  case run =>
    simp only [cc0_o_proj_eq_skeleton]; unfold cc0_o_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexact H8
    isplitl [H9]
    · iexists _; isplitr; · ipureintro; exact harg11.read_unread _
      iexact H9
    isplitl [H10]
    · iexists _; isplitr; · ipureintro; exact harg12.read_unread _
      iexact H10
    iexists _, _; isplitr; swap; · iexact HS0
    ipureintro; rfl

end Cert.OprojIdeal.Hand

end
-- ==== Proof.OprojRunB.lean ====
module

public import proofs.«01_k».proof.Proof.OprojRunA

@[expose] public section

set_option maxRecDepth 16384

noncomputable section

namespace Cert.OprojIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OprojIdeal.Gen

variable {F : FTy → Type} [FloatOps F]

local notation "𝕄" => MT nD τ sig Unit (Elt F) ℕ (UR sig nD τ) ℕ

set_option maxHeartbeats 8000000 in
/-- The body at the last point of a block of rows: from the inputs' blocks, the block of `h` at `x8`, it leaves
    the inputs as they were, the block of `h` at `x8` with the list of pieces written over it, and the two other
    outputs' buffers at the lists of pieces. -/
noncomputable def run_B (c : Dev nD) (i : grid0.Coords) (arg2 : Memref sig .tc .vmem S512x1792 .fp8e4m3) (harg2 : arg2.IsWhole) (arg3 : Memref sig .tc .vmem S512x1 .f32) (harg3 : arg3.IsWhole) (arg4 : Memref sig .tc .vmem S224x1024 .i32) (harg4 : arg4.IsWhole) (arg5 : Memref sig .tc .vmem S14x1024 .fp8e4m3) (harg5 : arg5.IsWhole) (arg6 : Memref sig .tc .vmem S14x1024 .i8) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x7168 .f32) (harg9 : arg9.IsWhole) (arg10 : Memref sig .tc .vmem S512x7168 .f32) (harg10 : arg10.IsWhole) (arg11 : Memref sig .tc .vmem S512x7168 .fp8e4m3) (harg11 : arg11.IsWhole) (arg12 : Memref sig .tc .vmem S512x1 .f32) (harg12 : arg12.IsWhole) (arg13 : Memref sig .tc .vmem S1792x1024 .bf16) (harg13 : arg13.IsWhole) (hc0 : cond0_0 i) (hl0 : k0_off1 i = ![0, 6144])
    (x0 : Vec F S512x1792 .fp8e4m3) (x1 : Vec F S512x1 .f32) (x2 : Vec F S224x1024 .i32) (x3 : Vec F S14x1024 .fp8e4m3) (x4 : Vec F S14x1024 .i8) (x5 : Vec F S1x1024 .f32) (x6 : Vec F S512x1024 .bf16) (x7 : Vec F S1x7168 .f32) (x8 : Vec F S512x7168 .f32) :
    Σ' (L9 : List (View.Piece (Elt F) S512x7168 .fp8e4m3)), Σ' (L10 : List (View.Piece (Elt F) S512x1 .f32)), { L8 : List (View.Piece (Elt F) S512x7168 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg10.view.loc (c : Thread nD τ) ↦[arg10.view.set]{fullShare} arg10.view.writes (Elt F) (harg10.unread x8) L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ d, owns (c : Thread nD τ) arg13 fullShare d)) -∗ K ⟨⟩))
          ⊢ wp frame (wpE (defs₀ (F := F)) Variants.none c none) E (cc0_o_proj i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    letI : ClosedOff (k0_off1 i) := ⟨![0, 6144], hl0⟩
    simp only [cc0_o_proj_eq_skeleton]; unfold cc0_o_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexact H8
    isplitl [H9]; · iexists _; iexact H9
    isplitl [H10]; · iexists _; iexact H10
    iexists _, _; isplitr; swap; · iexact HS0
    ipureintro; rfl

end Cert.OprojIdeal.Hand

end
-- ==== Proof.Norm.lean ====
module

public import proofs.«01_k».proof.Proof.Quant
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe

namespace W4

/-- The quantiser's scale of a column of largest magnitudes, as the programs compute it. -/
theorem scale_col {T : ℕ} (aa : FVec Ideal ⟨2, ![T, 1]⟩ .f32) (r : Fin T) (j : Fin 1) :
    select (cmpf .oeq aa (broadcast ⟨2, ![T, 1]⟩ (Scalar.ofBits .f32 0x00000000#32)))
      (broadcast ⟨2, ![T, 1]⟩ (Scalar.ofBits .f32 0x3F800000#32))
      (divf aa (broadcast ⟨2, ![T, 1]⟩ (Scalar.ofBits .f32 0x43E00000#32))) (ix2 r j) = scaleOf (aa (ix2 r j)) := by
  unfold scaleOf
  pointwise []

end W4
-- ==== Proof.OprojValue.lean ====
module

public import proofs.«01_k».proof.Proof.OprojRunB
public import proofs.«01_k».proof.Proof.Norm
public import proofs.«01_k».proof.Proof.W4
public import proofs.«01_k».proof.Proof.Rows
public import Idealize.ShloMosaic.Lib.WritesUnit
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
namespace Cert.OprojIdeal.Hand
open Cert.OprojIdeal Cert.OprojIdeal.Gen

/-- One group of the weight block, as the kernel stores it: row `r` of the group takes nibble `r % 8` of
    word row `r / 8`, and the group's one zero point and one scale. -/
theorem group_at (w : Vec Ideal S16x1024 .i32) (z : Vec Ideal S1x1024 .i8) (s : Vec Ideal S1x1024 .fp8e4m3)
    (r : Fin 128) (j : Fin 1024) :
    k0_pay5 (F := Ideal) w z s (ix2 r j)
      = W4.weight (w (ix2 ⟨r / 8, by omega⟩ j)) (r % 8) (z (ix2 0 j)) (s (ix2 0 j)) := by
  pointwise [k0_pay5]
  exact W4.kernel_weight _ _ (Nat.mod_lt _ (by decide)) _ _

/-- The weight block of a grid point: the packed block's own weights. -/
abbrev block (X2 : Vec Ideal S224x1024 .i32) (X4 : Vec Ideal S14x1024 .i8) (X3 : Vec Ideal S14x1024 .fp8e4m3) :
    Vec Ideal S1792x1024 .bf16 := fun y =>
  W4.weights (K := 1792) (R := 224) (Q := 14) (N := 1024) rfl rfl X2 X4 X3 (y 0) (y 1)

/-- Storing group `g` at rows `128 g` onwards extends the filled part of the weight block by 128 rows. -/
theorem group_step (X2 : Vec Ideal S224x1024 .i32) (X4 : Vec Ideal S14x1024 .i8) (X3 : Vec Ideal S14x1024 .fp8e4m3)
    {L : List (View.Piece (Elt Ideal) S1792x1024 .bf16)} {a g : ℕ} (ha : a = 128 * g) (hg : g < 14)
    {ia : ∀ i, ![a, 0] i + ![128, 1024] i ≤ S1792x1024.size i}
    {w : (Rect.unit (s := S1792x1024) ![a, 0] ![128, 1024] ia).shape.Idx → Elt Ideal .bf16}
    (hL : W4.Filled L (block X2 X4 X3) 1024 (128 * g) 0)
    (hw : w = k0_pay5 (F := Ideal) (View.ld X2 (Rect.unit ![16 * g, 0] ![16, 1024] (W4.inb2 (by omega))))
      (View.ld X4 (Rect.unit ![g, 0] ![1, 1024] (W4.inb2 (by omega))))
      (View.ld X3 (Rect.unit ![g, 0] ![1, 1024] (W4.inb2 (by omega))))) :
    W4.Filled (⟨Rect.unit (s := S1792x1024) ![a, 0] ![128, 1024] ia, w⟩ :: L) (block X2 X4 X3) 1024 (128 * (g + 1)) 0 := by
  subst ha
  refine W4.Filled.left (Nat.mul_succ _ _) hL fun x => ?_
  rw [hw]
  have e0 : ((Rect.unit (s := S1792x1024) ![128 * g, 0] ![128, 1024] ia).emb x 0 : ℕ) = 128 * g + x 0 :=
    ValueKit.rect_emb_unit_val _ _ ia x 0
  have e1 : ((Rect.unit (s := S1792x1024) ![128 * g, 0] ![128, 1024] ia).emb x 1 : ℕ) = 0 + x 1 :=
    ValueKit.rect_emb_unit_val _ _ ia x 1
  generalize (Rect.unit (s := S1792x1024) ![128 * g, 0] ![128, 1024] ia).emb x = z at e0 e1 ⊢
  idx_vars x
  idx_vars z
  exact (group_at _ _ _ _ _).trans
    (W4.weight_of_group rfl rfl X2 X4 X3 rfl rfl _ _ x0 x1 z0 z1 e0 (Fin.ext (by omega)) rfl rfl rfl)

/-- What the body stores over a weight block `W`: the carried rows plus the rescaled product. -/
theorem body_at (x0 : Vec Ideal S512x1792 .fp8e4m3) (x1 : Vec Ideal S512x1 .f32) (x5 : Vec Ideal S1x1024 .f32)
    (x6 : Vec Ideal S512x1024 .bf16) (W : Vec Ideal S1792x1024 .bf16) (V : Fin 1792 → Fin 1024 → EReal)
    (hW : ∀ k n, W (ix2 k n) = V k n) (r : Fin 512) (j : Fin 1024) :
    k0_pay1 (F := Ideal) (k0_pay34 x0 W) (k0_pay35 x6) x1 x5 (ix2 r j)
      = x6 (ix2 r j) + (∑ k, x0 (ix2 r k) * V k j) * x1 (ix2 r 0) * x5 (ix2 0 j) := by
  pointwise [k0_pay1, k0_pay34, k0_pay35]
  simp only [hW]

/-- The normed rows of a block, read at an element. -/
theorem normed_at (x : Vec Ideal S512x7168 .f32) (g : Vec Ideal S1x7168 .f32) (r : Fin 512) (j : Fin 7168) :
    k0_pay2 (F := Ideal) x g (ix2 r j) = W4.normed (fun n => x (ix2 r n)) (fun n => g (ix2 0 n)) j := by
  unfold W4.normed
  pointwise [k0_pay2]

/-- The largest magnitudes of a block's rows. -/
theorem max_at (hh : FVec Ideal S512x7168 .f32) (r : Fin 512) (j : Fin 1) :
    shapeCast S512x1 (multiReduction .maximumf [1] S512 (absf hh) 0xFF800000#32 reduces_S512x7168_S512 (.inl rfl) rfl)
      shapeCasts_S512_S512x1 (ix2 r j) = W4.rowmax fun n => hh (ix2 r n) := by
  unfold W4.rowmax
  pointwise []

/-- The codes of a block's rows with given scales. -/
theorem codes_at (hh : FVec Ideal S512x7168 .f32) (aa : FVec Ideal S512x1 .f32) (r : Fin 512) (j : Fin 7168) :
    truncf .fp8e4m3 (minimumf (broadcast S512x7168 (Scalar.ofBits .f32 0x43E00000#32))
      (maximumf (broadcast S512x7168 (Scalar.ofBits .f32 0xC3E00000#32))
        (divf hh (broadcastTo S512x7168 aa broadcasts_S512x1_S512x7168)))) bitsLt_fp8e4m3_f32 (ix2 r j)
      = W4.codeOf (hh (ix2 r j)) (aa (ix2 r 0)) := by
  unfold W4.codeOf
  pointwise []

/-- The scale of a block's row. -/
theorem scale_at (x : Vec Ideal S512x7168 .f32) (g : Vec Ideal S1x7168 .f32) (r : Fin 512) (j : Fin 1) :
    k0_pay3 (F := Ideal) x g (ix2 r j) = W4.scaleOf (W4.rowmax (W4.normed (fun n => x (ix2 r n)) fun n => g (ix2 0 n))) :=
  (W4.scale_col _ r j).trans (congrArg W4.scaleOf ((max_at (k0_pay2 (F := Ideal) x g) r j).trans
    (congrArg W4.rowmax (funext fun n => normed_at x g r n))))

/-- A code of a block's row. -/
theorem code_at (x : Vec Ideal S512x7168 .f32) (g : Vec Ideal S1x7168 .f32) (r : Fin 512) (j : Fin 7168) :
    k0_pay4 (F := Ideal) x g (ix2 r j)
      = W4.codeOf (W4.normed (fun n => x (ix2 r n)) (fun n => g (ix2 0 n)) j)
        (W4.scaleOf (W4.rowmax (W4.normed (fun n => x (ix2 r n)) fun n => g (ix2 0 n)))) :=
  (codes_at (k0_pay2 (F := Ideal) x g) (k0_pay3 (F := Ideal) x g) r j).trans
    (congrArg₂ W4.codeOf (normed_at x g r j) (scale_at x g r 0))

/-! ## One grid point -/

section
variable (c : Dev nD) (i : grid0.Coords)
variable (arg2 : Memref sig .tc .vmem S512x1792 .fp8e4m3) (harg2 : arg2.IsWhole) (arg3 : Memref sig .tc .vmem S512x1 .f32) (harg3 : arg3.IsWhole) (arg4 : Memref sig .tc .vmem S224x1024 .i32) (harg4 : arg4.IsWhole) (arg5 : Memref sig .tc .vmem S14x1024 .fp8e4m3) (harg5 : arg5.IsWhole) (arg6 : Memref sig .tc .vmem S14x1024 .i8) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x7168 .f32) (harg9 : arg9.IsWhole) (arg10 : Memref sig .tc .vmem S512x7168 .f32) (harg10 : arg10.IsWhole) (arg11 : Memref sig .tc .vmem S512x7168 .fp8e4m3) (harg11 : arg11.IsWhole) (arg12 : Memref sig .tc .vmem S512x1 .f32) (harg12 : arg12.IsWhole) (arg13 : Memref sig .tc .vmem S1792x1024 .bf16) (harg13 : arg13.IsWhole)
variable (x0 : Vec Ideal S512x1792 .fp8e4m3) (x1 : Vec Ideal S512x1 .f32) (x2 : Vec Ideal S224x1024 .i32) (x3 : Vec Ideal S14x1024 .fp8e4m3) (x4 : Vec Ideal S14x1024 .i8) (x5 : Vec Ideal S1x1024 .f32) (x6 : Vec Ideal S512x1024 .bf16) (x7 : Vec Ideal S1x7168 .f32) (x8 : Vec Ideal S512x7168 .f32)

/-- The weight block as the body reads it back. -/
theorem weights_A (k : Fin 1792) (n : Fin 1024) :
    run_A.sl.v450 (F := Ideal) c arg4 harg4 arg5 harg5 arg6 harg6 arg13 x2 x3 x4 (ix2 k n) = block x2 x4 x3 (ix2 k n) := by
  refine Eq.trans (b := block (arg4.view.read (Elt Ideal) (harg4.unread x2))
    (arg6.view.read (Elt Ideal) (harg6.unread x4)) (arg5.view.read (Elt Ideal) (harg5.unread x3)) (ix2 k n)) ?_
    (by rw [harg4.read_unread, harg5.read_unread, harg6.read_unread])
  unfold run_A.sl.v450
  rw [View.readCov_eq_canon']
  have hF := fun L G (hL : W4.Filled (K := 1792) (N := 1024) (e := .bf16) L G 1024 (128 * 14) 0) =>
    hL (ix2 k n) (Or.inl ⟨n.isLt, k.isLt⟩)
  refine Eq.trans (congrArg _ (W4.idx_whole _ _)) (hF _ _ ?_)
  iterate 14 refine group_step _ _ _ rfl (by decide) ?_ rfl
  exact W4.Filled.nil _ _

/-- The tile of `h` the body computes from its blocks, at an element. -/
abbrev tileAt (r : Fin 512) (j : Fin 1024) : EReal :=
  x6 (ix2 r j) + W4.linear (K := 1792) (R := 224) (Q := 14) rfl rfl x0 x1 x2 x3 x4 x5 r j

/-- Reading the whole of a buffer holding `x` reads `x`. -/
theorem read_whole {A B : ℕ} {e : EltTy} (M : Memref sig .tc .vmem ⟨2, ![A, B]⟩ e) (hM : M.IsWhole)
    (x : Vec Ideal ⟨2, ![A, B]⟩ e) (inb) :
    View.readAt (Elt Ideal) M.view (Rect.unit (s := ⟨2, ![A, B]⟩) ![0, 0] (⟨2, ![A, B]⟩ : Shape).size inb).toLoadRect (hM.unread x) = x := by
  funext y
  exact (congrFun (hM.read_unread x) _).trans (congrArg x (W4.idx_whole inb y))

/-- What a point stores to its columns of `h`. -/
theorem tile_A (inb1 inb5) (r : Fin 512) (j : Fin 1024) :
    k0_pay1 (F := Ideal) (run_A.sl.r_13 c arg2 harg2 arg4 harg4 arg5 harg5 arg6 harg6 arg13 x0 x2 x3 x4) (run_A.sl.r_14 c arg8 harg8 x6)
      (View.readAt (Elt Ideal) arg3.view (Rect.unit (s := S512x1) ![0, 0] S512x1.size inb1).toLoadRect (harg3.unread x1))
      (View.readAt (Elt Ideal) arg7.view (Rect.unit (s := S1x1024) ![0, 0] S1x1024.size inb5).toLoadRect (harg7.unread x5)) (ix2 r j)
      = tileAt x0 x1 x2 x3 x4 x5 x6 r j := by
  unfold run_A.sl.r_13 run_A.sl.r_14
  rw [read_whole arg2 harg2, read_whole arg3 harg3, read_whole arg7 harg7, read_whole arg8 harg8]
  exact body_at _ _ _ _ _ _ (weights_A c arg4 harg4 arg5 harg5 arg6 harg6 arg13 x2 x3 x4) r j

/-- The columns of `h` below `b` hold the rows `H`. -/
def Upto (H : Fin 512 → Fin 7168 → EReal) (b : ℕ) (x : Vec Ideal S512x7168 .f32) : Prop :=
  ∀ (r : Fin 512) (n : Fin 7168), (n : ℕ) < b → x (ix2 r n) = H r n

section
variable (H : Fin 512 → Fin 7168 → EReal) (q : ℕ)
variable (hx : Upto H (q * 1024) x8) (ho : k0_off1 i = ![0, q * 1024])
  (hn : ∀ (r : Fin 512) (j : Fin 1024) (n : Fin 7168), (n : ℕ) = q * 1024 + j → tileAt x0 x1 x2 x3 x4 x5 x6 r j = H r n)
include hx ho hn

/-- A point that is not the last of its block of rows adds its columns. -/
theorem step_A (hc0 : ¬cond0_0 i) : Upto H ((q + 1) * 1024) (arg10.view.read (Elt Ideal) (arg10.view.writes (Elt Ideal) (harg10.unread x8)
    (run_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1)) := by
  intro r n hlt
  unfold run_A
  by_cases h : (n : ℕ) < q * 1024
  · refine (View.read_writes_cons_unit_of_not_mem _ _ _ _ [] (ix2 r n) ho 1 (Or.inl h)).trans ?_
    exact (congrFun (harg10.read_unread x8) _).trans (hx r n h)
  · have hb : (n : ℕ) - q * 1024 < 1024 := by omega
    refine (View.read_writes_cons_unit_of_mem _ _ _ _ [] (ix2 r n) (ix2 r ⟨(n : ℕ) - q * 1024, hb⟩) ho fun a => ?_).trans ?_
    · match a with
      | ⟨0, _⟩ => exact (Nat.zero_add _).symm
      | ⟨1, _⟩ => show (n : ℕ) = q * 1024 + ((n : ℕ) - q * 1024); omega
    · exact (tile_A c arg2 harg2 arg3 harg3 arg4 harg4 arg5 harg5 arg6 harg6 arg7 harg7 arg8 harg8 arg13 x0 x1 x2 x3 x4 x5 x6 _ _ r ⟨(n : ℕ) - q * 1024, hb⟩).trans
        (hn r ⟨(n : ℕ) - q * 1024, hb⟩ n (by show (n : ℕ) = q * 1024 + ((n : ℕ) - q * 1024); omega))

/-- So does the last one. -/
theorem step_B : Upto H ((q + 1) * 1024) (arg10.view.read (Elt Ideal) (arg10.view.writes (Elt Ideal) (harg10.unread x8)
    (run_B.sl.H8_1 (F := Ideal) c i arg2 harg2 arg3 harg3 arg4 harg4 arg5 harg5 arg6 harg6 arg7 harg7 arg8 harg8 arg13 x0 x1 x2 x3 x4 x5 x6))) := by
  intro r n hlt
  unfold run_B.sl.H8_1
  by_cases h : (n : ℕ) < q * 1024
  · refine (View.read_writes_cons_unit_of_not_mem _ _ _ _ [] (ix2 r n) ho 1 (Or.inl h)).trans ?_
    exact (congrFun (harg10.read_unread x8) _).trans (hx r n h)
  · have hb : (n : ℕ) - q * 1024 < 1024 := by omega
    refine (View.read_writes_cons_unit_of_mem _ _ _ _ [] (ix2 r n) (ix2 r ⟨(n : ℕ) - q * 1024, hb⟩) ho fun a => ?_).trans ?_
    · match a with
      | ⟨0, _⟩ => exact (Nat.zero_add _).symm
      | ⟨1, _⟩ => show (n : ℕ) = q * 1024 + ((n : ℕ) - q * 1024); omega
    · exact (tile_A c arg2 harg2 arg3 harg3 arg4 harg4 arg5 harg5 arg6 harg6 arg7 harg7 arg8 harg8 arg13 x0 x1 x2 x3 x4 x5 x6 _ _ r ⟨(n : ℕ) - q * 1024, hb⟩).trans
        (hn r ⟨(n : ℕ) - q * 1024, hb⟩ n (by show (n : ℕ) = q * 1024 + ((n : ℕ) - q * 1024); omega))
end

/-- The quantised codes of normed rows `H`. -/
def blockCodes (H : Fin 512 → Fin 7168 → EReal) (g : Vec Ideal S1x7168 .f32) : Vec Ideal S512x7168 .fp8e4m3 := fun y =>
  W4.codeOf (W4.normed (H (y 0)) (fun n => g (ix2 0 n)) (y 1))
    (W4.scaleOf (W4.rowmax (W4.normed (H (y 0)) fun n => g (ix2 0 n))))

/-- The quantiser's scales of normed rows `H`. -/
def blockScales (H : Fin 512 → Fin 7168 → EReal) (g : Vec Ideal S1x7168 .f32) : Vec Ideal S512x1 .f32 := fun y =>
  W4.scaleOf (W4.rowmax (W4.normed (H (y 0)) fun n => g (ix2 0 n)))

section
variable (H : Fin 512 → Fin 7168 → EReal)
variable (hx : Upto H (6 * 1024) x8) (hl0 : k0_off1 i = ![0, 6144])
  (hn : ∀ (r : Fin 512) (j : Fin 1024) (n : Fin 7168), (n : ℕ) = 6 * 1024 + j → tileAt x0 x1 x2 x3 x4 x5 x6 r j = H r n)
include hx hl0 hn

/-- The rows the last point reads back are all of `H`. -/
theorem last_rows (r : Fin 512) :
    (fun n => run_B.sl.v469 (F := Ideal) c i arg2 harg2 arg3 harg3 arg4 harg4 arg5 harg5 arg6 harg6 arg7 harg7 arg8 harg8 arg10 harg10 arg13 x0 x1 x2 x3 x4 x5 x6 x8 (ix2 r n)) = H r := by
  funext n
  unfold run_B.sl.v469
  refine Eq.trans ?_ (step_B c i arg2 harg2 arg3 harg3 arg4 harg4 arg5 harg5 arg6 harg6 arg7 harg7 arg8 harg8 arg10 harg10 arg13 x0 x1 x2 x3 x4 x5 x6 x8 H 6 hx hl0 hn r n (by have := n.isLt; omega))
  exact congrArg (arg10.view.read (Elt Ideal) _) (W4.idx_whole _ (ix2 r n))

/-- The codes the last point stores. -/
theorem last_codes (hc0 : cond0_0 i) :
    View.canon (run_B (F := Ideal) c i arg2 harg2 arg3 harg3 arg4 harg4 arg5 harg5 arg6 harg6 arg7 harg7 arg8 harg8 arg9 harg9 arg10 harg10 arg11 harg11 arg12 harg12 arg13 harg13 hc0 hl0 x0 x1 x2 x3 x4 x5 x6 x7 x8).1 = blockCodes H x7 := by
  funext y
  unfold run_B
  refine Eq.trans (congrArg _ (W4.idx_whole (by intro a; exact (by decide : ∀ a : Fin 2, ![0, 0] a + ![512, 7168] a ≤ S512x7168.size a) a) y).symm) ?_
  refine (View.canon_cons_emb (Rect.unit (s := S512x7168) ![0, 0] ![512, 7168] _) _ [] y).trans ?_
  rw [read_whole arg9 harg9]
  idx_vars y
  refine (code_at _ _ y0 y1).trans ?_
  rw [last_rows c i arg2 harg2 arg3 harg3 arg4 harg4 arg5 harg5 arg6 harg6 arg7 harg7 arg8 harg8 arg10 harg10 arg13 x0 x1 x2 x3 x4 x5 x6 x8 H hx hl0 hn y0]
  rfl

/-- The scales the last point stores. -/
theorem last_scales (hc0 : cond0_0 i) :
    View.canon (run_B (F := Ideal) c i arg2 harg2 arg3 harg3 arg4 harg4 arg5 harg5 arg6 harg6 arg7 harg7 arg8 harg8 arg9 harg9 arg10 harg10 arg11 harg11 arg12 harg12 arg13 harg13 hc0 hl0 x0 x1 x2 x3 x4 x5 x6 x7 x8).2.1 = blockScales H x7 := by
  funext y
  unfold run_B
  refine Eq.trans (congrArg _ (W4.idx_whole (by intro a; exact (by decide : ∀ a : Fin 2, ![0, 0] a + ![512, 1] a ≤ S512x1.size a) a) y).symm) ?_
  refine (View.canon_cons_emb (Rect.unit (s := S512x1) ![0, 0] ![512, 1] _) _ [] y).trans ?_
  rw [read_whole arg9 harg9]
  idx_vars y
  refine (scale_at _ _ y0 y1).trans ?_
  rw [last_rows c i arg2 harg2 arg3 harg3 arg4 harg4 arg5 harg5 arg6 harg6 arg7 harg7 arg8 harg8 arg10 harg10 arg13 x0 x1 x2 x3 x4 x5 x6 x8 H hx hl0 hn y0]
  rfl
end
end
end Cert.OprojIdeal.Hand
-- ==== Proof.OprojBody.lean ====
module

public import proofs.«01_k».proof.Proof.OprojValue
public import Idealize.ShloMosaic.Lib.Pipeline.DatRel
public import Idealize.ShloMosaic.Lib.Pipeline.ArrRel

@[expose] public section
set_option maxRecDepth 16384
noncomputable section

namespace W4
open Idealize.ShloMosaic Idealize.ShloMosaic.TcCoe
open Idealize.SL Idealize.SL.RA Idealize.SL.Sem
open Idealize.ShloMosaic.Pipeline (Dat RDat Cfg Window)

/-- An array under data that hold some windows to a predicate is the exact data's, if at each write-back the predicate
    leaves one choice. -/
theorem arr_of_rel {nD : Nat} {τ : Topo} {sig : RefSig} {Val : EltTy → Type} {Λ₀ : Idealize.SL.Sem.Labels}
    {Ix : Type} [DecidableEq Ix] {Name : Type} [DecidableEq Name] {U : Type} [URA U] {Lvl : Type}
    [∀ e, Nonempty (Val e)]
    {cfg : Cfg sig Λ₀} {c : Dev nD} (dat : Dat τ Val Ix Name U Lvl cfg c) {fgt : Fin cfg.W → Bool}
    {Rl : (w : Fin cfg.W) → Fin cfg.N → ((cfg.win w).block.Idx → Val (cfg.win w).elt) → Prop}
    {w : Fin cfg.W} {n : ℕ} {G : Buf Val ((cfg.win w).arr.view.loc (c.tc : Thread nD τ))}
    (hG : (dat.toRRel fgt Rl).ArrAt w n G)
    (h : fgt w = true → ∀ u : Fin cfg.N, (cfg.win w).flush u = true → ∀ X, Rl w u X → X = dat.after w u) :
    G = dat.arrAt w n := by
  cases hf : fgt w
  · exact (dat.toR_arrAt_iff w n G).mp ((dat.toR.override_arrAt (by simp only [hf]) n G).mp hG)
  · obtain ⟨X, hX, hA⟩ := hG.exists_exact
    exact hA dat.after fun u hu hfu => (h hf u hfu _ (dat.toRRel_leaves hf (hX u hu hfu))).symm

end W4

namespace Cert.OprojIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open Cert.OprojIdeal Cert.OprojIdeal.Gen

local notation "𝕄" => MT nD τ sig Unit (Elt Ideal) ℕ (UR sig nD τ) ℕ

variable (m : (ℓ : Loc nD τ sig) → Buf (Elt Ideal) ℓ) (ρ : Dev nD → PrngReg)

/-! ## The values -/

/-- The residual stream after attention: the input plus the packed output projection. -/
def resid (C : Vec Ideal S6144x1792 .fp8e4m3) (D : Vec Ideal S6144x1 .f32) (W : Vec Ideal S224x7168 .i32)
    (S : Vec Ideal S14x7168 .fp8e4m3) (Z : Vec Ideal S14x7168 .i8) (E : Vec Ideal S1x7168 .f32)
    (X : Vec Ideal S6144x7168 .bf16) (t : Fin 6144) (n : Fin 7168) : EReal :=
  X (ix2 t n) + W4.linear (K := 1792) (R := 224) (Q := 14) rfl rfl C D W S Z E t n

/-- The residual stream of the arrays the launch finds. -/
def hres (c : Dev nD) : Fin 6144 → Fin 7168 → EReal :=
  resid (m ((c : Thread nD τ).loc main_arg0)) (m ((c : Thread nD τ).loc main_arg1)) (m ((c : Thread nD τ).loc main_arg2))
    (m ((c : Thread nD τ).loc main_arg3)) (m ((c : Thread nD τ).loc main_arg4)) (V m c main_v0)
    (m ((c : Thread nD τ).loc main_arg6))

/-- The residual stream `h` as an array. -/
def resultRows (h : Fin 6144 → Fin 7168 → EReal) : Vec Ideal S6144x7168 .f32 := fun y => h (y 0) (y 1)

/-- The quantised codes of the normed rows of `h`. -/
def resultCodes (h : Fin 6144 → Fin 7168 → EReal) (g : Vec Ideal S1x7168 .f32) : Vec Ideal S6144x7168 .fp8e4m3 := fun y =>
  W4.codeOf (W4.normed (h (y 0)) (fun n => g (ix2 0 n)) (y 1))
    (W4.scaleOf (W4.rowmax (W4.normed (h (y 0)) fun n => g (ix2 0 n))))

/-- The quantiser's scales of the normed rows of `h`. -/
def resultScales (h : Fin 6144 → Fin 7168 → EReal) (g : Vec Ideal S1x7168 .f32) : Vec Ideal S6144x1 .f32 := fun y =>
  W4.scaleOf (W4.rowmax (W4.normed (h (y 0)) fun n => g (ix2 0 n)))

/-- The block of each operand at grid point `t`: row block `t / 7`, column tile `t % 7`. -/
theorem idx : ∀ t : Fin cfg0.N, win0_0.index t = ![t.val / 7, 0] ∧ win0_1.index t = ![t.val / 7, 0]
    ∧ win0_2.index t = ![0, t.val % 7] ∧ win0_3.index t = ![0, t.val % 7] ∧ win0_4.index t = ![0, t.val % 7]
    ∧ win0_5.index t = ![0, t.val % 7] ∧ win0_6.index t = ![t.val / 7, t.val % 7] ∧ win0_7.index t = ![0, 0]
    ∧ win0_8.index t = ![t.val / 7, 0] ∧ win0_9.index t = ![t.val / 7, 0] ∧ win0_10.index t = ![t.val / 7, 0]
    ∧ t.val / 7 < 12 :=
  (by decide +kernel : ∀ t : Fin grid0.N, _)

/-- The rows of the residual stream in block `q`. -/
def rows (c : Dev nD) (q : ℕ) (r : Fin 512) (n : Fin 7168) : EReal :=
  hres m c ⟨(512 * q + r) % 6144, Nat.mod_lt _ (by decide)⟩ n

/-- A point's tile is the residual stream's at its place. -/
theorem tile_rows (c : Dev nD) (t : Fin cfg0.N) (r : Fin 512) (j : Fin 1024) (n : Fin 7168)
    (hn : (n : ℕ) = t.val % 7 * 1024 + j) :
    tileAt (iblk m c 0 t) (iblk m c 1 t) (iblk m c 2 t) (iblk m c 3 t) (iblk m c 4 t) (iblk m c 5 t) (iblk m c 6 t) r j = rows m c (t.val / 7) r n := by
  have hq : t.val / 7 < 12 := (idx t).2.2.2.2.2.2.2.2.2.2.2
  have hR : (512 * (t.val / 7) + (r : ℕ)) % 6144 = t.val / 7 * 512 + r := by omega
  unfold tileAt rows hres resid
  refine Ideal.add_congr ?_ (W4.linear_block rfl rfl (fun k => ?_) ?_ (fun k => ?_) (fun k => ?_) (fun k => ?_) ?_)
  all_goals blk_ext [iblk, V, idx t]

/-! ## The pipeline's proof data -/

/-- The proof data of the one pipeline on core `c`: after the body at point `t` each input's buffer at its block, the
    outputs' at the rows, the codes and the scales of the point's block of rows. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => fun y : S512x7168.Idx => rows m c (t.val / 7) (y 0) (y 1)
    | ⟨9, _⟩ => blockCodes (rows m c (t.val / 7)) (iblk m c 7 t)
    | ⟨10, _⟩ => blockScales (rows m c (t.val / 7)) (iblk m c 7 t)
  Φ _ := Pipeline.ΦA spec0 c
  q _ := fullShare
  owed _ := 0

/-- The window held to a predicate rather than named at every point: the block of `h`, written tile by tile. -/
def held (w : Fin cfg0.W) : Bool := w.val == 8

/-- What the block of `h` holds after point `t`: the columns written so far of the current block of rows. -/
def Rl (c : Dev nD) (w : Fin cfg0.W) (t : Fin cfg0.N) : ((cfg0.win w).block.Idx → Elt Ideal (cfg0.win w).elt) → Prop :=
  match w with
  | ⟨8, _⟩ => fun X => Upto (rows m c (t.val / 7)) ((t.val % 7 + 1) * 1024) X
  | _ => fun _ => True

/-- The same data with the block of `h` held to `Rl`. -/
def rdat (c : Dev nD) : RDat τ (Elt Ideal) Unit ℕ (UR sig nD τ) ℕ cfg0 c := (dats m 0 c).toRRel held (Rl m c)

/-- The data's arrays are those the region finds. -/
theorem A_eq (c : Dev nD) (w : Fin cfg0.W) : (dats m 0 c).A w = V m c (Pipeline.arrRef spec0 w) := by
  dsimp only [dats]

/-- What window 0's buffer holds after the body at a point. -/
theorem after0_0 (c : Dev nD) (t : Fin cfg0.N) : (dats m 0 c).after 0 t = iblk m c 0 t := by dsimp only [dats]
/-- What window 1's buffer holds after the body at a point. -/
theorem after0_1 (c : Dev nD) (t : Fin cfg0.N) : (dats m 0 c).after 1 t = iblk m c 1 t := by dsimp only [dats]
/-- What window 2's buffer holds after the body at a point. -/
theorem after0_2 (c : Dev nD) (t : Fin cfg0.N) : (dats m 0 c).after 2 t = iblk m c 2 t := by dsimp only [dats]
/-- What window 3's buffer holds after the body at a point. -/
theorem after0_3 (c : Dev nD) (t : Fin cfg0.N) : (dats m 0 c).after 3 t = iblk m c 3 t := by dsimp only [dats]
/-- What window 4's buffer holds after the body at a point. -/
theorem after0_4 (c : Dev nD) (t : Fin cfg0.N) : (dats m 0 c).after 4 t = iblk m c 4 t := by dsimp only [dats]
/-- What window 5's buffer holds after the body at a point. -/
theorem after0_5 (c : Dev nD) (t : Fin cfg0.N) : (dats m 0 c).after 5 t = iblk m c 5 t := by dsimp only [dats]
/-- What window 6's buffer holds after the body at a point. -/
theorem after0_6 (c : Dev nD) (t : Fin cfg0.N) : (dats m 0 c).after 6 t = iblk m c 6 t := by dsimp only [dats]
/-- What window 7's buffer holds after the body at a point. -/
theorem after0_7 (c : Dev nD) (t : Fin cfg0.N) : (dats m 0 c).after 7 t = iblk m c 7 t := by dsimp only [dats]
/-- What window 8's buffer holds after the body at a point. -/
theorem after0_8 (c : Dev nD) (t : Fin cfg0.N) : (dats m 0 c).after 8 t
    = fun y : S512x7168.Idx => rows m c (t.val / 7) (y 0) (y 1) := by dsimp only [dats]
/-- What window 9's buffer holds after the body at a point. -/
theorem after0_9 (c : Dev nD) (t : Fin cfg0.N) : (dats m 0 c).after 9 t
    = blockCodes (rows m c (t.val / 7)) (iblk m c 7 t) := by dsimp only [dats]
/-- What window 10's buffer holds after the body at a point. -/
theorem after0_10 (c : Dev nD) (t : Fin cfg0.N) : (dats m 0 c).after 10 t
    = blockScales (rows m c (t.val / 7)) (iblk m c 7 t) := by dsimp only [dats]

/-- What window 0's buffer holds before the body at a point: its block. -/
theorem before0_0 (c : Dev nD) (t : Fin cfg0.N) (d) : (dats m 0 c).before 0 t d = iblk m c 0 t :=
  before0_0_of m (dats m 0 c) (A_eq m c 0) (after0_0 m c) t d
/-- What window 1's buffer holds before the body at a point: its block. -/
theorem before0_1 (c : Dev nD) (t : Fin cfg0.N) (d) : (dats m 0 c).before 1 t d = iblk m c 1 t :=
  before0_1_of m (dats m 0 c) (A_eq m c 1) (after0_1 m c) t d
/-- What window 2's buffer holds before the body at a point: its block. -/
theorem before0_2 (c : Dev nD) (t : Fin cfg0.N) (d) : (dats m 0 c).before 2 t d = iblk m c 2 t :=
  before0_2_of m (dats m 0 c) (A_eq m c 2) (after0_2 m c) t d
/-- What window 3's buffer holds before the body at a point: its block. -/
theorem before0_3 (c : Dev nD) (t : Fin cfg0.N) (d) : (dats m 0 c).before 3 t d = iblk m c 3 t :=
  before0_3_of m (dats m 0 c) (A_eq m c 3) (after0_3 m c) t d
/-- What window 4's buffer holds before the body at a point: its block. -/
theorem before0_4 (c : Dev nD) (t : Fin cfg0.N) (d) : (dats m 0 c).before 4 t d = iblk m c 4 t :=
  before0_4_of m (dats m 0 c) (A_eq m c 4) (after0_4 m c) t d
/-- What window 5's buffer holds before the body at a point: its block. -/
theorem before0_5 (c : Dev nD) (t : Fin cfg0.N) (d) : (dats m 0 c).before 5 t d = iblk m c 5 t :=
  before0_5_of m (dats m 0 c) (A_eq m c 5) (after0_5 m c) t d
/-- What window 6's buffer holds before the body at a point: its block. -/
theorem before0_6 (c : Dev nD) (t : Fin cfg0.N) (d) : (dats m 0 c).before 6 t d = iblk m c 6 t :=
  before0_6_of m (dats m 0 c) (A_eq m c 6) (after0_6 m c) t d
/-- What window 7's buffer holds before the body at a point: its block. -/
theorem before0_7 (c : Dev nD) (t : Fin cfg0.N) (d) : (dats m 0 c).before 7 t d = iblk m c 7 t :=
  before0_7_of m (dats m 0 c) (A_eq m c 7) (after0_7 m c) t d

/-- What a point finds in the block of `h`: the columns the points before it wrote of the current block of rows. -/
theorem found (c : Dev nD) (t : Fin cfg0.N) (Y : Vec Ideal S512x7168 .f32) (h : (rdat m c).Finds 8 t Y) :
    Upto (rows m c (t.val / 7)) (t.val % 7 * 1024) Y := by
  by_cases h0 : t.val % 7 = 0
  · intro r n hn
    rw [h0, Nat.zero_mul] at hn
    exact absurd hn (Nat.not_lt_zero _)
  · have ht : t.val ≠ 0 := fun e => h0 (by rw [e])
    rcases ((rdat m c).finds_of_pos (fetch0_8 t) ht Y).mp h with hf | hl
    · have e := (flush0_8 _).mp hf
      have e' : (t.val - 1) % 7 = 6 := e
      omega
    · have hR : Rl m c 8 ⟨t.val - 1, Nat.lt_of_le_of_lt (Nat.sub_le _ _) t.isLt⟩ Y := (dats m 0 c).toRRel_leaves rfl hl
      have hR' : Upto (rows m c ((t.val - 1) / 7)) (((t.val - 1) % 7 + 1) * 1024) Y := hR
      have e1 : (t.val - 1) / 7 = t.val / 7 := by omega
      have e2 : (t.val - 1) % 7 + 1 = t.val % 7 := by omega
      rw [e1, e2] at hR'
      exact hR'

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ Y, ⌜(rdat m c).Finds 8 t Y⌝ ∗ owns (c : Thread nD τ) (ms0_8 t) fullShare Y)
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ X, ⌜Rl m c 8 t X⌝ ∗ owns (c : Thread nD τ) (ms0_8 t) fullShare X)
    ∗ (dats m 0 c).leavesExact 9 t
    ∗ (dats m 0 c).leavesExact 10 t)

set_option maxHeartbeats 9600000 in
/-- The body at any point: the inputs' buffers hold their blocks, the block of `h` the columns written so far; every
    point adds its columns, and the last of a block of rows stores the codes and the scales of the normed rows. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  by_cases h0 : t.val % 7 = 6
  · rw [show (dats m 0 c).leavesExact 9 t = owns (c : Thread nD τ) (ms0_9 t) fullShare ((dats m 0 c).after 9 t) from by
      unfold Dat.leavesExact; rw [liveAt0_9 t h0], after0_9]
    rw [show (dats m 0 c).leavesExact 10 t = owns (c : Thread nD τ) (ms0_10 t) fullShare ((dats m 0 c).after 10 t) from by
      unfold Dat.leavesExact; rw [liveAt0_10 t h0], after0_10]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y, %hY, H8⟩, ⟨%d9, H9⟩, ⟨%d10, H10⟩⟩
    have hl0 := off1_last t h0
    have hx : Upto (rows m c (t.val / 7)) (6 * 1024) Y := by
      have e := found m c t Y hY
      rw [h0] at e
      exact e
    have hn : ∀ (r : Fin 512) (j : Fin 1024) (n : Fin 7168), (n : ℕ) = 6 * 1024 + j →
        tileAt (iblk m c 0 t) (iblk m c 1 t) (iblk m c 2 t) (iblk m c 3 t) (iblk m c 4 t) (iblk m c 5 t) (iblk m c 6 t) r j = rows m c (t.val / 7) r n := fun r j n hn => tile_rows m c t r j n (by omega)
    iapply ((run_B c (grid0.coords t) _ _ _ _ _ _ _ _ _ _ _ _ _ _ _ _ _ _ _ _ _ _ _ _ ((hcond0_0 t).mpr h0) hl0 (iblk m c 0 t) (iblk m c 1 t) (iblk m c 2 t) (iblk m c 3 t) (iblk m c 4 t) (iblk m c 5 t) (iblk m c 6 t) (iblk m c 7 t) Y).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    iintro ⟨H0, H1, H2, H3, H4, H5, H6, H7, H8, ⟨%e9, H9⟩, ⟨%e10, H10⟩, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _
      isplitr
      swap
      · unfold owns; iexists _; isplitr
        swap; · iexact H8
        ipureintro; rfl
      ipureintro
      refine (congrArg (fun q => Upto (rows m c (t.val / 7)) ((q + 1) * 1024) _) h0).mpr ?_
      exact step_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_8 t) (hs0_8 t) scM0_0 (iblk m c 0 t) (iblk m c 1 t) (iblk m c 2 t) (iblk m c 3 t) (iblk m c 4 t) (iblk m c 5 t) (iblk m c 6 t) Y _ 6 hx hl0 hn
    isplitl [H9]
    · unfold owns; iexists _; isplitr
      swap; · iexact H9
      ipureintro
      refine (View.read_writes_eq_canon _ _ _ (View.cover_of_tiledL (run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) hl0 (iblk m c 0 t) (iblk m c 1 t) (iblk m c 2 t) (iblk m c 3 t) (iblk m c 4 t) (iblk m c 5 t) (iblk m c 6 t) (iblk m c 7 t) Y).1 S512x7168.size (by sl_kernel_rfl))).trans ?_
      exact last_codes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) Y _ hx hl0 hn ((hcond0_0 t).mpr h0)
    unfold owns; iexists _; isplitr
    swap; · iexact H10
    ipureintro
    refine (View.read_writes_eq_canon _ _ _ (View.cover_of_tiledL (run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) hl0 (iblk m c 0 t) (iblk m c 1 t) (iblk m c 2 t) (iblk m c 3 t) (iblk m c 4 t) (iblk m c 5 t) (iblk m c 6 t) (iblk m c 7 t) Y).2.1 S512x1.size (by sl_kernel_rfl))).trans ?_
    exact last_scales c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) Y _ hx hl0 hn ((hcond0_0 t).mpr h0)
  · rw [Dat.leavesExact_idle (dats m 0 c) 9 t (idleAt0_9 t h0) (noFlush0_9 t h0)]
    rw [Dat.leavesExact_idle (dats m 0 c) 10 t (idleAt0_10 t h0) (noFlush0_10 t h0)]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y, %hY, H8⟩, ⟨%d9, H9⟩, ⟨%d10, H10⟩⟩
    have hc0 : ¬cond0_0 (grid0.coords t) := fun h => h0 ((hcond0_0 t).mp h)
    iapply ((run_A c (grid0.coords t) _ _ _ _ _ _ _ _ _ _ _ _ _ _ _ _ _ _ _ _ _ _ _ _ hc0 (iblk m c 0 t) (iblk m c 1 t) (iblk m c 2 t) (iblk m c 3 t) (iblk m c 4 t) (iblk m c 5 t) (iblk m c 6 t) (iblk m c 7 t) Y).2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    iintro ⟨H0, H1, H2, H3, H4, H5, H6, H7, H8, H9, H10, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _
      isplitr
      swap
      · unfold owns; iexists _; isplitr
        swap; · iexact H8
        ipureintro; rfl
      ipureintro
      exact step_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) Y _ (t.val % 7) (found m c t Y hY) (off1 t) (fun r j n hn => tile_rows m c t r j n hn) hc0
    isplitl [H9]; · iexists _; iexact H9
    iexists _; iexact H10

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) :
    BodyObligationRel (dats m 0 c) (defs₀ (F := Ideal)) Variants.none () Set.univ held (Rl m c) := fun t => by
  rw [bigSep_W0, bigSep_W0, defs₀_row]
  refine triple_restated (sound_body m c t) rfl .rfl fun _ => ?_
  rw [show held 0 = false from rfl, show held 1 = false from rfl, show held 2 = false from rfl, show held 3 = false from rfl, show held 4 = false from rfl, show held 5 = false from rfl, show held 6 = false from rfl, show held 7 = false from rfl, show held 9 = false from rfl, show held 10 = false from rfl, show held 8 = true from rfl]
  dsimp only
  refine BIClass.sep_mono .rfl (BIClass.sep_mono .rfl ?_)
  refine BIClass.sep_mono ?_ ?_
  · exact (dats m 0 c).leaves_intro 0 t
  refine BIClass.sep_mono ?_ ?_
  · exact (dats m 0 c).leaves_intro 1 t
  refine BIClass.sep_mono ?_ ?_
  · exact (dats m 0 c).leaves_intro 2 t
  refine BIClass.sep_mono ?_ ?_
  · exact (dats m 0 c).leaves_intro 3 t
  refine BIClass.sep_mono ?_ ?_
  · exact (dats m 0 c).leaves_intro 4 t
  refine BIClass.sep_mono ?_ ?_
  · exact (dats m 0 c).leaves_intro 5 t
  refine BIClass.sep_mono ?_ ?_
  · exact (dats m 0 c).leaves_intro 6 t
  refine BIClass.sep_mono ?_ ?_
  · exact (dats m 0 c).leaves_intro 7 t
  refine BIClass.sep_mono .rfl ?_
  exact BIClass.sep_mono ((dats m 0 c).leaves_intro 9 t) ((dats m 0 c).leaves_intro 10 t)

/-! ## The run and the frame -/

/-- At a write-back the block of `h` is wholly named. -/
theorem named (c : Dev nD) (w : Fin cfg0.W) (h : held w = true) (u : Fin cfg0.N) (hu : (cfg0.win w).flush u = true)
    (X) (hX : Rl m c w u X) : X = (dats m 0 c).after w u := by
  have hw : w = 8 := Fin.ext (by simpa [held] using h)
  subst hw
  have h6 := (flush0_8 u).mp hu
  have hX' : Upto (rows m c (u.val / 7)) ((u.val % 7 + 1) * 1024) X := hX
  rw [h6] at hX'
  rw [after0_8]
  funext y
  refine Eq.trans (congrArg X (funext fun a => ?_)) (hX' (y 0) (y 1) (show (y 1 : ℕ) < 7168 from (y 1).isLt))
  match a with
  | ⟨0, _⟩ => rfl
  | ⟨1, _⟩ => rfl

set_option backward.isDefEq.respectTransparency.types false in
/-- Every execution ends, with every array at what the held data allow and every semaphore counter at zero. -/
theorem run_main_rel : θ_run defs (onTc (τ := τ) (main (F := Ideal))) (s₀ m ρ)
    (fun r => (RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The same with every array at what the exact data say. -/
theorem run_main_quiescent : θ_run defs (onTc (τ := τ) (main (F := Ideal))) (s₀ m ρ)
    (fun r => (Pipeline.FramePost cfgs (dats m) 0 (V m)) r ∧ r.2.sem = fun _ => 0) :=
  (θ_run defs _ _).mono (fun _ h => ⟨fun c => ⟨fun w => W4.arr_of_rel (dats m 0 c) ((h.1 c).1 w) (named m c w), (h.1 c).2⟩, h.2⟩)
    (run_main_rel m ρ)

/-- The run of the whole program, with every array after it named. -/
theorem run_main : θ_run defs (onTc (τ := τ) (main (F := Ideal))) (s₀ m ρ) (Pipeline.FramePost cfgs (dats m) 0 (V m)) :=
  (θ_run defs _ _).mono (fun _ h => h.1) (run_main_quiescent m ρ)

/-- The arguments end unchanged and every semaphore counter is zero again. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.OprojIdeal.Hand
-- ==== Proof.OprojFinal.lean ====
module

public import proofs.«01_k».proof.Proof.OprojBody
public import proofs.«01_k».proof.Proof.Gen.OprojRefIdeal.Value

@[expose] public section
set_option maxRecDepth 16384
noncomputable section
open Idealize.ShloMosaic Idealize.ShloMosaic.TcCoe Idealize.SL.Sem
open Idealize.ShloMosaic.Pipeline (Dat)

namespace Cert.OprojIdeal.Hand
open Cert.OprojIdeal Cert.OprojIdeal.Gen
variable (m : (ℓ : Loc nD τ sig) → Buf (Elt Ideal) ℓ)

/-- A row of a block at its place in the array. -/
theorem row_at (c : Dev nD) (t : Fin cfg0.N) (r : Fin 512) (R : Fin 6144) (hR : (R : ℕ) = t.val / 7 * 512 + r) :
    rows m c (t.val / 7) r = hres m c R := by
  have hq : t.val / 7 < 12 := (idx t).2.2.2.2.2.2.2.2.2.2.2
  have hr : (r : ℕ) < 512 := r.isLt
  funext n
  unfold rows
  refine congrArg (fun R => hres m c R n) (Fin.ext ?_)
  show (512 * (t.val / 7) + (r : ℕ)) % 6144 = R
  omega

/-- The gain's block is the whole gain. -/
theorem gain (c : Dev nD) (t : Fin cfg0.N) : iblk m c 7 t = V m c main_v1 := by blk_ext! [iblk, idx t]

/-- The kernel's residual stream after the run. -/
theorem final_rows (c : Dev nD) : (dats m 0 c).arrAt 8 (cfgs 0).N = resultRows (hres m c) := by
  refine (dats m 0 c).arrAt_eq_of_covers 8 _ (by decide +kernel) fun t _ y => ?_
  blk_simp
  rw [after0_8]
  have e0 : (((cfg0.win 8).blk t).view.emb y 0 : ℕ) = t.val / 7 * 512 + y 0 := by blk_simp [idx t]
  have e1 : (((cfg0.win 8).blk t).view.emb y 1 : ℕ) = y 1 := by blk_simp [idx t]
  idx_vars y
  have hr := row_at m c t y0 (((cfg0.win 8).blk t).view.emb (ix2 y0 y1) 0) e0
  have h1 : y1 = ((cfg0.win 8).blk t).view.emb (ix2 y0 y1) 1 := Fin.ext e1.symm
  exact (congrFun hr y1).trans (congrArg _ h1)

/-- The kernel's array of codes after the run. -/
theorem final_codes (c : Dev nD) : (dats m 0 c).arrAt 9 (cfgs 0).N = resultCodes (hres m c) (V m c main_v1) := by
  refine (dats m 0 c).arrAt_eq_of_covers 9 _ (by decide +kernel) fun t _ y => ?_
  blk_simp
  rw [after0_9, gain]
  have e0 : (((cfg0.win 9).blk t).view.emb y 0 : ℕ) = t.val / 7 * 512 + y 0 := by blk_simp [idx t]
  have e1 : (((cfg0.win 9).blk t).view.emb y 1 : ℕ) = y 1 := by blk_simp [idx t]
  idx_vars y
  have hr := row_at m c t y0 (((cfg0.win 9).blk t).view.emb (ix2 y0 y1) 0) e0
  have h1 : y1 = ((cfg0.win 9).blk t).view.emb (ix2 y0 y1) 1 := Fin.ext e1.symm
  have hN := congrArg (fun f => W4.normed f fun n => (V m c main_v1 : Vec Ideal S1x7168 .f32) (ix2 0 n)) hr
  exact congrArg₂ W4.codeOf ((congrFun hN y1).trans (congrArg _ h1)) (congrArg W4.scaleOf (congrArg W4.rowmax hN))

/-- The kernel's array of scales after the run. -/
theorem final_scales (c : Dev nD) : (dats m 0 c).arrAt 10 (cfgs 0).N = resultScales (hres m c) (V m c main_v1) := by
  refine (dats m 0 c).arrAt_eq_of_covers 10 _ (by decide +kernel) fun t _ y => ?_
  blk_simp
  rw [after0_10, gain]
  have e0 : (((cfg0.win 10).blk t).view.emb y 0 : ℕ) = t.val / 7 * 512 + y 0 := by blk_simp [idx t]
  idx_vars y
  have hr := row_at m c t y0 (((cfg0.win 10).blk t).view.emb (ix2 y0 y1) 0) e0
  exact congrArg W4.scaleOf (congrArg W4.rowmax
    (congrArg (fun f => W4.normed f fun n => (V m c main_v1 : Vec Ideal S1x7168 .f32) (ix2 0 n)) hr))

end Cert.OprojIdeal.Hand

namespace Cert.OprojRefIdeal.Value
open Cert.OprojRefIdeal Cert.OprojRefIdeal.Gen
variable (m : (ℓ : Loc nD τ sig) → Buf (Elt Ideal) ℓ)

/-- The reference's one grid point reads every operand whole. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

/-- The reference's residual stream, read at an element. -/
theorem resid_at (x0 : Vec Ideal S6144x1792 .fp8e4m3) (x1 : Vec Ideal S6144x1 .f32) (x2 : Vec Ideal S224x7168 .i32)
    (x3 : Vec Ideal S14x7168 .fp8e4m3) (x5 : Vec Ideal S1x7168 .f32) (x4 : Vec Ideal S14x7168 .i8)
    (x6 : Vec Ideal S6144x7168 .bf16) (r : Fin 6144) (j : Fin 7168) :
    k0_pay4 (F := Ideal) x0 x1 x2 x3 x5 x4 x6 (ix2 r j) = Cert.OprojIdeal.Hand.resid x0 x1 x2 x3 x4 x5 x6 r j := by
  unfold Cert.OprojIdeal.Hand.resid W4.linear W4.weights
  pointwise [k0_pay4]
  simp only [W4.ref_weight _ _ (Nat.mod_lt _ (by decide : 0 < 8)) _ _]

/-- The reference's normed rows, read at an element. -/
theorem normed_at (x : FVec Ideal S6144x7168 .f32) (g : Vec Ideal S1x7168 .f32) (r : Fin 6144) (j : Fin 7168) :
    k0_pay1 (F := Ideal) x g (ix2 r j) = W4.normed (fun n => x (ix2 r n)) (fun n => g (ix2 0 n)) j := by
  unfold W4.normed
  pointwise [k0_pay1]

/-- The largest magnitudes of the reference's rows. -/
theorem max_at (hh : FVec Ideal S6144x7168 .f32) (r : Fin 6144) (j : Fin 1) :
    shapeCast S6144x1 (multiReduction .maximumf [1] S6144 (absf hh) 0xFF800000#32 reduces_S6144x7168_S6144 (.inl rfl) rfl)
      shapeCasts_S6144_S6144x1 (ix2 r j) = W4.rowmax fun n => hh (ix2 r n) := by
  unfold W4.rowmax
  pointwise []

/-- The codes of the reference's rows with given scales. -/
theorem codes_at (hh : FVec Ideal S6144x7168 .f32) (aa : FVec Ideal S6144x1 .f32) (r : Fin 6144) (j : Fin 7168) :
    truncf .fp8e4m3 (minimumf (broadcast S6144x7168 (Scalar.ofBits .f32 0x43E00000#32))
      (maximumf (broadcast S6144x7168 (Scalar.ofBits .f32 0xC3E00000#32))
        (divf hh (broadcastTo S6144x7168 aa broadcasts_S6144x1_S6144x7168)))) bitsLt_fp8e4m3_f32 (ix2 r j)
      = W4.codeOf (hh (ix2 r j)) (aa (ix2 r 0)) := by
  unfold W4.codeOf
  pointwise []

/-- The scale of the reference's row. -/
theorem scale_at (x : FVec Ideal S6144x7168 .f32) (g : Vec Ideal S1x7168 .f32) (r : Fin 6144) (j : Fin 1) :
    k0_pay2 (F := Ideal) x g (ix2 r j) = W4.scaleOf (W4.rowmax (W4.normed (fun n => x (ix2 r n)) fun n => g (ix2 0 n))) :=
  (W4.scale_col _ r j).trans (congrArg W4.scaleOf ((max_at (k0_pay1 (F := Ideal) x g) r j).trans
    (congrArg W4.rowmax (funext fun n => normed_at x g r n))))

/-- A code of the reference's row. -/
theorem code_at (x : FVec Ideal S6144x7168 .f32) (g : Vec Ideal S1x7168 .f32) (r : Fin 6144) (j : Fin 7168) :
    k0_pay3 (F := Ideal) x g (ix2 r j)
      = W4.codeOf (W4.normed (fun n => x (ix2 r n)) (fun n => g (ix2 0 n)) j)
        (W4.scaleOf (W4.rowmax (W4.normed (fun n => x (ix2 r n)) fun n => g (ix2 0 n)))) :=
  (codes_at (k0_pay1 (F := Ideal) x g) (k0_pay2 (F := Ideal) x g) r j).trans
    (congrArg₂ W4.codeOf (normed_at x g r j) (scale_at x g r 0))

/-- A row of the reference's normed residual stream. -/
theorem row_eq (x0 : Vec Ideal S6144x1792 .fp8e4m3) (x1 : Vec Ideal S6144x1 .f32) (x2 : Vec Ideal S224x7168 .i32)
    (x3 : Vec Ideal S14x7168 .fp8e4m3) (x5 : Vec Ideal S1x7168 .f32) (x4 : Vec Ideal S14x7168 .i8)
    (x6 : Vec Ideal S6144x7168 .bf16) (g : Vec Ideal S1x7168 .f32) (r : Fin 6144) :
    W4.normed (fun n => k0_pay4 (F := Ideal) x0 x1 x2 x3 x5 x4 x6 (ix2 r n)) (fun n => g (ix2 0 n))
      = W4.normed (Cert.OprojIdeal.Hand.resid x0 x1 x2 x3 x4 x5 x6 r) fun n => g (ix2 0 n) :=
  congrArg (fun f => W4.normed f fun n => g (ix2 0 n)) (funext fun n => resid_at x0 x1 x2 x3 x5 x4 x6 r n)

/-- Every operand's block at the one grid point is the array the launch finds. -/
theorem whole (c : Dev nD) : iblk m c 0 t0_0 = m ((c : Thread nD τ).loc main_arg0)
    ∧ iblk m c 1 t0_0 = m ((c : Thread nD τ).loc main_arg1) ∧ iblk m c 2 t0_0 = m ((c : Thread nD τ).loc main_arg2)
    ∧ iblk m c 3 t0_0 = m ((c : Thread nD τ).loc main_arg3) ∧ iblk m c 4 t0_0 = m ((c : Thread nD τ).loc main_arg4)
    ∧ iblk m c 6 t0_0 = m ((c : Thread nD τ).loc main_arg6)
    ∧ iblk m c 5 t0_0 = V m c main_v0 ∧ iblk m c 7 t0_0 = V m c main_v1 := by
  refine ⟨?_, ?_, ?_, ?_, ?_, ?_, ?_, ?_⟩
  iterate 6 blk_ext! [iblk, V, idx t0_0]
  iterate 2 blk_ext! [iblk, idx t0_0]

/-- The reference's residual stream after the run. -/
theorem final_rows (c : Dev nD) : (dats m 0 c).arrAt 8 (cfgs 0).N
    = Cert.OprojIdeal.Hand.resultRows (Cert.OprojIdeal.Hand.resid (m ((c : Thread nD τ).loc main_arg0)) (m ((c : Thread nD τ).loc main_arg1))
        (m ((c : Thread nD τ).loc main_arg2)) (m ((c : Thread nD τ).loc main_arg3))
        (m ((c : Thread nD τ).loc main_arg4)) (V m c main_v0) (m ((c : Thread nD τ).loc main_arg6))) := by
  refine (dats m 0 c).arrAt_eq_of_after_last 8 t0_0 (by decide +kernel) _ fun j => ?_
  blk_simp
  rw [after0_8]
  frame_out [k0_pay5]
  obtain ⟨h0, h1, h2, h3, h4, h6, h5, h7⟩ := whole m c
  rw [h0, h1, h2, h3, h4, h5, h6]
  idx_vars j
  exact resid_at _ _ _ _ _ _ _ j0 j1

/-- The reference's array of codes after the run. -/
theorem final_codes (c : Dev nD) : (dats m 0 c).arrAt 9 (cfgs 0).N
    = Cert.OprojIdeal.Hand.resultCodes (Cert.OprojIdeal.Hand.resid (m ((c : Thread nD τ).loc main_arg0)) (m ((c : Thread nD τ).loc main_arg1))
        (m ((c : Thread nD τ).loc main_arg2)) (m ((c : Thread nD τ).loc main_arg3))
        (m ((c : Thread nD τ).loc main_arg4)) (V m c main_v0) (m ((c : Thread nD τ).loc main_arg6))) (V m c main_v1) := by
  refine (dats m 0 c).arrAt_eq_of_after_last 9 t0_0 (by decide +kernel) _ fun j => ?_
  blk_simp
  rw [after0_9]
  frame_out [k0_pay5]
  obtain ⟨h0, h1, h2, h3, h4, h6, h5, h7⟩ := whole m c
  rw [h0, h1, h2, h3, h4, h5, h6, h7]
  idx_vars j
  have hr := row_eq (m ((c : Thread nD τ).loc main_arg0)) (m ((c : Thread nD τ).loc main_arg1))
    (m ((c : Thread nD τ).loc main_arg2)) (m ((c : Thread nD τ).loc main_arg3)) (V m c main_v0)
    (m ((c : Thread nD τ).loc main_arg4)) (m ((c : Thread nD τ).loc main_arg6)) (V m c main_v1) j0
  exact (code_at _ _ j0 j1).trans (congrArg₂ W4.codeOf (congrFun hr j1) (congrArg W4.scaleOf (congrArg W4.rowmax hr)))

/-- The reference's array of scales after the run. -/
theorem final_scales (c : Dev nD) : (dats m 0 c).arrAt 10 (cfgs 0).N
    = Cert.OprojIdeal.Hand.resultScales (Cert.OprojIdeal.Hand.resid (m ((c : Thread nD τ).loc main_arg0)) (m ((c : Thread nD τ).loc main_arg1))
        (m ((c : Thread nD τ).loc main_arg2)) (m ((c : Thread nD τ).loc main_arg3))
        (m ((c : Thread nD τ).loc main_arg4)) (V m c main_v0) (m ((c : Thread nD τ).loc main_arg6))) (V m c main_v1) := by
  refine (dats m 0 c).arrAt_eq_of_after_last 10 t0_0 (by decide +kernel) _ fun j => ?_
  blk_simp
  rw [after0_10]
  frame_out [k0_pay5]
  obtain ⟨h0, h1, h2, h3, h4, h6, h5, h7⟩ := whole m c
  rw [h0, h1, h2, h3, h4, h5, h6, h7]
  idx_vars j
  exact (scale_at _ _ j0 j1).trans (congrArg W4.scaleOf (congrArg W4.rowmax (row_eq _ _ _ _ _ _ _ _ j0)))

end Cert.OprojRefIdeal.Value
-- ==== Proof.NqValue.lean ====
module

public import proofs.«01_k».proof.Proof.Norm
public import proofs.«01_k».proof.Proof.Gen.NqIdeal.Value
public import proofs.«01_k».proof.Proof.Gen.NqRefIdeal.Value
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)

namespace Cert.NqIdeal.Value
open Cert.NqIdeal Cert.NqIdeal.Gen
variable (m : (ℓ : Loc nD τ sig) → Buf (Elt Ideal) ℓ)

/-- The quantiser's scales of the normed rows of `X`. -/
def resultScales (X : Vec Ideal S6144x7168 .bf16) (G : Vec Ideal S1x7168 .f32) : Vec Ideal S6144x1 .f32 := fun y =>
  W4.scaleOf (W4.rowmax (W4.normed (fun n => X (ix2 (y 0) n)) fun n => G (ix2 0 n)))

/-- The quantised codes of the normed rows of `X`. -/
def resultCodes (X : Vec Ideal S6144x7168 .bf16) (G : Vec Ideal S1x7168 .f32) : Vec Ideal S6144x7168 .fp8e4m3 := fun y =>
  W4.codeOf (W4.normed (fun n => X (ix2 (y 0) n)) (fun n => G (ix2 0 n)) (y 1))
    (W4.scaleOf (W4.rowmax (W4.normed (fun n => X (ix2 (y 0) n)) fun n => G (ix2 0 n))))

/-- The block of each operand at grid point `t`: row block `t`. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- The normed rows of a block, read at an element. -/
theorem normed_at (x : Vec Ideal S256x7168 .bf16) (g : Vec Ideal S1x7168 .f32) (r : Fin 256) (j : Fin 7168) :
    k0_pay1 (F := Ideal) x g (ix2 r j) = W4.normed (fun n => x (ix2 r n)) (fun n => g (ix2 0 n)) j := by
  unfold W4.normed
  pointwise [k0_pay1]

/-- The largest magnitudes of a block's rows. -/
theorem max_at (hh : FVec Ideal S256x7168 .f32) (r : Fin 256) (j : Fin 1) :
    shapeCast S256x1 (multiReduction .maximumf [1] S256 (absf hh) 0xFF800000#32 reduces_S256x7168_S256 (.inl rfl) rfl)
      shapeCasts_S256_S256x1 (ix2 r j) = W4.rowmax fun n => hh (ix2 r n) := by
  unfold W4.rowmax
  pointwise []

/-- The codes of a block's rows with given scales. -/
theorem codes_at (hh : FVec Ideal S256x7168 .f32) (aa : FVec Ideal S256x1 .f32) (r : Fin 256) (j : Fin 7168) :
    truncf .fp8e4m3 (minimumf (broadcast S256x7168 (Scalar.ofBits .f32 0x43E00000#32))
      (maximumf (broadcast S256x7168 (Scalar.ofBits .f32 0xC3E00000#32))
        (divf hh (broadcastTo S256x7168 aa broadcasts_S256x1_S256x7168)))) bitsLt_fp8e4m3_f32 (ix2 r j)
      = W4.codeOf (hh (ix2 r j)) (aa (ix2 r 0)) := by
  unfold W4.codeOf
  pointwise []

/-- The scale of a block's row. -/
theorem scale_at (x : Vec Ideal S256x7168 .bf16) (g : Vec Ideal S1x7168 .f32) (r : Fin 256) (j : Fin 1) :
    k0_pay2 (F := Ideal) x g (ix2 r j) = W4.scaleOf (W4.rowmax (W4.normed (fun n => x (ix2 r n)) fun n => g (ix2 0 n))) :=
  (W4.scale_col _ r j).trans (congrArg W4.scaleOf ((max_at (k0_pay1 (F := Ideal) x g) r j).trans
    (congrArg W4.rowmax (funext fun n => normed_at x g r n))))

/-- A code of a block's row. -/
theorem code_at (x : Vec Ideal S256x7168 .bf16) (g : Vec Ideal S1x7168 .f32) (r : Fin 256) (j : Fin 7168) :
    k0_pay3 (F := Ideal) x g (ix2 r j)
      = W4.codeOf (W4.normed (fun n => x (ix2 r n)) (fun n => g (ix2 0 n)) j)
        (W4.scaleOf (W4.rowmax (W4.normed (fun n => x (ix2 r n)) fun n => g (ix2 0 n)))) :=
  (codes_at (k0_pay1 (F := Ideal) x g) (k0_pay2 (F := Ideal) x g) r j).trans
    (congrArg₂ W4.codeOf (normed_at x g r j) (scale_at x g r 0))

/-- A row of a block at its place in the array. -/
theorem row_at (c : Dev nD) (t : Fin cfg0.N) (r : Fin 256) (R : Fin 6144) (hR : (R : ℕ) = t.val * 256 + r) :
    W4.normed (fun n => (show Vec Ideal S256x7168 .bf16 from iblk m c 0 t) (ix2 r n))
      (fun n => (show Vec Ideal S1x7168 .f32 from iblk m c 1 t) (ix2 0 n))
      = W4.normed (fun n => (m ((c : Thread nD τ).loc main_arg0) : Vec Ideal S6144x7168 .bf16) (ix2 R n))
        (fun n => (V m c main_v0 : Vec Ideal S1x7168 .f32) (ix2 0 n)) := by
  refine congrArg₂ W4.normed (funext fun n => ?_) (funext fun n => ?_)
  all_goals blk_ext [iblk, V, idx t]

/-- The kernel's array of codes after the run. -/
theorem final_codes (c : Dev nD) : (dats m 0 c).arrAt 2 (cfgs 0).N
    = resultCodes (m ((c : Thread nD τ).loc main_arg0)) (V m c main_v0) := by
  refine (dats m 0 c).arrAt_eq_of_covers 2 _ (by decide +kernel) fun t _ y => ?_
  blk_simp
  rw [after0_2]
  frame_out
  have e0 : (((cfg0.win 2).blk t).view.emb y 0 : ℕ) = t.val * 256 + y 0 := by blk_simp [idx t]
  have e1 : (((cfg0.win 2).blk t).view.emb y 1 : ℕ) = y 1 := by blk_simp [idx t]
  idx_vars y
  have hr := row_at m c t y0 (((cfg0.win 2).blk t).view.emb (ix2 y0 y1) 0) e0
  have h1 : y1 = ((cfg0.win 2).blk t).view.emb (ix2 y0 y1) 1 := Fin.ext e1.symm
  exact (code_at _ _ y0 y1).trans (congrArg₂ W4.codeOf ((congrFun hr y1).trans (congrArg _ h1))
    (congrArg W4.scaleOf (congrArg W4.rowmax hr)))

/-- The kernel's array of scales after the run. -/
theorem final_scales (c : Dev nD) : (dats m 0 c).arrAt 3 (cfgs 0).N
    = resultScales (m ((c : Thread nD τ).loc main_arg0)) (V m c main_v0) := by
  refine (dats m 0 c).arrAt_eq_of_covers 3 _ (by decide +kernel) fun t _ y => ?_
  blk_simp
  rw [after0_3]
  frame_out
  have e0 : (((cfg0.win 3).blk t).view.emb y 0 : ℕ) = t.val * 256 + y 0 := by blk_simp [idx t]
  idx_vars y
  have hr := row_at m c t y0 (((cfg0.win 3).blk t).view.emb (ix2 y0 y1) 0) e0
  exact (scale_at _ _ y0 y1).trans (congrArg W4.scaleOf (congrArg W4.rowmax hr))

end Cert.NqIdeal.Value

namespace Cert.NqRefIdeal.Value
open Cert.NqRefIdeal Cert.NqRefIdeal.Gen
variable (m : (ℓ : Loc nD τ sig) → Buf (Elt Ideal) ℓ)

/-- The reference's one grid point reads every operand whole. -/
theorem idx : ∀ t : Fin cfg0.N, win0_0.index t = ![0, 0] ∧ win0_1.index t = ![0, 0] ∧ win0_2.index t = ![0, 0]
    ∧ win0_3.index t = ![0, 0] :=
  (by decide +kernel : ∀ t : Fin grid0.N, _)

/-- The reference's normed rows, read at an element. -/
theorem normed_at (x : Vec Ideal S6144x7168 .bf16) (g : Vec Ideal S1x7168 .f32) (r : Fin 6144) (j : Fin 7168) :
    k0_pay1 (F := Ideal) x g (ix2 r j) = W4.normed (fun n => x (ix2 r n)) (fun n => g (ix2 0 n)) j := by
  unfold W4.normed
  pointwise [k0_pay1]

/-- The largest magnitudes of the reference's rows. -/
theorem max_at (hh : FVec Ideal S6144x7168 .f32) (r : Fin 6144) (j : Fin 1) :
    shapeCast S6144x1 (multiReduction .maximumf [1] S6144 (absf hh) 0xFF800000#32 reduces_S6144x7168_S6144 (.inl rfl) rfl)
      shapeCasts_S6144_S6144x1 (ix2 r j) = W4.rowmax fun n => hh (ix2 r n) := by
  unfold W4.rowmax
  pointwise []

/-- The codes of the reference's rows with given scales. -/
theorem codes_at (hh : FVec Ideal S6144x7168 .f32) (aa : FVec Ideal S6144x1 .f32) (r : Fin 6144) (j : Fin 7168) :
    truncf .fp8e4m3 (minimumf (broadcast S6144x7168 (Scalar.ofBits .f32 0x43E00000#32))
      (maximumf (broadcast S6144x7168 (Scalar.ofBits .f32 0xC3E00000#32))
        (divf hh (broadcastTo S6144x7168 aa broadcasts_S6144x1_S6144x7168)))) bitsLt_fp8e4m3_f32 (ix2 r j)
      = W4.codeOf (hh (ix2 r j)) (aa (ix2 r 0)) := by
  unfold W4.codeOf
  pointwise []

/-- The scale of the reference's row. -/
theorem scale_at (x : Vec Ideal S6144x7168 .bf16) (g : Vec Ideal S1x7168 .f32) (r : Fin 6144) (j : Fin 1) :
    k0_pay2 (F := Ideal) x g (ix2 r j) = W4.scaleOf (W4.rowmax (W4.normed (fun n => x (ix2 r n)) fun n => g (ix2 0 n))) :=
  (W4.scale_col _ r j).trans (congrArg W4.scaleOf ((max_at (k0_pay1 (F := Ideal) x g) r j).trans
    (congrArg W4.rowmax (funext fun n => normed_at x g r n))))

/-- A code of the reference's row. -/
theorem code_at (x : Vec Ideal S6144x7168 .bf16) (g : Vec Ideal S1x7168 .f32) (r : Fin 6144) (j : Fin 7168) :
    k0_pay3 (F := Ideal) x g (ix2 r j)
      = W4.codeOf (W4.normed (fun n => x (ix2 r n)) (fun n => g (ix2 0 n)) j)
        (W4.scaleOf (W4.rowmax (W4.normed (fun n => x (ix2 r n)) fun n => g (ix2 0 n)))) :=
  (codes_at (k0_pay1 (F := Ideal) x g) (k0_pay2 (F := Ideal) x g) r j).trans
    (congrArg₂ W4.codeOf (normed_at x g r j) (scale_at x g r 0))

/-- Every operand's block at the one grid point is the array the launch finds. -/
theorem whole (c : Dev nD) : iblk m c 0 t0_0 = m ((c : Thread nD τ).loc main_arg0) ∧ iblk m c 1 t0_0 = V m c main_v0 := by
  refine ⟨?_, ?_⟩
  · blk_ext! [iblk, V, idx t0_0]
  · blk_ext! [iblk, idx t0_0]

/-- The reference's array of codes after the run. -/
theorem final_codes (c : Dev nD) : (dats m 0 c).arrAt 2 (cfgs 0).N
    = Cert.NqIdeal.Value.resultCodes (m ((c : Thread nD τ).loc main_arg0)) (V m c main_v0) := by
  refine (dats m 0 c).arrAt_eq_of_after_last 2 t0_0 (by decide +kernel) _ fun j => ?_
  blk_simp
  rw [after0_2]
  frame_out
  obtain ⟨h0, h1⟩ := whole m c
  rw [h0, h1]
  idx_vars j
  exact code_at _ _ j0 j1

/-- The reference's array of scales after the run. -/
theorem final_scales (c : Dev nD) : (dats m 0 c).arrAt 3 (cfgs 0).N
    = Cert.NqIdeal.Value.resultScales (m ((c : Thread nD τ).loc main_arg0)) (V m c main_v0) := by
  refine (dats m 0 c).arrAt_eq_of_after_last 3 t0_0 (by decide +kernel) _ fun j => ?_
  blk_simp
  rw [after0_3]
  frame_out
  obtain ⟨h0, h1⟩ := whole m c
  rw [h0, h1]
  idx_vars j
  exact scale_at _ _ j0 j1

end Cert.NqRefIdeal.Value
-- ==== Proof.QkvFrame.lean ====
module

public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Qkv.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Qkv Cert.Qkv.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame from any run whose inputs end unchanged. -/
theorem forget_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 2 rfl).trans ((hA c 2).trans (V_main_arg0 m c)),
      (Pipeline.RDat.FramePost.arr_in h c 3 rfl).trans ((hA c 3).trans (V_main_arg1 m c)),
      (Pipeline.RDat.FramePost.arr_in h c 4 rfl).trans ((hA c 4).trans (V_main_arg2 m c)),
      (Pipeline.RDat.FramePost.arr_in h c 5 rfl).trans ((hA c 5).trans (V_main_arg3 m c)),
      (Pipeline.RDat.FramePost.arr_in h c 6 rfl).trans ((hA c 6).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 0 rfl).trans ((hA c 0).trans (V_main_arg8 m c)),
      (Pipeline.RDat.FramePost.arr_in h c 1 rfl).trans ((hA c 1).trans (V_main_arg9 m c))⟩) h

/-- The condition of a block of rows' first point. -/
abbrev cond0_0 (i : grid0.Coords) : Prop := k0_cond1 i = 1#1
/-- It holds at grid points whose number is 0 more than a multiple of three. -/
theorem hcond0_0 : ∀ t : Fin cfg0.N, cond0_0 (grid0.coords t) ↔ t.val % 3 = 0 :=
  (fun t => by
    have ht : t.val < 18 := Nat.lt_of_lt_of_eq t.isLt N_0
    have e0 : (grid0.coords t 0).val = t.val / 3 % 6 := Pipeline.Grid.coords_val t 0 (by decide) rfl
    have e1 : (grid0.coords t 1).val = t.val / 1 % 3 := Pipeline.Grid.coords_val t 1 (by decide) rfl
    simp only [cond0_0, k0_cond1, e0, e1]
    word_cmp
   : ∀ t : Fin grid0.N, cond0_0 (grid0.coords t) ↔ t.val % 3 = 0)

/-- The condition of a block of rows' second point. -/
abbrev cond0_1 (i : grid0.Coords) : Prop := k0_cond2 i = 1#1
/-- It holds at grid points whose number is 1 more than a multiple of three. -/
theorem hcond0_1 : ∀ t : Fin cfg0.N, cond0_1 (grid0.coords t) ↔ t.val % 3 = 1 :=
  (fun t => by
    have ht : t.val < 18 := Nat.lt_of_lt_of_eq t.isLt N_0
    have e0 : (grid0.coords t 0).val = t.val / 3 % 6 := Pipeline.Grid.coords_val t 0 (by decide) rfl
    have e1 : (grid0.coords t 1).val = t.val / 1 % 3 := Pipeline.Grid.coords_val t 1 (by decide) rfl
    simp only [cond0_1, k0_cond2, e0, e1]
    word_cmp
   : ∀ t : Fin grid0.N, cond0_1 (grid0.coords t) ↔ t.val % 3 = 1)

/-- The condition of a block of rows' last point. -/
abbrev cond0_2 (i : grid0.Coords) : Prop := k0_cond3 i = 1#1
/-- It holds at grid points whose number is 2 more than a multiple of three. -/
theorem hcond0_2 : ∀ t : Fin cfg0.N, cond0_2 (grid0.coords t) ↔ t.val % 3 = 2 :=
  (fun t => by
    have ht : t.val < 18 := Nat.lt_of_lt_of_eq t.isLt N_0
    have e0 : (grid0.coords t 0).val = t.val / 3 % 6 := Pipeline.Grid.coords_val t 0 (by decide) rfl
    have e1 : (grid0.coords t 1).val = t.val / 1 % 3 := Pipeline.Grid.coords_val t 1 (by decide) rfl
    simp only [cond0_2, k0_cond3, e0, e1]
    word_cmp
   : ∀ t : Fin grid0.N, cond0_2 (grid0.coords t) ↔ t.val % 3 = 2)

/-- Window 0 is in use at every point. -/
theorem liveAt0_0 : ∀ t : Fin cfg0.N, cfg0.idle 0 (grid0.coords t) = false := fun _ => rfl
/-- Window 1 is in use at every point. -/
theorem liveAt0_1 : ∀ t : Fin cfg0.N, cfg0.idle 1 (grid0.coords t) = false := fun _ => rfl
/-- Window 2 is in use at every point. -/
theorem liveAt0_2 : ∀ t : Fin cfg0.N, cfg0.idle 2 (grid0.coords t) = false := fun _ => rfl
/-- Window 3 is in use at every point. -/
theorem liveAt0_3 : ∀ t : Fin cfg0.N, cfg0.idle 3 (grid0.coords t) = false := fun _ => rfl
/-- Window 4 is in use at every point. -/
theorem liveAt0_4 : ∀ t : Fin cfg0.N, cfg0.idle 4 (grid0.coords t) = false := fun _ => rfl
/-- Window 5 is in use at every point. -/
theorem liveAt0_5 : ∀ t : Fin cfg0.N, cfg0.idle 5 (grid0.coords t) = false := fun _ => rfl
/-- Window 6 is in use at every point. -/
theorem liveAt0_6 : ∀ t : Fin cfg0.N, cfg0.idle 6 (grid0.coords t) = false := fun _ => rfl
/-- Window 7 is in use at every point. -/
theorem liveAt0_7 : ∀ t : Fin cfg0.N, cfg0.idle 7 (grid0.coords t) = false := fun _ => rfl
/-- Window 8 is in use at every point. -/
theorem liveAt0_8 : ∀ t : Fin cfg0.N, cfg0.idle 8 (grid0.coords t) = false := fun _ => rfl
/-- Window 9 is in use at every point. -/
theorem liveAt0_9 : ∀ t : Fin cfg0.N, cfg0.idle 9 (grid0.coords t) = false := fun _ => rfl

/-- The buffer window 0 uses at a point, -/
abbrev ms0_0 (t : Fin cfg0.N) : Memref sig .tc .smem S2 .f32 := win0_0.stage (cfg0.slots t 0)
/-- which is a whole buffer. -/
abbrev hs0_0 (t : Fin cfg0.N) : (ms0_0 t).IsWhole := hstage0_0 ((cfg0.slots t 0).cast nbuf0_0)
/-- The buffer window 1 uses at a point, -/
abbrev ms0_1 (t : Fin cfg0.N) : Memref sig .tc .smem S2 .f32 := win0_1.stage (cfg0.slots t 1)
/-- which is a whole buffer. -/
abbrev hs0_1 (t : Fin cfg0.N) : (ms0_1 t).IsWhole := hstage0_1 ((cfg0.slots t 1).cast nbuf0_1)
/-- The buffer window 2 uses at a point, -/
abbrev ms0_2 (t : Fin cfg0.N) : Memref sig .tc .vmem S1024x7168 .fp8e4m3 := win0_2.stage (cfg0.slots t 2)
/-- which is a whole buffer. -/
abbrev hs0_2 (t : Fin cfg0.N) : (ms0_2 t).IsWhole := hstage0_2 ((cfg0.slots t 2).cast nbuf0_2)
/-- The buffer window 3 uses at a point, -/
abbrev ms0_3 (t : Fin cfg0.N) : Memref sig .tc .vmem S1024x1 .f32 := win0_3.stage (cfg0.slots t 3)
/-- which is a whole buffer. -/
abbrev hs0_3 (t : Fin cfg0.N) : (ms0_3 t).IsWhole := hstage0_3 ((cfg0.slots t 3).cast nbuf0_3)
/-- The buffer window 4 uses at a point, -/
abbrev ms0_4 (t : Fin cfg0.N) : Memref sig .tc .vmem S896x768 .i32 := win0_4.stage (cfg0.slots t 4)
/-- which is a whole buffer. -/
abbrev hs0_4 (t : Fin cfg0.N) : (ms0_4 t).IsWhole := hstage0_4 ((cfg0.slots t 4).cast nbuf0_4)
/-- The buffer window 5 uses at a point, -/
abbrev ms0_5 (t : Fin cfg0.N) : Memref sig .tc .vmem S56x768 .fp8e4m3 := win0_5.stage (cfg0.slots t 5)
/-- which is a whole buffer. -/
abbrev hs0_5 (t : Fin cfg0.N) : (ms0_5 t).IsWhole := hstage0_5 ((cfg0.slots t 5).cast nbuf0_5)
/-- The buffer window 6 uses at a point, -/
abbrev ms0_6 (t : Fin cfg0.N) : Memref sig .tc .vmem S56x768 .i8 := win0_6.stage (cfg0.slots t 6)
/-- which is a whole buffer. -/
abbrev hs0_6 (t : Fin cfg0.N) : (ms0_6 t).IsWhole := hstage0_6 ((cfg0.slots t 6).cast nbuf0_6)
/-- The buffer window 7 uses at a point, -/
abbrev ms0_7 (t : Fin cfg0.N) : Memref sig .tc .vmem S1x768 .f32 := win0_7.stage (cfg0.slots t 7)
/-- which is a whole buffer. -/
abbrev hs0_7 (t : Fin cfg0.N) : (ms0_7 t).IsWhole := hstage0_7 ((cfg0.slots t 7).cast nbuf0_7)
/-- The buffer window 8 uses at a point, -/
abbrev ms0_8 (t : Fin cfg0.N) : Memref sig .tc .vmem S1024x128 .f32 := win0_8.stage (cfg0.slots t 8)
/-- which is a whole buffer. -/
abbrev hs0_8 (t : Fin cfg0.N) : (ms0_8 t).IsWhole := hstage0_8 ((cfg0.slots t 8).cast nbuf0_8)
/-- The buffer window 9 uses at a point, -/
abbrev ms0_9 (t : Fin cfg0.N) : Memref sig .tc .vmem S1024x128 .f32 := win0_9.stage (cfg0.slots t 9)
/-- which is a whole buffer. -/
abbrev hs0_9 (t : Fin cfg0.N) : (ms0_9 t).IsWhole := hstage0_9 ((cfg0.slots t 9).cast nbuf0_9)
/-- The buffer window 10 uses at a point, -/
abbrev ms0_10 (t : Fin cfg0.N) : Memref sig .tc .vmem S1024x1792 .bf16 := win0_10.stage (cfg0.slots t 10)
/-- which is a whole buffer. -/
abbrev hs0_10 (t : Fin cfg0.N) : (ms0_10 t).IsWhole := hstage0_10 ((cfg0.slots t 10).cast nbuf0_10)
/-- The buffer window 11 uses at a point, -/
abbrev ms0_11 (t : Fin cfg0.N) : Memref sig .tc .vmem S1x2x1024x128 .fp8e4m3 := win0_11.stage (cfg0.slots t 11)
/-- which is a whole buffer. -/
abbrev hs0_11 (t : Fin cfg0.N) : (ms0_11 t).IsWhole := hstage0_11 ((cfg0.slots t 11).cast nbuf0_11)
/-- The buffer window 12 uses at a point, -/
abbrev ms0_12 (t : Fin cfg0.N) : Memref sig .tc .vmem S1x2x1024x128 .fp8e4m3 := win0_12.stage (cfg0.slots t 12)
/-- which is a whole buffer. -/
abbrev hs0_12 (t : Fin cfg0.N) : (ms0_12 t).IsWhole := hstage0_12 ((cfg0.slots t 12).cast nbuf0_12)
/-- Scratch buffer 0, whole. -/
abbrev scM0_0 : Memref sig .tc .vmem S7168x768 .bf16 := Memref.whole cc0_scratch0

/-- What the body is lent besides its windows: the scratch buffers and the register of random bits. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl
set_option maxHeartbeats 1864000 in
/-- The body at the first point of a block of rows, run whole. -/
theorem run_A (c : Dev nD) (i : grid0.Coords) (arg2 : Memref sig .tc .smem S2 .f32) (harg2 : arg2.IsWhole) (arg3 : Memref sig .tc .smem S2 .f32) (harg3 : arg3.IsWhole) (arg4 : Memref sig .tc .vmem S1024x7168 .fp8e4m3) (harg4 : arg4.IsWhole) (arg5 : Memref sig .tc .vmem S1024x1 .f32) (harg5 : arg5.IsWhole) (arg6 : Memref sig .tc .vmem S896x768 .i32) (harg6 : arg6.IsWhole) (arg7 : Memref sig .tc .vmem S56x768 .fp8e4m3) (harg7 : arg7.IsWhole) (arg8 : Memref sig .tc .vmem S56x768 .i8) (harg8 : arg8.IsWhole) (arg9 : Memref sig .tc .vmem S1x768 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x1792 .bf16) (harg12 : arg12.IsWhole) (arg13 : Memref sig .tc .vmem S1x2x1024x128 .fp8e4m3) (harg13 : arg13.IsWhole) (arg14 : Memref sig .tc .vmem S1x2x1024x128 .fp8e4m3) (harg14 : arg14.IsWhole) (arg15 : Memref sig .tc .vmem S7168x768 .bf16) (harg15 : arg15.IsWhole) (hc0 : cond0_0 i) (hc1 : ¬cond0_1 i) (hc2 : ¬cond0_2 i)
    (x0 : Vec F S2 .f32) (x1 : Vec F S2 .f32) (x2 : Vec F S1024x7168 .fp8e4m3) (x3 : Vec F S1024x1 .f32) (x4 : Vec F S896x768 .i32) (x5 : Vec F S56x768 .fp8e4m3) (x6 : Vec F S56x768 .i8) (x7 : Vec F S1x768 .f32) (x8 : Vec F S1024x128 .f32) (x9 : Vec F S1024x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_qkv_proj i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_qkv_proj_eq_skeleton]; unfold cc0_qkv_proj_skel
    simp only [k0_part47_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact HS0
    ipureintro; rfl
set_option maxHeartbeats 1864000 in
/-- The body at the second point of a block of rows, run whole. -/
theorem run_B (c : Dev nD) (i : grid0.Coords) (arg2 : Memref sig .tc .smem S2 .f32) (harg2 : arg2.IsWhole) (arg3 : Memref sig .tc .smem S2 .f32) (harg3 : arg3.IsWhole) (arg4 : Memref sig .tc .vmem S1024x7168 .fp8e4m3) (harg4 : arg4.IsWhole) (arg5 : Memref sig .tc .vmem S1024x1 .f32) (harg5 : arg5.IsWhole) (arg6 : Memref sig .tc .vmem S896x768 .i32) (harg6 : arg6.IsWhole) (arg7 : Memref sig .tc .vmem S56x768 .fp8e4m3) (harg7 : arg7.IsWhole) (arg8 : Memref sig .tc .vmem S56x768 .i8) (harg8 : arg8.IsWhole) (arg9 : Memref sig .tc .vmem S1x768 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x1792 .bf16) (harg12 : arg12.IsWhole) (arg13 : Memref sig .tc .vmem S1x2x1024x128 .fp8e4m3) (harg13 : arg13.IsWhole) (arg14 : Memref sig .tc .vmem S1x2x1024x128 .fp8e4m3) (harg14 : arg14.IsWhole) (arg15 : Memref sig .tc .vmem S7168x768 .bf16) (harg15 : arg15.IsWhole) (hc0 : ¬cond0_0 i) (hc1 : cond0_1 i) (hc2 : ¬cond0_2 i)
    (x0 : Vec F S2 .f32) (x1 : Vec F S2 .f32) (x2 : Vec F S1024x7168 .fp8e4m3) (x3 : Vec F S1024x1 .f32) (x4 : Vec F S896x768 .i32) (x5 : Vec F S56x768 .fp8e4m3) (x6 : Vec F S56x768 .i8) (x7 : Vec F S1x768 .f32) (x8 : Vec F S1024x128 .f32) (x9 : Vec F S1024x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_qkv_proj i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_qkv_proj_eq_skeleton]; unfold cc0_qkv_proj_skel
    simp only [k0_part47_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact HS0
    ipureintro; rfl
set_option maxHeartbeats 1900000 in
/-- The body at the last point of a block of rows, run whole. -/
theorem run_C (c : Dev nD) (i : grid0.Coords) (arg2 : Memref sig .tc .smem S2 .f32) (harg2 : arg2.IsWhole) (arg3 : Memref sig .tc .smem S2 .f32) (harg3 : arg3.IsWhole) (arg4 : Memref sig .tc .vmem S1024x7168 .fp8e4m3) (harg4 : arg4.IsWhole) (arg5 : Memref sig .tc .vmem S1024x1 .f32) (harg5 : arg5.IsWhole) (arg6 : Memref sig .tc .vmem S896x768 .i32) (harg6 : arg6.IsWhole) (arg7 : Memref sig .tc .vmem S56x768 .fp8e4m3) (harg7 : arg7.IsWhole) (arg8 : Memref sig .tc .vmem S56x768 .i8) (harg8 : arg8.IsWhole) (arg9 : Memref sig .tc .vmem S1x768 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x1792 .bf16) (harg12 : arg12.IsWhole) (arg13 : Memref sig .tc .vmem S1x2x1024x128 .fp8e4m3) (harg13 : arg13.IsWhole) (arg14 : Memref sig .tc .vmem S1x2x1024x128 .fp8e4m3) (harg14 : arg14.IsWhole) (arg15 : Memref sig .tc .vmem S7168x768 .bf16) (harg15 : arg15.IsWhole) (hc0 : ¬cond0_0 i) (hc1 : ¬cond0_1 i) (hc2 : cond0_2 i)
    (x0 : Vec F S2 .f32) (x1 : Vec F S2 .f32) (x2 : Vec F S1024x7168 .fp8e4m3) (x3 : Vec F S1024x1 .f32) (x4 : Vec F S896x768 .i32) (x5 : Vec F S56x768 .fp8e4m3) (x6 : Vec F S56x768 .i8) (x7 : Vec F S1x768 .f32) (x8 : Vec F S1024x128 .f32) (x9 : Vec F S1024x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_qkv_proj i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_qkv_proj_eq_skeleton]; unfold cc0_qkv_proj_skel
    simp only [k0_part47_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact HS0
    ipureintro; rfl

/-- The outputs, of whose contents this frame states nothing. -/
def forgets0 : Fin 13 → Bool := fun w => w.val == 10 || w.val == 11 || w.val == 12

/-- The proof data: the arrays as the region finds them, each input's buffer at its block, nothing said of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The data's arrays are those the region finds. -/
theorem A_eq (c : Dev nD) (w : Fin cfg0.W) : (dats m 0 c).A w = V m c (Pipeline.arrRef spec0 w) := by
  dsimp only [dats]

/-- What window 0's buffer holds after the body at a point. -/
theorem after0_0 (c : Dev nD) (t : Fin cfg0.N) : (dats m 0 c).after 0 t = iblk m c 0 t := by dsimp only [dats]
/-- What window 1's buffer holds after the body at a point. -/
theorem after0_1 (c : Dev nD) (t : Fin cfg0.N) : (dats m 0 c).after 1 t = iblk m c 1 t := by dsimp only [dats]
/-- What window 2's buffer holds after the body at a point. -/
theorem after0_2 (c : Dev nD) (t : Fin cfg0.N) : (dats m 0 c).after 2 t = iblk m c 2 t := by dsimp only [dats]
/-- What window 3's buffer holds after the body at a point. -/
theorem after0_3 (c : Dev nD) (t : Fin cfg0.N) : (dats m 0 c).after 3 t = iblk m c 3 t := by dsimp only [dats]
/-- What window 4's buffer holds after the body at a point. -/
theorem after0_4 (c : Dev nD) (t : Fin cfg0.N) : (dats m 0 c).after 4 t = iblk m c 4 t := by dsimp only [dats]
/-- What window 5's buffer holds after the body at a point. -/
theorem after0_5 (c : Dev nD) (t : Fin cfg0.N) : (dats m 0 c).after 5 t = iblk m c 5 t := by dsimp only [dats]
/-- What window 6's buffer holds after the body at a point. -/
theorem after0_6 (c : Dev nD) (t : Fin cfg0.N) : (dats m 0 c).after 6 t = iblk m c 6 t := by dsimp only [dats]
/-- What window 7's buffer holds after the body at a point. -/
theorem after0_7 (c : Dev nD) (t : Fin cfg0.N) : (dats m 0 c).after 7 t = iblk m c 7 t := by dsimp only [dats]
/-- What window 8's buffer holds after the body at a point. -/
theorem after0_8 (c : Dev nD) (t : Fin cfg0.N) : (dats m 0 c).after 8 t = iblk m c 8 t := by dsimp only [dats]
/-- What window 9's buffer holds after the body at a point. -/
theorem after0_9 (c : Dev nD) (t : Fin cfg0.N) : (dats m 0 c).after 9 t = iblk m c 9 t := by dsimp only [dats]

/-- What window 0's buffer holds before the body at a point: its block. -/
theorem before0_0 (c : Dev nD) (t : Fin cfg0.N) (d) : (dats m 0 c).before 0 t d = iblk m c 0 t :=
  before0_0_of m (dats m 0 c) (A_eq m c 0) (after0_0 m c) t d
/-- What window 1's buffer holds before the body at a point: its block. -/
theorem before0_1 (c : Dev nD) (t : Fin cfg0.N) (d) : (dats m 0 c).before 1 t d = iblk m c 1 t :=
  before0_1_of m (dats m 0 c) (A_eq m c 1) (after0_1 m c) t d
/-- What window 2's buffer holds before the body at a point: its block. -/
theorem before0_2 (c : Dev nD) (t : Fin cfg0.N) (d) : (dats m 0 c).before 2 t d = iblk m c 2 t :=
  before0_2_of m (dats m 0 c) (A_eq m c 2) (after0_2 m c) t d
/-- What window 3's buffer holds before the body at a point: its block. -/
theorem before0_3 (c : Dev nD) (t : Fin cfg0.N) (d) : (dats m 0 c).before 3 t d = iblk m c 3 t :=
  before0_3_of m (dats m 0 c) (A_eq m c 3) (after0_3 m c) t d
/-- What window 4's buffer holds before the body at a point: its block. -/
theorem before0_4 (c : Dev nD) (t : Fin cfg0.N) (d) : (dats m 0 c).before 4 t d = iblk m c 4 t :=
  before0_4_of m (dats m 0 c) (A_eq m c 4) (after0_4 m c) t d
/-- What window 5's buffer holds before the body at a point: its block. -/
theorem before0_5 (c : Dev nD) (t : Fin cfg0.N) (d) : (dats m 0 c).before 5 t d = iblk m c 5 t :=
  before0_5_of m (dats m 0 c) (A_eq m c 5) (after0_5 m c) t d
/-- What window 6's buffer holds before the body at a point: its block. -/
theorem before0_6 (c : Dev nD) (t : Fin cfg0.N) (d) : (dats m 0 c).before 6 t d = iblk m c 6 t :=
  before0_6_of m (dats m 0 c) (A_eq m c 6) (after0_6 m c) t d
/-- What window 7's buffer holds before the body at a point: its block. -/
theorem before0_7 (c : Dev nD) (t : Fin cfg0.N) (d) : (dats m 0 c).before 7 t d = iblk m c 7 t :=
  before0_7_of m (dats m 0 c) (A_eq m c 7) (after0_7 m c) t d
/-- What window 8's buffer holds before the body at a point: its block. -/
theorem before0_8 (c : Dev nD) (t : Fin cfg0.N) (d) : (dats m 0 c).before 8 t d = iblk m c 8 t :=
  before0_8_of m (dats m 0 c) (A_eq m c 8) (after0_8 m c) t d
/-- What window 9's buffer holds before the body at a point: its block. -/
theorem before0_9 (c : Dev nD) (t : Fin cfg0.N) (d) : (dats m 0 c).before 9 t d = iblk m c 9 t :=
  before0_9_of m (dats m 0 c) (A_eq m c 9) (after0_9 m c) t d

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 3600000 in
/-- The body at any point: it takes its buffers and gives them back, the inputs unchanged. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 18 := lt_of_lt_of_eq t.isLt (show cfg0.N = 18 from N_0)
  by_cases h0 : t.val % 3 = 0
  · by_cases h1 : t.val % 3 = 1
    · exfalso; omega
    · by_cases h2 : t.val % 3 = 2
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((run_A c (grid0.coords t) _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [HS0]; · iexact HS0
        iintro ⟨H0, H1, H2, H3, H4, H5, H6, H7, H8, H9, H10, H11, H12, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
  · by_cases h1 : t.val % 3 = 1
    · by_cases h2 : t.val % 3 = 2
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((run_B c (grid0.coords t) _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [HS0]; · iexact HS0
        iintro ⟨H0, H1, H2, H3, H4, H5, H6, H7, H8, H9, H10, H11, H12, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
    · by_cases h2 : t.val % 3 = 2
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((run_C c (grid0.coords t) _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [HS0]; · iexact HS0
        iintro ⟨H0, H1, H2, H3, H4, H5, H6, H7, H8, H9, H10, H11, H12, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      · exfalso; omega

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl
set_option backward.isDefEq.respectTransparency.types false in
/-- Every execution ends with the inputs unchanged and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends with the inputs unchanged. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  forget_of m ρ (fun c => (dats m 0 c).toRForget forgets0) (A_eq m) (run_main m ρ)

/-- The frame: every execution ends, the arguments unchanged and every semaphore counter zero again. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Qkv.Hand
-- ==== Proof.QkvKit.lean ====
module

public import proofs.«01_k».proof.Proof.Gen.QkvIdeal.Frame
public import proofs.«01_k».proof.Proof.Gen.QkvIdeal.Skeleton

@[expose] public section

set_option maxRecDepth 16384

noncomputable section

namespace Cert.QkvIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QkvIdeal.Gen

variable {F : FTy → Type} [FloatOps F]

local notation "𝕄" => MT nD τ sig Unit (Elt F) ℕ (UR sig nD τ) ℕ

/-! ## The body's branch conditions -/

/-- The condition of the body's first branch, of the grid coordinates. -/
abbrev cond0_0 (i : grid0.Coords) : Prop := k0_cond1 i = 1#1
/-- It holds at the points ≡ 0 (mod 3) — by arithmetic of the point. -/
theorem hcond0_0 : ∀ t : Fin cfg0.N, cond0_0 (grid0.coords t) ↔ t.val % 3 = 0 :=
  (fun t => by
    have ht : t.val < 18 := Nat.lt_of_lt_of_eq t.isLt N_0
    have e0 : (grid0.coords t 0).val = t.val / 3 % 6 := Pipeline.Grid.coords_val t 0 (by decide) rfl
    have e1 : (grid0.coords t 1).val = t.val / 1 % 3 := Pipeline.Grid.coords_val t 1 (by decide) rfl
    simp only [cond0_0, k0_cond1, e0, e1]
    word_cmp
   : ∀ t : Fin grid0.N, cond0_0 (grid0.coords t) ↔ t.val % 3 = 0)

/-- The condition of the body's second branch, of the grid coordinates. -/
abbrev cond0_1 (i : grid0.Coords) : Prop := k0_cond2 i = 1#1
/-- It holds at the points ≡ 1 (mod 3) — by arithmetic of the point. -/
theorem hcond0_1 : ∀ t : Fin cfg0.N, cond0_1 (grid0.coords t) ↔ t.val % 3 = 1 :=
  (fun t => by
    have ht : t.val < 18 := Nat.lt_of_lt_of_eq t.isLt N_0
    have e0 : (grid0.coords t 0).val = t.val / 3 % 6 := Pipeline.Grid.coords_val t 0 (by decide) rfl
    have e1 : (grid0.coords t 1).val = t.val / 1 % 3 := Pipeline.Grid.coords_val t 1 (by decide) rfl
    simp only [cond0_1, k0_cond2, e0, e1]
    word_cmp
   : ∀ t : Fin grid0.N, cond0_1 (grid0.coords t) ↔ t.val % 3 = 1)

/-- The condition of the body's third branch, of the grid coordinates. -/
abbrev cond0_2 (i : grid0.Coords) : Prop := k0_cond3 i = 1#1
/-- It holds at the points ≡ 2 (mod 3) — by arithmetic of the point. -/
theorem hcond0_2 : ∀ t : Fin cfg0.N, cond0_2 (grid0.coords t) ↔ t.val % 3 = 2 :=
  (fun t => by
    have ht : t.val < 18 := Nat.lt_of_lt_of_eq t.isLt N_0
    have e0 : (grid0.coords t 0).val = t.val / 3 % 6 := Pipeline.Grid.coords_val t 0 (by decide) rfl
    have e1 : (grid0.coords t 1).val = t.val / 1 % 3 := Pipeline.Grid.coords_val t 1 (by decide) rfl
    simp only [cond0_2, k0_cond3, e0, e1]
    word_cmp
   : ∀ t : Fin grid0.N, cond0_2 (grid0.coords t) ↔ t.val % 3 = 2)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl

/-- Each window's current staging memref at point `t`, spelled as the pipeline passes it (`bodyAt0`), and its wholeness. -/
abbrev ms0_0 (t : Fin cfg0.N) : Memref sig .tc .smem S2 .f32 := win0_0.stage (cfg0.slots t 0)
/-- which is a whole buffer. -/
abbrev hs0_0 (t : Fin cfg0.N) : (ms0_0 t).IsWhole := hstage0_0 ((cfg0.slots t 0).cast nbuf0_0)
/-- The buffer window 1 uses at a point, -/
abbrev ms0_1 (t : Fin cfg0.N) : Memref sig .tc .smem S2 .f32 := win0_1.stage (cfg0.slots t 1)
/-- which is a whole buffer. -/
abbrev hs0_1 (t : Fin cfg0.N) : (ms0_1 t).IsWhole := hstage0_1 ((cfg0.slots t 1).cast nbuf0_1)
/-- The buffer window 2 uses at a point, -/
abbrev ms0_2 (t : Fin cfg0.N) : Memref sig .tc .vmem S1024x7168 .fp8e4m3 := win0_2.stage (cfg0.slots t 2)
/-- which is a whole buffer. -/
abbrev hs0_2 (t : Fin cfg0.N) : (ms0_2 t).IsWhole := hstage0_2 ((cfg0.slots t 2).cast nbuf0_2)
/-- The buffer window 3 uses at a point, -/
abbrev ms0_3 (t : Fin cfg0.N) : Memref sig .tc .vmem S1024x1 .f32 := win0_3.stage (cfg0.slots t 3)
/-- which is a whole buffer. -/
abbrev hs0_3 (t : Fin cfg0.N) : (ms0_3 t).IsWhole := hstage0_3 ((cfg0.slots t 3).cast nbuf0_3)
/-- The buffer window 4 uses at a point, -/
abbrev ms0_4 (t : Fin cfg0.N) : Memref sig .tc .vmem S896x768 .i32 := win0_4.stage (cfg0.slots t 4)
/-- which is a whole buffer. -/
abbrev hs0_4 (t : Fin cfg0.N) : (ms0_4 t).IsWhole := hstage0_4 ((cfg0.slots t 4).cast nbuf0_4)
/-- The buffer window 5 uses at a point, -/
abbrev ms0_5 (t : Fin cfg0.N) : Memref sig .tc .vmem S56x768 .fp8e4m3 := win0_5.stage (cfg0.slots t 5)
/-- which is a whole buffer. -/
abbrev hs0_5 (t : Fin cfg0.N) : (ms0_5 t).IsWhole := hstage0_5 ((cfg0.slots t 5).cast nbuf0_5)
/-- The buffer window 6 uses at a point, -/
abbrev ms0_6 (t : Fin cfg0.N) : Memref sig .tc .vmem S56x768 .i8 := win0_6.stage (cfg0.slots t 6)
/-- which is a whole buffer. -/
abbrev hs0_6 (t : Fin cfg0.N) : (ms0_6 t).IsWhole := hstage0_6 ((cfg0.slots t 6).cast nbuf0_6)
/-- The buffer window 7 uses at a point, -/
abbrev ms0_7 (t : Fin cfg0.N) : Memref sig .tc .vmem S1x768 .f32 := win0_7.stage (cfg0.slots t 7)
/-- which is a whole buffer. -/
abbrev hs0_7 (t : Fin cfg0.N) : (ms0_7 t).IsWhole := hstage0_7 ((cfg0.slots t 7).cast nbuf0_7)
/-- The buffer window 8 uses at a point, -/
abbrev ms0_8 (t : Fin cfg0.N) : Memref sig .tc .vmem S1024x128 .f32 := win0_8.stage (cfg0.slots t 8)
/-- which is a whole buffer. -/
abbrev hs0_8 (t : Fin cfg0.N) : (ms0_8 t).IsWhole := hstage0_8 ((cfg0.slots t 8).cast nbuf0_8)
/-- The buffer window 9 uses at a point, -/
abbrev ms0_9 (t : Fin cfg0.N) : Memref sig .tc .vmem S1024x128 .f32 := win0_9.stage (cfg0.slots t 9)
/-- which is a whole buffer. -/
abbrev hs0_9 (t : Fin cfg0.N) : (ms0_9 t).IsWhole := hstage0_9 ((cfg0.slots t 9).cast nbuf0_9)
/-- The buffer window 10 uses at a point, -/
abbrev ms0_10 (t : Fin cfg0.N) : Memref sig .tc .vmem S1024x1792 .bf16 := win0_10.stage (cfg0.slots t 10)
/-- which is a whole buffer. -/
abbrev hs0_10 (t : Fin cfg0.N) : (ms0_10 t).IsWhole := hstage0_10 ((cfg0.slots t 10).cast nbuf0_10)
/-- The buffer window 11 uses at a point, -/
abbrev ms0_11 (t : Fin cfg0.N) : Memref sig .tc .vmem S1x2x1024x128 .fp8e4m3 := win0_11.stage (cfg0.slots t 11)
/-- which is a whole buffer. -/
abbrev hs0_11 (t : Fin cfg0.N) : (ms0_11 t).IsWhole := hstage0_11 ((cfg0.slots t 11).cast nbuf0_11)
/-- The buffer window 12 uses at a point, -/
abbrev ms0_12 (t : Fin cfg0.N) : Memref sig .tc .vmem S1x2x1024x128 .fp8e4m3 := win0_12.stage (cfg0.slots t 12)
/-- which is a whole buffer. -/
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S7168x768 .bf16 := Memref.whole cc0_scratch0

/-- The invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- Where output 11's window is idle (all but the last point of a block of rows). -/
theorem idleAt0_11 : ∀ t : Fin cfg0.N, ¬t.val % 3 = 2 → cfg0.idle 11 (grid0.coords t) = true := by decide +kernel
/-- Window 11 is not written back at the other points. -/
theorem noFlush0_11 : ∀ t : Fin cfg0.N, ¬t.val % 3 = 2 → (cfg0.win 11).flush t = false := by decide +kernel
/-- Window 11 is in use at the points that store it. -/
theorem liveAt0_11 : ∀ t : Fin cfg0.N, t.val % 3 = 2 → cfg0.idle 11 (grid0.coords t) = false := by decide +kernel

/-- Where output 12's window is idle (all but the last point of a block of rows). -/
theorem idleAt0_12 : ∀ t : Fin cfg0.N, ¬t.val % 3 = 2 → cfg0.idle 12 (grid0.coords t) = true := by decide +kernel
/-- Window 12 is not written back at the other points. -/
theorem noFlush0_12 : ∀ t : Fin cfg0.N, ¬t.val % 3 = 2 → (cfg0.win 12).flush t = false := by decide +kernel
/-- Window 12 is in use at the points that store it. -/
theorem liveAt0_12 : ∀ t : Fin cfg0.N, t.val % 3 = 2 → cfg0.idle 12 (grid0.coords t) = false := by decide +kernel

/-- Output 10's buffer is never filled from its array, and goes back at the last point of a block of rows. -/
theorem fetch0_10 : ∀ t : Fin cfg0.N, (cfg0.win 10).fetch t = false := by decide +kernel
/-- When window 10 is written back. -/
theorem flush0_10 : ∀ t : Fin cfg0.N, (cfg0.win 10).flush t = true ↔ t.val % 3 = 2 := by decide +kernel

end Cert.QkvIdeal.Hand

end
-- ==== Proof.QkvRunA.lean ====
module

public import proofs.«01_k».proof.Proof.QkvKit

@[expose] public section

set_option maxRecDepth 16384

noncomputable section

namespace Cert.QkvIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QkvIdeal.Gen

variable {F : FTy → Type} [FloatOps F]

local notation "𝕄" => MT nD τ sig Unit (Elt F) ℕ (UR sig nD τ) ℕ

set_option maxHeartbeats 8000000 in
/-- The body at the first point of a block of rows: from the inputs' blocks and the block of queries at `x10`, it leaves
    the inputs and the other outputs' buffers as they were and the block of queries at `x10` with the list of pieces
    written over it. -/
noncomputable def run_A (c : Dev nD) (i : grid0.Coords) (arg2 : Memref sig .tc .smem S2 .f32) (harg2 : arg2.IsWhole) (arg3 : Memref sig .tc .smem S2 .f32) (harg3 : arg3.IsWhole) (arg4 : Memref sig .tc .vmem S1024x7168 .fp8e4m3) (harg4 : arg4.IsWhole) (arg5 : Memref sig .tc .vmem S1024x1 .f32) (harg5 : arg5.IsWhole) (arg6 : Memref sig .tc .vmem S896x768 .i32) (harg6 : arg6.IsWhole) (arg7 : Memref sig .tc .vmem S56x768 .fp8e4m3) (harg7 : arg7.IsWhole) (arg8 : Memref sig .tc .vmem S56x768 .i8) (harg8 : arg8.IsWhole) (arg9 : Memref sig .tc .vmem S1x768 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x1792 .bf16) (harg12 : arg12.IsWhole) (arg13 : Memref sig .tc .vmem S1x2x1024x128 .fp8e4m3) (harg13 : arg13.IsWhole) (arg14 : Memref sig .tc .vmem S1x2x1024x128 .fp8e4m3) (harg14 : arg14.IsWhole) (arg15 : Memref sig .tc .vmem S7168x768 .bf16) (harg15 : arg15.IsWhole) (hc0 : cond0_0 i) (hc1 : ¬cond0_1 i) (hc2 : ¬cond0_2 i)
    (x0 : Vec F S2 .f32) (x1 : Vec F S2 .f32) (x2 : Vec F S1024x7168 .fp8e4m3) (x3 : Vec F S1024x1 .f32) (x4 : Vec F S896x768 .i32) (x5 : Vec F S56x768 .fp8e4m3) (x6 : Vec F S56x768 .i8) (x7 : Vec F S1x768 .f32) (x8 : Vec F S1024x128 .f32) (x9 : Vec F S1024x128 .f32) (x10 : Vec F S1024x1792 .bf16) :
    { L10 : List (View.Piece (Elt F) S1024x1792 .bf16) //
      ∀ (xi11 xi12 : Vec F S1x2x1024x128 .fp8e4m3) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xi12 ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (arg12.view.loc (c : Thread nD τ) ↦[arg12.view.set]{fullShare} arg12.view.writes (Elt F) (harg12.unread x10) L10) ∗ owns (c : Thread nD τ) arg13 fullShare xi11 ∗ owns (c : Thread nD τ) arg14 fullShare xi12 ∗ (∃ d, owns (c : Thread nD τ) arg15 fullShare d)) -∗ K ⟨⟩))
          ⊢ wp frame (wpE (defs₀ (F := F)) Variants.none c none) E (cc0_qkv_proj i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun xi11 xi12 E K => ?run⟩
  case run =>
    simp only [cc0_qkv_proj_eq_skeleton]; unfold cc0_qkv_proj_skel
    simp only [k0_part47_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexact H10
    isplitl [H11]
    · iexists _; isplitr; · ipureintro; exact harg13.read_unread _
      iexact H11
    isplitl [H12]
    · iexists _; isplitr; · ipureintro; exact harg14.read_unread _
      iexact H12
    iexists _, _; isplitr; swap; · iexact HS0
    ipureintro; rfl

end Cert.QkvIdeal.Hand

end
-- ==== Proof.QkvRunB.lean ====
module

public import proofs.«01_k».proof.Proof.QkvKit

@[expose] public section

set_option maxRecDepth 16384

noncomputable section

namespace Cert.QkvIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QkvIdeal.Gen

variable {F : FTy → Type} [FloatOps F]

local notation "𝕄" => MT nD τ sig Unit (Elt F) ℕ (UR sig nD τ) ℕ

set_option maxHeartbeats 8000000 in
/-- The body at the second point of a block of rows: from the inputs' blocks and the block of queries at `x10`, it leaves
    the inputs and the other outputs' buffers as they were and the block of queries at `x10` with the list of pieces
    written over it. -/
noncomputable def run_B (c : Dev nD) (i : grid0.Coords) (arg2 : Memref sig .tc .smem S2 .f32) (harg2 : arg2.IsWhole) (arg3 : Memref sig .tc .smem S2 .f32) (harg3 : arg3.IsWhole) (arg4 : Memref sig .tc .vmem S1024x7168 .fp8e4m3) (harg4 : arg4.IsWhole) (arg5 : Memref sig .tc .vmem S1024x1 .f32) (harg5 : arg5.IsWhole) (arg6 : Memref sig .tc .vmem S896x768 .i32) (harg6 : arg6.IsWhole) (arg7 : Memref sig .tc .vmem S56x768 .fp8e4m3) (harg7 : arg7.IsWhole) (arg8 : Memref sig .tc .vmem S56x768 .i8) (harg8 : arg8.IsWhole) (arg9 : Memref sig .tc .vmem S1x768 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x1792 .bf16) (harg12 : arg12.IsWhole) (arg13 : Memref sig .tc .vmem S1x2x1024x128 .fp8e4m3) (harg13 : arg13.IsWhole) (arg14 : Memref sig .tc .vmem S1x2x1024x128 .fp8e4m3) (harg14 : arg14.IsWhole) (arg15 : Memref sig .tc .vmem S7168x768 .bf16) (harg15 : arg15.IsWhole) (hc0 : ¬cond0_0 i) (hc1 : cond0_1 i) (hc2 : ¬cond0_2 i)
    (x0 : Vec F S2 .f32) (x1 : Vec F S2 .f32) (x2 : Vec F S1024x7168 .fp8e4m3) (x3 : Vec F S1024x1 .f32) (x4 : Vec F S896x768 .i32) (x5 : Vec F S56x768 .fp8e4m3) (x6 : Vec F S56x768 .i8) (x7 : Vec F S1x768 .f32) (x8 : Vec F S1024x128 .f32) (x9 : Vec F S1024x128 .f32) (x10 : Vec F S1024x1792 .bf16) :
    { L10 : List (View.Piece (Elt F) S1024x1792 .bf16) //
      ∀ (xi11 xi12 : Vec F S1x2x1024x128 .fp8e4m3) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xi12 ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (arg12.view.loc (c : Thread nD τ) ↦[arg12.view.set]{fullShare} arg12.view.writes (Elt F) (harg12.unread x10) L10) ∗ owns (c : Thread nD τ) arg13 fullShare xi11 ∗ owns (c : Thread nD τ) arg14 fullShare xi12 ∗ (∃ d, owns (c : Thread nD τ) arg15 fullShare d)) -∗ K ⟨⟩))
          ⊢ wp frame (wpE (defs₀ (F := F)) Variants.none c none) E (cc0_qkv_proj i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun xi11 xi12 E K => ?run⟩
  case run =>
    simp only [cc0_qkv_proj_eq_skeleton]; unfold cc0_qkv_proj_skel
    simp only [k0_part47_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexact H10
    isplitl [H11]
    · iexists _; isplitr; · ipureintro; exact harg13.read_unread _
      iexact H11
    isplitl [H12]
    · iexists _; isplitr; · ipureintro; exact harg14.read_unread _
      iexact H12
    iexists _, _; isplitr; swap; · iexact HS0
    ipureintro; rfl

end Cert.QkvIdeal.Hand

end
-- ==== Proof.QkvRunC.lean ====
module

public import proofs.«01_k».proof.Proof.QkvKit

@[expose] public section

set_option maxRecDepth 16384

noncomputable section

namespace Cert.QkvIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QkvIdeal.Gen

variable {F : FTy → Type} [FloatOps F]

local notation "𝕄" => MT nD τ sig Unit (Elt F) ℕ (UR sig nD τ) ℕ

set_option maxHeartbeats 8000000 in
/-- The body at the last point of a block of rows: from the inputs' blocks and the block of queries at `x10`, it leaves
    the inputs as they were, the block of queries at `x10` with the list of pieces written over it, and the two other
    outputs' buffers at the lists of pieces. -/
noncomputable def run_C (c : Dev nD) (i : grid0.Coords) (arg2 : Memref sig .tc .smem S2 .f32) (harg2 : arg2.IsWhole) (arg3 : Memref sig .tc .smem S2 .f32) (harg3 : arg3.IsWhole) (arg4 : Memref sig .tc .vmem S1024x7168 .fp8e4m3) (harg4 : arg4.IsWhole) (arg5 : Memref sig .tc .vmem S1024x1 .f32) (harg5 : arg5.IsWhole) (arg6 : Memref sig .tc .vmem S896x768 .i32) (harg6 : arg6.IsWhole) (arg7 : Memref sig .tc .vmem S56x768 .fp8e4m3) (harg7 : arg7.IsWhole) (arg8 : Memref sig .tc .vmem S56x768 .i8) (harg8 : arg8.IsWhole) (arg9 : Memref sig .tc .vmem S1x768 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x1792 .bf16) (harg12 : arg12.IsWhole) (arg13 : Memref sig .tc .vmem S1x2x1024x128 .fp8e4m3) (harg13 : arg13.IsWhole) (arg14 : Memref sig .tc .vmem S1x2x1024x128 .fp8e4m3) (harg14 : arg14.IsWhole) (arg15 : Memref sig .tc .vmem S7168x768 .bf16) (harg15 : arg15.IsWhole) (hc0 : ¬cond0_0 i) (hc1 : ¬cond0_1 i) (hc2 : cond0_2 i)
    (x0 : Vec F S2 .f32) (x1 : Vec F S2 .f32) (x2 : Vec F S1024x7168 .fp8e4m3) (x3 : Vec F S1024x1 .f32) (x4 : Vec F S896x768 .i32) (x5 : Vec F S56x768 .fp8e4m3) (x6 : Vec F S56x768 .i8) (x7 : Vec F S1x768 .f32) (x8 : Vec F S1024x128 .f32) (x9 : Vec F S1024x128 .f32) (x10 : Vec F S1024x1792 .bf16) :
    Σ' (L11 : List (View.Piece (Elt F) S1x2x1024x128 .fp8e4m3)), Σ' (L12 : List (View.Piece (Elt F) S1x2x1024x128 .fp8e4m3)), { L10 : List (View.Piece (Elt F) S1024x1792 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (arg12.view.loc (c : Thread nD τ) ↦[arg12.view.set]{fullShare} arg12.view.writes (Elt F) (harg12.unread x10) L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ d, owns (c : Thread nD τ) arg15 fullShare d)) -∗ K ⟨⟩))
          ⊢ wp frame (wpE (defs₀ (F := F)) Variants.none c none) E (cc0_qkv_proj i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_qkv_proj_eq_skeleton]; unfold cc0_qkv_proj_skel
    simp only [k0_part47_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexact H10
    isplitl [H11]; · iexists _; iexact H11
    isplitl [H12]; · iexists _; iexact H12
    iexists _, _; isplitr; swap; · iexact HS0
    ipureintro; rfl

end Cert.QkvIdeal.Hand

end
-- ==== Proof.QkvValue.lean ====
module

public import proofs.«01_k».proof.Proof.QkvRunA
public import proofs.«01_k».proof.Proof.QkvRunB
public import proofs.«01_k».proof.Proof.QkvRunC
public import proofs.«01_k».proof.Proof.W4
public import proofs.«01_k».proof.Proof.Rows
public import proofs.«01_k».proof.Proof.Quant
public import Idealize.ShloMosaic.Lib.WritesUnit
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem

namespace W4

/-- The rotary embedding of one head, as the kernel writes it: the head times `c` plus the head rolled by half its
    width times `s`, the sign of the second half's sine being in `s`. -/
def rolled (v c s : Fin 128 → EReal) (j : Fin 128) : EReal :=
  v j * c j + v ⟨(j + 128 - 64) % 128, Nat.mod_lt _ (by decide)⟩ * s j

/-- The rotary embedding of one head, half by half. -/
def rotary (v : Fin 128 → EReal) (c s : Fin 64 → EReal) (j : Fin 128) : EReal :=
  if h : (j : ℕ) < 64 then v j * c ⟨j, h⟩ - v ⟨64 + j, by omega⟩ * s ⟨j, h⟩
  else v j * c ⟨j - 64, by omega⟩ + v ⟨j - 64, by omega⟩ * s ⟨j - 64, by omega⟩

end W4

namespace Cert.QkvIdeal.Hand
open Cert.QkvIdeal Cert.QkvIdeal.Gen

/-- One group of the weight block, as the kernel stores it: row `r` of the group takes nibble `r % 8` of
    word row `r / 8`, and the group's one zero point and one scale. -/
theorem group_at (w : Vec Ideal S16x768 .i32) (z : Vec Ideal S1x768 .i8) (s : Vec Ideal S1x768 .fp8e4m3)
    (r : Fin 128) (j : Fin 768) :
    k0_pay149 (F := Ideal) w z s (ix2 r j)
      = W4.weight (w (ix2 ⟨r / 8, by omega⟩ j)) (r % 8) (z (ix2 0 j)) (s (ix2 0 j)) := by
  pointwise [k0_pay149]
  exact W4.kernel_weight _ _ (Nat.mod_lt _ (by decide)) _ _

/-- The weight block of a grid point: the packed block's own weights. -/
abbrev block (X2 : Vec Ideal S896x768 .i32) (X4 : Vec Ideal S56x768 .i8) (X3 : Vec Ideal S56x768 .fp8e4m3) :
    Vec Ideal S7168x768 .bf16 := fun y =>
  W4.weights (K := 7168) (R := 896) (Q := 56) (N := 768) rfl rfl X2 X4 X3 (y 0) (y 1)

/-- Storing group `g` at rows `128 g` onwards extends the filled part of the weight block by 128 rows. -/
theorem group_step (X2 : Vec Ideal S896x768 .i32) (X4 : Vec Ideal S56x768 .i8) (X3 : Vec Ideal S56x768 .fp8e4m3)
    {L : List (View.Piece (Elt Ideal) S7168x768 .bf16)} {a g : ℕ} (ha : a = 128 * g) (hg : g < 56)
    {ia : ∀ i, ![a, 0] i + ![128, 768] i ≤ S7168x768.size i}
    {w : (Rect.unit (s := S7168x768) ![a, 0] ![128, 768] ia).shape.Idx → Elt Ideal .bf16}
    (hL : W4.Filled L (block X2 X4 X3) 768 (128 * g) 0)
    (hw : w = k0_pay149 (F := Ideal) (View.ld X2 (Rect.unit ![16 * g, 0] ![16, 768] (W4.inb2 (by omega))))
      (View.ld X4 (Rect.unit ![g, 0] ![1, 768] (W4.inb2 (by omega))))
      (View.ld X3 (Rect.unit ![g, 0] ![1, 768] (W4.inb2 (by omega))))) :
    W4.Filled (⟨Rect.unit (s := S7168x768) ![a, 0] ![128, 768] ia, w⟩ :: L) (block X2 X4 X3) 768 (128 * (g + 1)) 0 := by
  subst ha
  refine W4.Filled.left (Nat.mul_succ _ _) hL fun x => ?_
  rw [hw]
  have e0 : ((Rect.unit (s := S7168x768) ![128 * g, 0] ![128, 768] ia).emb x 0 : ℕ) = 128 * g + x 0 :=
    ValueKit.rect_emb_unit_val _ _ ia x 0
  have e1 : ((Rect.unit (s := S7168x768) ![128 * g, 0] ![128, 768] ia).emb x 1 : ℕ) = 0 + x 1 :=
    ValueKit.rect_emb_unit_val _ _ ia x 1
  generalize (Rect.unit (s := S7168x768) ![128 * g, 0] ![128, 768] ia).emb x = z at e0 e1 ⊢
  idx_vars x
  idx_vars z
  exact (group_at _ _ _ _ _).trans
    (W4.weight_of_group rfl rfl X2 X4 X3 rfl rfl _ _ x0 x1 z0 z1 e0 (Fin.ext (by omega)) rfl rfl rfl)

/-- What the body computes over a weight block `W`: the rescaled product. -/
theorem body_at (x0 : Vec Ideal S1024x7168 .fp8e4m3) (x1 : Vec Ideal S1024x1 .f32) (x5 : Vec Ideal S1x768 .f32)
    (W : Vec Ideal S7168x768 .bf16) (V : Fin 7168 → Fin 768 → EReal)
    (hW : ∀ k n, W (ix2 k n) = V k n) (r : Fin 1024) (j : Fin 768) :
    k0_pay1 (F := Ideal) (k0_pay150 x0 W x1) (k0_pay151 x5) (ix2 r j)
      = (∑ k, x0 (ix2 r k) * V k j) * x1 (ix2 r 0) * x5 (ix2 0 j) := by
  pointwise [k0_pay1, k0_pay150, k0_pay151]
  simp only [hW]

/-- The head that starts at column `o` of a tile. -/
abbrev headOf (L : FVec Ideal S1024x768 .f32) (o : ℕ) (ho : o + 128 ≤ 768) (r : Fin 1024) (j : Fin 128) : EReal :=
  L (ix2 r ⟨o + j, by omega⟩)

section
variable (L : FVec Ideal S1024x768 .f32) (c s : Vec Ideal S1024x128 .f32) (r : Fin 1024) (j : Fin 128)

/-- Head 0 as the first point of a block of rows stores it. -/
theorem head_A0 : k0_pay9 (F := Ideal) L (k0_pay2 c) (k0_pay3 s) (ix2 r j)
    = W4.rolled (headOf L 0 (by decide) r) (fun j => c (ix2 r j)) (fun j => s (ix2 r j)) j := by
  unfold W4.rolled headOf
  pointwise [k0_pay9, k0_pay2, k0_pay3]

/-- Head 1 as the first point of a block of rows stores it. -/
theorem head_A1 : k0_pay10 (F := Ideal) L (k0_pay2 c) (k0_pay3 s) (ix2 r j)
    = W4.rolled (headOf L 128 (by decide) r) (fun j => c (ix2 r j)) (fun j => s (ix2 r j)) j := by
  unfold W4.rolled headOf
  pointwise [k0_pay10, k0_pay2, k0_pay3]

/-- Head 2 as the first point of a block of rows stores it. -/
theorem head_A2 : k0_pay11 (F := Ideal) L (k0_pay2 c) (k0_pay3 s) (ix2 r j)
    = W4.rolled (headOf L 256 (by decide) r) (fun j => c (ix2 r j)) (fun j => s (ix2 r j)) j := by
  unfold W4.rolled headOf
  pointwise [k0_pay11, k0_pay2, k0_pay3]

/-- Head 3 as the first point of a block of rows stores it. -/
theorem head_A3 : k0_pay12 (F := Ideal) L (k0_pay2 c) (k0_pay3 s) (ix2 r j)
    = W4.rolled (headOf L 384 (by decide) r) (fun j => c (ix2 r j)) (fun j => s (ix2 r j)) j := by
  unfold W4.rolled headOf
  pointwise [k0_pay12, k0_pay2, k0_pay3]

/-- Head 4 as the first point of a block of rows stores it. -/
theorem head_A4 : k0_pay13 (F := Ideal) L (k0_pay2 c) (k0_pay3 s) (ix2 r j)
    = W4.rolled (headOf L 512 (by decide) r) (fun j => c (ix2 r j)) (fun j => s (ix2 r j)) j := by
  unfold W4.rolled headOf
  pointwise [k0_pay13, k0_pay2, k0_pay3]

/-- Head 5 as the first point of a block of rows stores it. -/
theorem head_A5 : k0_pay4 (F := Ideal) (k0_pay15 L (k0_pay2 c)) (k0_pay16 L (k0_pay3 s)) (ix2 r j)
    = W4.rolled (headOf L 640 (by decide) r) (fun j => c (ix2 r j)) (fun j => s (ix2 r j)) j := by
  unfold W4.rolled headOf
  pointwise [k0_pay4, k0_pay15, k0_pay16, k0_pay14, k0_pay2, k0_pay3]

/-- Head 0 as the second point of a block of rows stores it. -/
theorem head_B0 : k0_pay17 (F := Ideal) L (k0_pay2 c) (k0_pay3 s) (ix2 r j)
    = W4.rolled (headOf L 0 (by decide) r) (fun j => c (ix2 r j)) (fun j => s (ix2 r j)) j := by
  unfold W4.rolled headOf
  pointwise [k0_pay17, k0_pay2, k0_pay3]

/-- Head 1 as the second point of a block of rows stores it. -/
theorem head_B1 : k0_pay18 (F := Ideal) L (k0_pay2 c) (k0_pay3 s) (ix2 r j)
    = W4.rolled (headOf L 128 (by decide) r) (fun j => c (ix2 r j)) (fun j => s (ix2 r j)) j := by
  unfold W4.rolled headOf
  pointwise [k0_pay18, k0_pay2, k0_pay3]

/-- Head 2 as the second point of a block of rows stores it. -/
theorem head_B2 : k0_pay19 (F := Ideal) L (k0_pay2 c) (k0_pay3 s) (ix2 r j)
    = W4.rolled (headOf L 256 (by decide) r) (fun j => c (ix2 r j)) (fun j => s (ix2 r j)) j := by
  unfold W4.rolled headOf
  pointwise [k0_pay19, k0_pay2, k0_pay3]

/-- Head 3 as the second point of a block of rows stores it. -/
theorem head_B3 : k0_pay20 (F := Ideal) L (k0_pay2 c) (k0_pay3 s) (ix2 r j)
    = W4.rolled (headOf L 384 (by decide) r) (fun j => c (ix2 r j)) (fun j => s (ix2 r j)) j := by
  unfold W4.rolled headOf
  pointwise [k0_pay20, k0_pay2, k0_pay3]

/-- Head 4 as the second point of a block of rows stores it. -/
theorem head_B4 : k0_pay21 (F := Ideal) L (k0_pay2 c) (k0_pay3 s) (ix2 r j)
    = W4.rolled (headOf L 512 (by decide) r) (fun j => c (ix2 r j)) (fun j => s (ix2 r j)) j := by
  unfold W4.rolled headOf
  pointwise [k0_pay21, k0_pay2, k0_pay3]

/-- Head 5 as the second point of a block of rows stores it. -/
theorem head_B5 : k0_pay5 (F := Ideal) (k0_pay23 L (k0_pay2 c)) (k0_pay24 L (k0_pay3 s)) (ix2 r j)
    = W4.rolled (headOf L 640 (by decide) r) (fun j => c (ix2 r j)) (fun j => s (ix2 r j)) j := by
  unfold W4.rolled headOf
  pointwise [k0_pay5, k0_pay23, k0_pay24, k0_pay22, k0_pay2, k0_pay3]

/-- Head 0 as the last point of a block of rows stores it. -/
theorem head_C0 : k0_pay25 (F := Ideal) L (k0_pay2 c) (k0_pay3 s) (ix2 r j)
    = W4.rolled (headOf L 0 (by decide) r) (fun j => c (ix2 r j)) (fun j => s (ix2 r j)) j := by
  unfold W4.rolled headOf
  pointwise [k0_pay25, k0_pay2, k0_pay3]

/-- Head 1 as the last point of a block of rows stores it. -/
theorem head_C1 : k0_pay26 (F := Ideal) L (k0_pay2 c) (k0_pay3 s) (ix2 r j)
    = W4.rolled (headOf L 128 (by decide) r) (fun j => c (ix2 r j)) (fun j => s (ix2 r j)) j := by
  unfold W4.rolled headOf
  pointwise [k0_pay26, k0_pay2, k0_pay3]

/-- A key head's codes. -/
theorem key_0 (k : EReal) : k0_pay27 (F := Ideal) L (k0_pay2 c) (k0_pay3 s) k (ix4 0 0 r j)
    = W4.codeOf (W4.rolled (headOf L 256 (by decide) r) (fun j => c (ix2 r j)) (fun j => s (ix2 r j)) j) k := by
  unfold W4.codeOf W4.rolled headOf
  pointwise [k0_pay27, k0_pay2, k0_pay3]

/-- The codes of the second key head as the last point stores them. -/
theorem key_1 (k : EReal) : k0_pay6 (F := Ideal) (k0_pay28 L (k0_pay2 c) (k0_pay3 s) k) (run_C.sl.cst_599 (F := Ideal)) k0_pay29 (ix4 0 0 r j)
    = W4.codeOf (W4.rolled (headOf L 384 (by decide) r) (fun j => c (ix2 r j)) (fun j => s (ix2 r j)) j) k := by
  unfold W4.codeOf W4.rolled headOf run_C.sl.cst_599
  pointwise [k0_pay6, k0_pay28, k0_pay29, k0_pay2, k0_pay3]

/-- A value head's codes. -/
theorem val_0 (a b : FVec Ideal S1024x768 .f32) (k : EReal) : k0_pay7 (F := Ideal) a b k (ix4 0 0 r j)
    = W4.codeOf (headOf (k0_pay1 (F := Ideal) a b) 512 (by decide) r j) k := by
  unfold W4.codeOf headOf
  pointwise [k0_pay7, k0_pay1]

/-- The codes of the second value head as the last point stores them. -/
theorem val_1 (a b : FVec Ideal S1024x768 .f32) (k : EReal) : k0_pay8 (F := Ideal) a b k (ix4 0 0 r j)
    = W4.codeOf (headOf (k0_pay1 (F := Ideal) a b) 640 (by decide) r j) k := by
  unfold W4.codeOf headOf
  pointwise [k0_pay8, k0_pay1]
end

/-! ## The block of queries, head by head -/

/-- The columns of the block of queries below `b` hold `H`. -/
def Upto (H : Fin 1024 → Fin 1792 → EReal) (b : ℕ) (x : Vec Ideal S1024x1792 .bf16) : Prop :=
  ∀ (r : Fin 1024) (n : Fin 1792), (n : ℕ) < b → x (ix2 r n) = H r n

/-- Storing one more head. -/
theorem Upto.step {H : Fin 1024 → Fin 1792 → EReal} {a b : ℕ} (M : Memref sig .tc .vmem S1024x1792 .bf16)
    {f : M.view.ty.Contents (Elt Ideal)} {L : List (View.Piece (Elt Ideal) S1024x1792 .bf16)}
    (hb : b = a + 128) {ia : ∀ i, ![0, a] i + ![1024, 128] i ≤ S1024x1792.size i}
    {w : (Rect.unit (s := S1024x1792) ![0, a] ![1024, 128] ia).shape.Idx → Elt Ideal .bf16}
    (hL : Upto H a (M.view.read (Elt Ideal) (M.view.writes (Elt Ideal) f L)))
    (hw : ∀ (r : Fin 1024) (j : Fin 128) (n : Fin 1792), (n : ℕ) = a + j → w (ix2 r j) = H r n) :
    Upto H b (M.view.read (Elt Ideal) (M.view.writes (Elt Ideal) f (⟨Rect.unit (s := S1024x1792) ![0, a] ![1024, 128] ia, w⟩ :: L))) := by
  subst hb
  intro r n hlt
  by_cases h : (n : ℕ) < a
  · exact (View.read_writes_cons_unit_of_not_mem _ _ _ _ L (ix2 r n) rfl 1 (Or.inl h)).trans (hL r n h)
  · have hb : (n : ℕ) - a < 128 := by omega
    have e : (n : ℕ) = a + ((n : ℕ) - a) := by omega
    refine (View.read_writes_cons_unit_of_mem _ _ _ _ L (ix2 r n) (ix2 r ⟨(n : ℕ) - a, hb⟩) rfl fun x => ?_).trans
      (hw r ⟨(n : ℕ) - a, hb⟩ n e)
    match x with
    | ⟨0, _⟩ => exact (Nat.zero_add _).symm
    | ⟨1, _⟩ => exact e

/-- A head of the linear layer's rows `l`: the 128 columns from `o`. -/
abbrev headAt (l : Fin 1024 → Fin 2304 → EReal) (o : ℕ) (ho : o + 128 ≤ 2304) (r : Fin 1024) (j : Fin 128) : EReal :=
  l r ⟨o + j, by omega⟩

/-- The block of queries over rows `l` of the linear layer. -/
def queries (l : Fin 1024 → Fin 2304 → EReal) (c s : Vec Ideal S1024x128 .f32) (r : Fin 1024) (n : Fin 1792) : EReal :=
  W4.rolled (headAt l (128 * (n / 128)) (by omega) r) (fun j => c (ix2 r j)) (fun j => s (ix2 r j))
    ⟨n % 128, Nat.mod_lt _ (by decide)⟩

/-- The block of key codes. -/
def keys (l : Fin 1024 → Fin 2304 → EReal) (c s : Vec Ideal S1024x128 .f32) (k : Vec Ideal S2 .f32) : Vec Ideal S1x2x1024x128 .fp8e4m3 := fun y =>
  W4.codeOf (W4.rolled (headAt l (1792 + 128 * (y 1 : ℕ)) (by have h : (y 1 : ℕ) < 2 := (y 1).isLt; omega) (y 2))
    (fun j => c (ix2 (y 2) j)) (fun j => s (ix2 (y 2) j)) (y 3)) (k (ix1 (y 1)))

/-- The block of value codes. -/
def vals (l : Fin 1024 → Fin 2304 → EReal) (k : Vec Ideal S2 .f32) : Vec Ideal S1x2x1024x128 .fp8e4m3 := fun y =>
  W4.codeOf (headAt l (2048 + 128 * (y 1 : ℕ)) (by have h : (y 1 : ℕ) < 2 := (y 1).isLt; omega) (y 2) (y 3)) (k (ix1 (y 1)))

/-- A head of a tile is the head of the rows at its place. -/
theorem head_place {l : Fin 1024 → Fin 2304 → EReal} {T : FVec Ideal S1024x768 .f32} {q o p : ℕ} {ho hp}
    (hT : ∀ (r : Fin 1024) (j : Fin 768) (n : Fin 2304), (n : ℕ) = q * 768 + j → T (ix2 r j) = l r n)
    (e : p = q * 768 + o) (r : Fin 1024) : headOf T o ho r = headAt l p hp r :=
  funext fun j => hT r ⟨o + j, by omega⟩ ⟨p + j, by omega⟩ (by show p + (j : ℕ) = q * 768 + (o + j); omega)

/-- A rotated head of a tile, at its place in the block of queries. -/
theorem queries_at {l : Fin 1024 → Fin 2304 → EReal} {T : FVec Ideal S1024x768 .f32} {q o a g : ℕ} {ho} (c s : Vec Ideal S1024x128 .f32)
    (hT : ∀ (r : Fin 1024) (j : Fin 768) (n : Fin 2304), (n : ℕ) = q * 768 + j → T (ix2 r j) = l r n)
    (e : a = q * 768 + o) (eg : a = 128 * g) (r : Fin 1024) (j : Fin 128) (n : Fin 1792) (hn : (n : ℕ) = a + j) :
    W4.rolled (headOf T o ho r) (fun j => c (ix2 r j)) (fun j => s (ix2 r j)) j = queries l c s r n := by
  have hj : (⟨n % 128, Nat.mod_lt _ (by decide)⟩ : Fin 128) = j := Fin.ext (by show (n : ℕ) % 128 = j; omega)
  unfold queries
  rw [hj]
  exact congrArg (fun v => W4.rolled v _ _ j) (head_place hT (show 128 * ((n : ℕ) / 128) = q * 768 + o by omega) r)

/-- Two heads stored one after the other are a block of heads. -/
theorem two_heads {G : Vec Ideal S1x2x1024x128 .fp8e4m3}
    {i0 : ∀ i, ![0, 0, 0, 0] i + ![1, 1, 1024, 128] i ≤ S1x2x1024x128.size i} {i1 : ∀ i, ![0, 1, 0, 0] i + ![1, 1, 1024, 128] i ≤ S1x2x1024x128.size i}
    {w0 : (Rect.unit (s := S1x2x1024x128) ![0, 0, 0, 0] ![1, 1, 1024, 128] i0).shape.Idx → Elt Ideal .fp8e4m3}
    {w1 : (Rect.unit (s := S1x2x1024x128) ![0, 1, 0, 0] ![1, 1, 1024, 128] i1).shape.Idx → Elt Ideal .fp8e4m3}
    (h0 : ∀ (r : Fin 1024) (j : Fin 128), w0 (ix4 0 0 r j) = G (ix4 0 0 r j))
    (h1 : ∀ (r : Fin 1024) (j : Fin 128), w1 (ix4 0 0 r j) = G (ix4 0 1 r j)) :
    View.canon (Val := Elt Ideal) [⟨Rect.unit (s := S1x2x1024x128) ![0, 1, 0, 0] ![1, 1, 1024, 128] i1, w1⟩,
      ⟨Rect.unit (s := S1x2x1024x128) ![0, 0, 0, 0] ![1, 1, 1024, 128] i0, w0⟩] = G := by
  funext y
  idx_vars y
  have ey : y0 = 0 := Fin.ext (by omega)
  subst ey
  by_cases h : (y1 : ℕ) = 1
  · have ey : y1 = 1 := Fin.ext h
    subst ey
    refine Eq.trans (congrArg _ (?_ : _ = (Rect.unit (s := S1x2x1024x128) ![0, 1, 0, 0] ![1, 1, 1024, 128] i1).emb (ix4 0 0 y2 y3))) ((View.canon_cons_emb _ w1 _ _).trans (h1 y2 y3))
    funext a
    refine Fin.ext (Eq.symm ((ValueKit.rect_emb_unit_val _ _ i1 _ a).trans ?_))
    match a with
    | ⟨0, _⟩ => rfl
    | ⟨1, _⟩ => rfl
    | ⟨2, _⟩ => exact Nat.zero_add _
    | ⟨3, _⟩ => exact Nat.zero_add _
  · have ey : y1 = 0 := Fin.ext (by show (y1 : ℕ) = 0; omega)
    subst ey
    rw [View.canon_cons_of_not_mem]
    · refine Eq.trans (congrArg _ (?_ : _ = (Rect.unit (s := S1x2x1024x128) ![0, 0, 0, 0] ![1, 1, 1024, 128] i0).emb (ix4 0 0 y2 y3))) ((View.canon_cons_emb _ w0 [] _).trans (h0 y2 y3))
      funext a
      refine Fin.ext (Eq.symm ((ValueKit.rect_emb_unit_val _ _ i0 _ a).trans ?_))
      match a with
      | ⟨0, _⟩ => rfl
      | ⟨1, _⟩ => rfl
      | ⟨2, _⟩ => exact Nat.zero_add _
      | ⟨3, _⟩ => exact Nat.zero_add _
    · intro hm
      obtain ⟨x, hx⟩ := (Rect.unit (s := S1x2x1024x128) ![0, 1, 0, 0] ![1, 1, 1024, 128] i1).exists_idx_of_mem hm
      have e := congrArg (fun z : S1x2x1024x128.Idx => (z 1 : ℕ)) hx
      have e' := (ValueKit.rect_emb_unit_val _ _ i1 x 1).symm.trans e
      have e'' : 1 + (x 1 : ℕ) = 0 := e'
      omega

/-! ## One grid point -/

section
variable (c : Dev nD) (i : grid0.Coords)
variable (arg2 : Memref sig .tc .smem S2 .f32) (harg2 : arg2.IsWhole) (arg3 : Memref sig .tc .smem S2 .f32) (harg3 : arg3.IsWhole) (arg4 : Memref sig .tc .vmem S1024x7168 .fp8e4m3) (harg4 : arg4.IsWhole) (arg5 : Memref sig .tc .vmem S1024x1 .f32) (harg5 : arg5.IsWhole) (arg6 : Memref sig .tc .vmem S896x768 .i32) (harg6 : arg6.IsWhole) (arg7 : Memref sig .tc .vmem S56x768 .fp8e4m3) (harg7 : arg7.IsWhole) (arg8 : Memref sig .tc .vmem S56x768 .i8) (harg8 : arg8.IsWhole) (arg9 : Memref sig .tc .vmem S1x768 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x1792 .bf16) (harg12 : arg12.IsWhole) (arg13 : Memref sig .tc .vmem S1x2x1024x128 .fp8e4m3) (harg13 : arg13.IsWhole) (arg14 : Memref sig .tc .vmem S1x2x1024x128 .fp8e4m3) (harg14 : arg14.IsWhole) (arg15 : Memref sig .tc .vmem S7168x768 .bf16) (harg15 : arg15.IsWhole)
variable (x0 : Vec Ideal S2 .f32) (x1 : Vec Ideal S2 .f32) (x2 : Vec Ideal S1024x7168 .fp8e4m3) (x3 : Vec Ideal S1024x1 .f32) (x4 : Vec Ideal S896x768 .i32) (x5 : Vec Ideal S56x768 .fp8e4m3) (x6 : Vec Ideal S56x768 .i8) (x7 : Vec Ideal S1x768 .f32) (x8 : Vec Ideal S1024x128 .f32) (x9 : Vec Ideal S1024x128 .f32) (x10 : Vec Ideal S1024x1792 .bf16)

/-- The weight block as the body reads it back. -/
theorem weights_A (k : Fin 7168) (n : Fin 768) :
    run_A.sl.v1794 (F := Ideal) c arg6 harg6 arg7 harg7 arg8 harg8 arg15 x4 x5 x6 (ix2 k n) = block x4 x6 x5 (ix2 k n) := by
  refine Eq.trans (b := block (arg6.view.read (Elt Ideal) (harg6.unread x4))
    (arg8.view.read (Elt Ideal) (harg8.unread x6)) (arg7.view.read (Elt Ideal) (harg7.unread x5)) (ix2 k n)) ?_
    (by rw [harg6.read_unread, harg7.read_unread, harg8.read_unread])
  unfold run_A.sl.v1794
  rw [View.readCov_eq_canon']
  have hF := fun L G (hL : W4.Filled (K := 7168) (N := 768) (e := .bf16) L G 768 (128 * 56) 0) =>
    hL (ix2 k n) (Or.inl ⟨n.isLt, k.isLt⟩)
  refine Eq.trans (congrArg _ (W4.idx_whole _ _)) (hF _ _ ?_)
  iterate 56 refine group_step _ _ _ rfl (by decide) ?_ rfl
  exact W4.Filled.nil _ _

/-- The tile of the linear layer the body computes from its blocks, at an element. -/
abbrev tileAt (r : Fin 1024) (j : Fin 768) : EReal :=
  W4.linear (K := 7168) (R := 896) (Q := 56) rfl rfl x2 x3 x4 x5 x6 x7 r j

/-- Reading the whole of a buffer holding `x` reads `x`. -/
theorem read_whole {A B : ℕ} {e : EltTy} (M : Memref sig .tc .vmem ⟨2, ![A, B]⟩ e) (hM : M.IsWhole)
    (x : Vec Ideal ⟨2, ![A, B]⟩ e) (inb) :
    View.readAt (Elt Ideal) M.view (Rect.unit (s := ⟨2, ![A, B]⟩) ![0, 0] (⟨2, ![A, B]⟩ : Shape).size inb).toLoadRect (hM.unread x) = x := by
  funext y
  exact (congrFun (hM.read_unread x) _).trans (congrArg x (W4.idx_whole inb y))

/-- The tile the body computes from its blocks. -/
abbrev tile : FVec Ideal S1024x768 .f32 := k0_pay1 (F := Ideal) (run_A.sl.r_60 c arg4 harg4 arg5 harg5 arg6 harg6 arg7 harg7 arg8 harg8 arg15 x2 x3 x4 x5 x6) (run_A.sl.r_61 c arg9 harg9 x7)

/-- It is the linear layer of the point's blocks. -/
theorem tile_at (r : Fin 1024) (j : Fin 768) : tile c arg4 harg4 arg5 harg5 arg6 harg6 arg7 harg7 arg8 harg8 arg9 harg9 arg15 x2 x3 x4 x5 x6 x7 (ix2 r j) = tileAt x2 x3 x4 x5 x6 x7 r j := by
  unfold tile run_A.sl.r_60 run_A.sl.r_61
  rw [read_whole arg4 harg4, read_whole arg5 harg5, read_whole arg9 harg9]
  exact body_at _ _ _ _ _ (weights_A c arg6 harg6 arg7 harg7 arg8 harg8 arg15 x4 x5 x6) r j

/-- The other two cases compute the same tile. -/
theorem tile_B : k0_pay1 (F := Ideal) (run_B.sl.r_60 c arg4 harg4 arg5 harg5 arg6 harg6 arg7 harg7 arg8 harg8 arg15 x2 x3 x4 x5 x6) (run_B.sl.r_61 c arg9 harg9 x7) = tile c arg4 harg4 arg5 harg5 arg6 harg6 arg7 harg7 arg8 harg8 arg9 harg9 arg15 x2 x3 x4 x5 x6 x7 := rfl
/-- The tile of the last point is the same expression. -/
theorem tile_C : k0_pay1 (F := Ideal) (run_C.sl.r_60 c arg4 harg4 arg5 harg5 arg6 harg6 arg7 harg7 arg8 harg8 arg15 x2 x3 x4 x5 x6) (run_C.sl.r_61 c arg9 harg9 x7) = tile c arg4 harg4 arg5 harg5 arg6 harg6 arg7 harg7 arg8 harg8 arg9 harg9 arg15 x2 x3 x4 x5 x6 x7 := rfl

section
variable (l : Fin 1024 → Fin 2304 → EReal)

/-- The first point of a block of rows adds its heads to the block of queries. -/
theorem step_A (hx : Upto (queries l x8 x9) (0 * 768) x10)
    (hn : ∀ (r : Fin 1024) (j : Fin 768) (n : Fin 2304), (n : ℕ) = 0 * 768 + j → tileAt x2 x3 x4 x5 x6 x7 r j = l r n)
    (hc0 : cond0_0 i) (hc1 : ¬cond0_1 i) (hc2 : ¬cond0_2 i) : Upto (queries l x8 x9) (768) (arg12.view.read (Elt Ideal) (arg12.view.writes (Elt Ideal) (harg12.unread x10)
    (run_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10).1)) := by
  have hT : ∀ (r : Fin 1024) (j : Fin 768) (n : Fin 2304), (n : ℕ) = 0 * 768 + j → tile c arg4 harg4 arg5 harg5 arg6 harg6 arg7 harg7 arg8 harg8 arg9 harg9 arg15 x2 x3 x4 x5 x6 x7 (ix2 r j) = l r n :=
    fun r j n h => (tile_at c arg4 harg4 arg5 harg5 arg6 harg6 arg7 harg7 arg8 harg8 arg9 harg9 arg15 x2 x3 x4 x5 x6 x7 r j).trans (hn r j n h)
  unfold run_A run_A.sl.r_62 run_A.sl.r_63
  simp only [read_whole arg10 harg10, read_whole arg11 harg11]
  refine Upto.step (a := 640) arg12 rfl ?_ fun r j n hn' => (head_A5 (tile c arg4 harg4 arg5 harg5 arg6 harg6 arg7 harg7 arg8 harg8 arg9 harg9 arg15 x2 x3 x4 x5 x6 x7) x8 x9 r j).trans
    (queries_at (q := 0) (o := 640) (g := 5) x8 x9 hT rfl rfl r j n hn')
  refine Upto.step (a := 512) arg12 rfl ?_ fun r j n hn' => (head_A4 (tile c arg4 harg4 arg5 harg5 arg6 harg6 arg7 harg7 arg8 harg8 arg9 harg9 arg15 x2 x3 x4 x5 x6 x7) x8 x9 r j).trans
    (queries_at (q := 0) (o := 512) (g := 4) x8 x9 hT rfl rfl r j n hn')
  refine Upto.step (a := 384) arg12 rfl ?_ fun r j n hn' => (head_A3 (tile c arg4 harg4 arg5 harg5 arg6 harg6 arg7 harg7 arg8 harg8 arg9 harg9 arg15 x2 x3 x4 x5 x6 x7) x8 x9 r j).trans
    (queries_at (q := 0) (o := 384) (g := 3) x8 x9 hT rfl rfl r j n hn')
  refine Upto.step (a := 256) arg12 rfl ?_ fun r j n hn' => (head_A2 (tile c arg4 harg4 arg5 harg5 arg6 harg6 arg7 harg7 arg8 harg8 arg9 harg9 arg15 x2 x3 x4 x5 x6 x7) x8 x9 r j).trans
    (queries_at (q := 0) (o := 256) (g := 2) x8 x9 hT rfl rfl r j n hn')
  refine Upto.step (a := 128) arg12 rfl ?_ fun r j n hn' => (head_A1 (tile c arg4 harg4 arg5 harg5 arg6 harg6 arg7 harg7 arg8 harg8 arg9 harg9 arg15 x2 x3 x4 x5 x6 x7) x8 x9 r j).trans
    (queries_at (q := 0) (o := 128) (g := 1) x8 x9 hT rfl rfl r j n hn')
  refine Upto.step (a := 0) arg12 rfl ?_ fun r j n hn' => (head_A0 (tile c arg4 harg4 arg5 harg5 arg6 harg6 arg7 harg7 arg8 harg8 arg9 harg9 arg15 x2 x3 x4 x5 x6 x7) x8 x9 r j).trans
    (queries_at (q := 0) (o := 0) (g := 0) x8 x9 hT rfl rfl r j n hn')
  intro r n h
  exact (congrFun (harg12.read_unread x10) _).trans (hx r n h)

/-- The second point of a block of rows adds its heads to the block of queries. -/
theorem step_B (hx : Upto (queries l x8 x9) (1 * 768) x10)
    (hn : ∀ (r : Fin 1024) (j : Fin 768) (n : Fin 2304), (n : ℕ) = 1 * 768 + j → tileAt x2 x3 x4 x5 x6 x7 r j = l r n)
    (hc0 : ¬cond0_0 i) (hc1 : cond0_1 i) (hc2 : ¬cond0_2 i) : Upto (queries l x8 x9) (1536) (arg12.view.read (Elt Ideal) (arg12.view.writes (Elt Ideal) (harg12.unread x10)
    (run_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10).1)) := by
  have hT : ∀ (r : Fin 1024) (j : Fin 768) (n : Fin 2304), (n : ℕ) = 1 * 768 + j → tile c arg4 harg4 arg5 harg5 arg6 harg6 arg7 harg7 arg8 harg8 arg9 harg9 arg15 x2 x3 x4 x5 x6 x7 (ix2 r j) = l r n :=
    fun r j n h => (tile_at c arg4 harg4 arg5 harg5 arg6 harg6 arg7 harg7 arg8 harg8 arg9 harg9 arg15 x2 x3 x4 x5 x6 x7 r j).trans (hn r j n h)
  unfold run_B run_B.sl.r_62 run_B.sl.r_63
  simp only [read_whole arg10 harg10, read_whole arg11 harg11]
  refine Upto.step (a := 1408) arg12 rfl ?_ fun r j n hn' => (head_B5 (tile c arg4 harg4 arg5 harg5 arg6 harg6 arg7 harg7 arg8 harg8 arg9 harg9 arg15 x2 x3 x4 x5 x6 x7) x8 x9 r j).trans
    (queries_at (q := 1) (o := 640) (g := 11) x8 x9 hT rfl rfl r j n hn')
  refine Upto.step (a := 1280) arg12 rfl ?_ fun r j n hn' => (head_B4 (tile c arg4 harg4 arg5 harg5 arg6 harg6 arg7 harg7 arg8 harg8 arg9 harg9 arg15 x2 x3 x4 x5 x6 x7) x8 x9 r j).trans
    (queries_at (q := 1) (o := 512) (g := 10) x8 x9 hT rfl rfl r j n hn')
  refine Upto.step (a := 1152) arg12 rfl ?_ fun r j n hn' => (head_B3 (tile c arg4 harg4 arg5 harg5 arg6 harg6 arg7 harg7 arg8 harg8 arg9 harg9 arg15 x2 x3 x4 x5 x6 x7) x8 x9 r j).trans
    (queries_at (q := 1) (o := 384) (g := 9) x8 x9 hT rfl rfl r j n hn')
  refine Upto.step (a := 1024) arg12 rfl ?_ fun r j n hn' => (head_B2 (tile c arg4 harg4 arg5 harg5 arg6 harg6 arg7 harg7 arg8 harg8 arg9 harg9 arg15 x2 x3 x4 x5 x6 x7) x8 x9 r j).trans
    (queries_at (q := 1) (o := 256) (g := 8) x8 x9 hT rfl rfl r j n hn')
  refine Upto.step (a := 896) arg12 rfl ?_ fun r j n hn' => (head_B1 (tile c arg4 harg4 arg5 harg5 arg6 harg6 arg7 harg7 arg8 harg8 arg9 harg9 arg15 x2 x3 x4 x5 x6 x7) x8 x9 r j).trans
    (queries_at (q := 1) (o := 128) (g := 7) x8 x9 hT rfl rfl r j n hn')
  refine Upto.step (a := 768) arg12 rfl ?_ fun r j n hn' => (head_B0 (tile c arg4 harg4 arg5 harg5 arg6 harg6 arg7 harg7 arg8 harg8 arg9 harg9 arg15 x2 x3 x4 x5 x6 x7) x8 x9 r j).trans
    (queries_at (q := 1) (o := 0) (g := 6) x8 x9 hT rfl rfl r j n hn')
  intro r n h
  exact (congrFun (harg12.read_unread x10) _).trans (hx r n h)

/-- The last point of a block of rows adds its heads to the block of queries. -/
theorem step_C (hx : Upto (queries l x8 x9) (2 * 768) x10)
    (hn : ∀ (r : Fin 1024) (j : Fin 768) (n : Fin 2304), (n : ℕ) = 2 * 768 + j → tileAt x2 x3 x4 x5 x6 x7 r j = l r n)
    (hc0 : ¬cond0_0 i) (hc1 : ¬cond0_1 i) (hc2 : cond0_2 i) : Upto (queries l x8 x9) (1792) (arg12.view.read (Elt Ideal) (arg12.view.writes (Elt Ideal) (harg12.unread x10)
    (run_C (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10).2.2.1)) := by
  have hT : ∀ (r : Fin 1024) (j : Fin 768) (n : Fin 2304), (n : ℕ) = 2 * 768 + j → tile c arg4 harg4 arg5 harg5 arg6 harg6 arg7 harg7 arg8 harg8 arg9 harg9 arg15 x2 x3 x4 x5 x6 x7 (ix2 r j) = l r n :=
    fun r j n h => (tile_at c arg4 harg4 arg5 harg5 arg6 harg6 arg7 harg7 arg8 harg8 arg9 harg9 arg15 x2 x3 x4 x5 x6 x7 r j).trans (hn r j n h)
  unfold run_C
  simp only [read_whole arg10 harg10, read_whole arg11 harg11]
  refine Upto.step (a := 1664) arg12 rfl ?_ fun r j n hn' => (head_C1 (tile c arg4 harg4 arg5 harg5 arg6 harg6 arg7 harg7 arg8 harg8 arg9 harg9 arg15 x2 x3 x4 x5 x6 x7) x8 x9 r j).trans
    (queries_at (q := 2) (o := 128) (g := 13) x8 x9 hT rfl rfl r j n hn')
  refine Upto.step (a := 1536) arg12 rfl ?_ fun r j n hn' => (head_C0 (tile c arg4 harg4 arg5 harg5 arg6 harg6 arg7 harg7 arg8 harg8 arg9 harg9 arg15 x2 x3 x4 x5 x6 x7) x8 x9 r j).trans
    (queries_at (q := 2) (o := 0) (g := 12) x8 x9 hT rfl rfl r j n hn')
  intro r n h
  exact (congrFun (harg12.read_unread x10) _).trans (hx r n h)

section
variable (hn : ∀ (r : Fin 1024) (j : Fin 768) (n : Fin 2304), (n : ℕ) = 2 * 768 + j → tileAt x2 x3 x4 x5 x6 x7 r j = l r n)
include hn

/-- The key codes the last point stores. -/
theorem last_keys (hc0 : ¬cond0_0 i) (hc1 : ¬cond0_1 i) (hc2 : cond0_2 i) :
    View.canon (run_C (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10).1 = keys l x8 x9 x0 := by
  have hT : ∀ (r : Fin 1024) (j : Fin 768) (n : Fin 2304), (n : ℕ) = 2 * 768 + j → tile c arg4 harg4 arg5 harg5 arg6 harg6 arg7 harg7 arg8 harg8 arg9 harg9 arg15 x2 x3 x4 x5 x6 x7 (ix2 r j) = l r n :=
    fun r j n h => (tile_at c arg4 harg4 arg5 harg5 arg6 harg6 arg7 harg7 arg8 harg8 arg9 harg9 arg15 x2 x3 x4 x5 x6 x7 r j).trans (hn r j n h)
  unfold run_C run_C.sl.r_62 run_C.sl.r_64 run_C.sl.r_63
  simp only [read_whole arg10 harg10, read_whole arg11 harg11]
  refine two_heads (fun r j => ?_) (fun r j => ?_)
  · refine (key_0 (tile c arg4 harg4 arg5 harg5 arg6 harg6 arg7 harg7 arg8 harg8 arg9 harg9 arg15 x2 x3 x4 x5 x6 x7) x8 x9 r j _).trans ?_
    refine congrArg₂ W4.codeOf (congrArg (fun v => W4.rolled v _ _ j) (head_place hT rfl r)) ?_
    exact (congrFun (harg2.read_unread x0) _).trans (congrArg x0 (funext fun a => by match a with | ⟨0, _⟩ => rfl))
  · refine (key_1 (tile c arg4 harg4 arg5 harg5 arg6 harg6 arg7 harg7 arg8 harg8 arg9 harg9 arg15 x2 x3 x4 x5 x6 x7) x8 x9 r j _).trans ?_
    refine congrArg₂ W4.codeOf (congrArg (fun v => W4.rolled v _ _ j) (head_place hT rfl r)) ?_
    exact (congrFun (harg2.read_unread x0) _).trans (congrArg x0 (funext fun a => by match a with | ⟨0, _⟩ => rfl))

/-- The value codes the last point stores. -/
theorem last_vals (hc0 : ¬cond0_0 i) (hc1 : ¬cond0_1 i) (hc2 : cond0_2 i) :
    View.canon (run_C (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10).2.1 = vals l x1 := by
  have hT : ∀ (r : Fin 1024) (j : Fin 768) (n : Fin 2304), (n : ℕ) = 2 * 768 + j → tile c arg4 harg4 arg5 harg5 arg6 harg6 arg7 harg7 arg8 harg8 arg9 harg9 arg15 x2 x3 x4 x5 x6 x7 (ix2 r j) = l r n :=
    fun r j n h => (tile_at c arg4 harg4 arg5 harg5 arg6 harg6 arg7 harg7 arg8 harg8 arg9 harg9 arg15 x2 x3 x4 x5 x6 x7 r j).trans (hn r j n h)
  unfold run_C run_C.sl.r_65 run_C.sl.r_66
  refine two_heads (fun r j => ?_) (fun r j => ?_)
  · refine (val_0 r j _ _ _).trans ?_
    refine congrArg₂ W4.codeOf (congrFun (head_place hT rfl r) j) ?_
    exact (congrFun (harg3.read_unread x1) _).trans (congrArg x1 (funext fun a => by match a with | ⟨0, _⟩ => rfl))
  · refine (val_1 r j _ _ _).trans ?_
    refine congrArg₂ W4.codeOf (congrFun (head_place hT rfl r) j) ?_
    exact (congrFun (harg3.read_unread x1) _).trans (congrArg x1 (funext fun a => by match a with | ⟨0, _⟩ => rfl))
end
end
end
end Cert.QkvIdeal.Hand

end
-- ==== Proof.QkvData.lean ====
module

public import proofs.«01_k».proof.Proof.QkvValue
public import proofs.«01_k».proof.Proof.OprojBody
public import Idealize.ShloMosaic.Lib.Pipeline.DatRel
public import Idealize.ShloMosaic.Lib.Pipeline.ArrRel

@[expose] public section
set_option maxRecDepth 16384
noncomputable section

namespace Cert.QkvIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open Cert.QkvIdeal Cert.QkvIdeal.Gen

local notation "𝕄" => MT nD τ sig Unit (Elt Ideal) ℕ (UR sig nD τ) ℕ

variable (m : (ℓ : Loc nD τ sig) → Buf (Elt Ideal) ℓ) (ρ : Dev nD → PrngReg)

/-! ## The values -/

/-- The linear layer of queries, keys and values over the arrays the launch finds. -/
def lin (c : Dev nD) : Fin 6144 → Fin 2304 → EReal :=
  W4.linear (K := 7168) (R := 896) (Q := 56) (T := 6144) (N := 2304) rfl rfl (m ((c : Thread nD τ).loc main_arg0)) (m ((c : Thread nD τ).loc main_arg1)) (m ((c : Thread nD τ).loc main_arg2)) (m ((c : Thread nD τ).loc main_arg3)) (m ((c : Thread nD τ).loc main_arg4)) (V m c main_v3)

/-- The block of each operand at grid point `t`: row block `t / 3`, column tile `t % 3`; the keys' and values' arrays
    are blocked by batch and by half a batch's rows. -/
theorem idx : ∀ t : Fin cfg0.N, win0_0.index t = ![0] ∧ win0_1.index t = ![0] ∧ win0_2.index t = ![t.val / 3, 0]
    ∧ win0_3.index t = ![t.val / 3, 0] ∧ win0_4.index t = ![0, t.val % 3] ∧ win0_5.index t = ![0, t.val % 3]
    ∧ win0_6.index t = ![0, t.val % 3] ∧ win0_7.index t = ![0, t.val % 3] ∧ win0_8.index t = ![t.val / 3, 0]
    ∧ win0_9.index t = ![t.val / 3, 0] ∧ win0_10.index t = ![t.val / 3, 0]
    ∧ win0_11.index t = ![t.val / 6, 0, t.val / 3 % 2, 0] ∧ win0_12.index t = ![t.val / 6, 0, t.val / 3 % 2, 0]
    ∧ t.val / 3 < 6 :=
  (by decide +kernel : ∀ t : Fin grid0.N, _)

/-- Row `r` of the block `q` of 1024 rows. -/
abbrev rowOf (q : ℕ) (r : Fin 1024) : Fin 6144 := ⟨(1024 * q + r) % 6144, Nat.mod_lt _ (by decide)⟩

/-- The rows of the linear layer in block `q`. -/
def rows (c : Dev nD) (q : ℕ) (r : Fin 1024) (n : Fin 2304) : EReal := lin m c (rowOf q r) n

/-- The cosines of block `q`, as the launch lays them out. -/
def cosRows (c : Dev nD) (q : ℕ) : Vec Ideal S1024x128 .f32 := fun y =>
  (V m c main_v0 : Vec Ideal S6144x128 .f32) (ix2 (rowOf q (y 0)) (y 1))

/-- The signed sines of block `q`, as the launch lays them out. -/
def sinRows (c : Dev nD) (q : ℕ) : Vec Ideal S1024x128 .f32 := fun y =>
  (V m c main_v2 : Vec Ideal S6144x128 .f32) (ix2 (rowOf q (y 0)) (y 1))

/-- A point's tile is the linear layer's at its place. -/
theorem tile_rows (c : Dev nD) (t : Fin cfg0.N) (r : Fin 1024) (j : Fin 768) (n : Fin 2304)
    (hn : (n : ℕ) = t.val % 3 * 768 + j) :
    tileAt (iblk m c 2 t) (iblk m c 3 t) (iblk m c 4 t) (iblk m c 5 t) (iblk m c 6 t) (iblk m c 7 t) r j = rows m c (t.val / 3) r n := by
  have hq : t.val / 3 < 6 := (idx t).2.2.2.2.2.2.2.2.2.2.2.2.2
  have hR : (1024 * (t.val / 3) + (r : ℕ)) % 6144 = t.val / 3 * 1024 + r := by omega
  unfold tileAt rows lin
  refine W4.linear_block rfl rfl (fun k => ?_) ?_ (fun k => ?_) (fun k => ?_) (fun k => ?_) ?_
  all_goals blk_ext [iblk, V, idx t]

/-- A point's cosines and sines are its block of rows'. -/
theorem cos_block (c : Dev nD) (t : Fin cfg0.N) : iblk m c 8 t = cosRows m c (t.val / 3) := by
  have hq : t.val / 3 < 6 := (idx t).2.2.2.2.2.2.2.2.2.2.2.2.2
  funext y
  have hy : (y 0 : ℕ) < 1024 := (y 0).isLt
  have hR : (1024 * (t.val / 3) + (y 0 : ℕ)) % 6144 = t.val / 3 * 1024 + (y 0 : ℕ) := by omega
  unfold cosRows
  blk_ext [iblk, idx t]

/-- A point's signed sines are its block of rows'. -/
theorem sin_block (c : Dev nD) (t : Fin cfg0.N) : iblk m c 9 t = sinRows m c (t.val / 3) := by
  have hq : t.val / 3 < 6 := (idx t).2.2.2.2.2.2.2.2.2.2.2.2.2
  funext y
  have hy : (y 0 : ℕ) < 1024 := (y 0).isLt
  have hR : (1024 * (t.val / 3) + (y 0 : ℕ)) % 6144 = t.val / 3 * 1024 + (y 0 : ℕ) := by omega
  unfold sinRows
  blk_ext [iblk, idx t]

/-! ## The pipeline's proof data -/

/-- The proof data of the one pipeline on core `c`: after the body at point `t` each input's buffer at its block, the
    outputs' at the queries, the key codes and the value codes of the point's block of rows. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => fun y : S1024x1792.Idx => queries (rows m c (t.val / 3)) (cosRows m c (t.val / 3)) (sinRows m c (t.val / 3)) (y 0) (y 1)
    | ⟨11, _⟩ => keys (rows m c (t.val / 3)) (cosRows m c (t.val / 3)) (sinRows m c (t.val / 3)) (iblk m c 0 t)
    | ⟨12, _⟩ => vals (rows m c (t.val / 3)) (iblk m c 1 t)
  Φ _ := Pipeline.ΦA spec0 c
  q _ := fullShare
  owed _ := 0

/-- The window held to a predicate rather than named at every point: the block of queries, written head by head. -/
def held (w : Fin cfg0.W) : Bool := w.val == 10

/-- What the block of queries holds after point `t`: the heads written so far of the current block of rows. -/
def Rl (c : Dev nD) (w : Fin cfg0.W) (t : Fin cfg0.N) : ((cfg0.win w).block.Idx → Elt Ideal (cfg0.win w).elt) → Prop :=
  match w with
  | ⟨10, _⟩ => fun X => Upto (queries (rows m c (t.val / 3)) (cosRows m c (t.val / 3)) (sinRows m c (t.val / 3))) ((t.val % 3 + 1) * 768) X
  | _ => fun _ => True

/-- The same data with the block of queries held to `Rl`. -/
def rdat (c : Dev nD) : RDat τ (Elt Ideal) Unit ℕ (UR sig nD τ) ℕ cfg0 c := (dats m 0 c).toRRel held (Rl m c)

/-- The data's arrays are those the region finds. -/
theorem A_eq (c : Dev nD) (w : Fin cfg0.W) : (dats m 0 c).A w = V m c (Pipeline.arrRef spec0 w) := by
  dsimp only [dats]

/-- What window 0's buffer holds after the body at a point. -/
theorem after0_0 (c : Dev nD) (t : Fin cfg0.N) : (dats m 0 c).after 0 t = iblk m c 0 t := by dsimp only [dats]
/-- What window 1's buffer holds after the body at a point. -/
theorem after0_1 (c : Dev nD) (t : Fin cfg0.N) : (dats m 0 c).after 1 t = iblk m c 1 t := by dsimp only [dats]
/-- What window 2's buffer holds after the body at a point. -/
theorem after0_2 (c : Dev nD) (t : Fin cfg0.N) : (dats m 0 c).after 2 t = iblk m c 2 t := by dsimp only [dats]
/-- What window 3's buffer holds after the body at a point. -/
theorem after0_3 (c : Dev nD) (t : Fin cfg0.N) : (dats m 0 c).after 3 t = iblk m c 3 t := by dsimp only [dats]
/-- What window 4's buffer holds after the body at a point. -/
theorem after0_4 (c : Dev nD) (t : Fin cfg0.N) : (dats m 0 c).after 4 t = iblk m c 4 t := by dsimp only [dats]
/-- What window 5's buffer holds after the body at a point. -/
theorem after0_5 (c : Dev nD) (t : Fin cfg0.N) : (dats m 0 c).after 5 t = iblk m c 5 t := by dsimp only [dats]
/-- What window 6's buffer holds after the body at a point. -/
theorem after0_6 (c : Dev nD) (t : Fin cfg0.N) : (dats m 0 c).after 6 t = iblk m c 6 t := by dsimp only [dats]
/-- What window 7's buffer holds after the body at a point. -/
theorem after0_7 (c : Dev nD) (t : Fin cfg0.N) : (dats m 0 c).after 7 t = iblk m c 7 t := by dsimp only [dats]
/-- What window 8's buffer holds after the body at a point. -/
theorem after0_8 (c : Dev nD) (t : Fin cfg0.N) : (dats m 0 c).after 8 t = iblk m c 8 t := by dsimp only [dats]
/-- What window 9's buffer holds after the body at a point. -/
theorem after0_9 (c : Dev nD) (t : Fin cfg0.N) : (dats m 0 c).after 9 t = iblk m c 9 t := by dsimp only [dats]
/-- What window 10's buffer holds after the body at a point. -/
theorem after0_10 (c : Dev nD) (t : Fin cfg0.N) : (dats m 0 c).after 10 t
    = fun y : S1024x1792.Idx => queries (rows m c (t.val / 3)) (cosRows m c (t.val / 3)) (sinRows m c (t.val / 3)) (y 0) (y 1) := by dsimp only [dats]
/-- What window 11's buffer holds after the body at a point. -/
theorem after0_11 (c : Dev nD) (t : Fin cfg0.N) : (dats m 0 c).after 11 t
    = keys (rows m c (t.val / 3)) (cosRows m c (t.val / 3)) (sinRows m c (t.val / 3)) (iblk m c 0 t) := by dsimp only [dats]
/-- What window 12's buffer holds after the body at a point. -/
theorem after0_12 (c : Dev nD) (t : Fin cfg0.N) : (dats m 0 c).after 12 t
    = vals (rows m c (t.val / 3)) (iblk m c 1 t) := by dsimp only [dats]

/-- What window 0's buffer holds before the body at a point: its block. -/
theorem before0_0 (c : Dev nD) (t : Fin cfg0.N) (d) : (dats m 0 c).before 0 t d = iblk m c 0 t :=
  before0_0_of m (dats m 0 c) (A_eq m c 0) (after0_0 m c) t d
/-- What window 1's buffer holds before the body at a point: its block. -/
theorem before0_1 (c : Dev nD) (t : Fin cfg0.N) (d) : (dats m 0 c).before 1 t d = iblk m c 1 t :=
  before0_1_of m (dats m 0 c) (A_eq m c 1) (after0_1 m c) t d
/-- What window 2's buffer holds before the body at a point: its block. -/
theorem before0_2 (c : Dev nD) (t : Fin cfg0.N) (d) : (dats m 0 c).before 2 t d = iblk m c 2 t :=
  before0_2_of m (dats m 0 c) (A_eq m c 2) (after0_2 m c) t d
/-- What window 3's buffer holds before the body at a point: its block. -/
theorem before0_3 (c : Dev nD) (t : Fin cfg0.N) (d) : (dats m 0 c).before 3 t d = iblk m c 3 t :=
  before0_3_of m (dats m 0 c) (A_eq m c 3) (after0_3 m c) t d
/-- What window 4's buffer holds before the body at a point: its block. -/
theorem before0_4 (c : Dev nD) (t : Fin cfg0.N) (d) : (dats m 0 c).before 4 t d = iblk m c 4 t :=
  before0_4_of m (dats m 0 c) (A_eq m c 4) (after0_4 m c) t d
/-- What window 5's buffer holds before the body at a point: its block. -/
theorem before0_5 (c : Dev nD) (t : Fin cfg0.N) (d) : (dats m 0 c).before 5 t d = iblk m c 5 t :=
  before0_5_of m (dats m 0 c) (A_eq m c 5) (after0_5 m c) t d
/-- What window 6's buffer holds before the body at a point: its block. -/
theorem before0_6 (c : Dev nD) (t : Fin cfg0.N) (d) : (dats m 0 c).before 6 t d = iblk m c 6 t :=
  before0_6_of m (dats m 0 c) (A_eq m c 6) (after0_6 m c) t d
/-- What window 7's buffer holds before the body at a point: its block. -/
theorem before0_7 (c : Dev nD) (t : Fin cfg0.N) (d) : (dats m 0 c).before 7 t d = iblk m c 7 t :=
  before0_7_of m (dats m 0 c) (A_eq m c 7) (after0_7 m c) t d
/-- What window 8's buffer holds before the body at a point: its block. -/
theorem before0_8 (c : Dev nD) (t : Fin cfg0.N) (d) : (dats m 0 c).before 8 t d = iblk m c 8 t :=
  before0_8_of m (dats m 0 c) (A_eq m c 8) (after0_8 m c) t d
/-- What window 9's buffer holds before the body at a point: its block. -/
theorem before0_9 (c : Dev nD) (t : Fin cfg0.N) (d) : (dats m 0 c).before 9 t d = iblk m c 9 t :=
  before0_9_of m (dats m 0 c) (A_eq m c 9) (after0_9 m c) t d

/-- What a point finds in the block of queries: the heads the points before it wrote of the current block of rows. -/
theorem found (c : Dev nD) (t : Fin cfg0.N) (Y : Vec Ideal S1024x1792 .bf16) (h : (rdat m c).Finds 10 t Y) :
    Upto (queries (rows m c (t.val / 3)) (cosRows m c (t.val / 3)) (sinRows m c (t.val / 3))) (t.val % 3 * 768) Y := by
  by_cases h0 : t.val % 3 = 0
  · intro r n hn
    rw [h0, Nat.zero_mul] at hn
    exact absurd hn (Nat.not_lt_zero _)
  · have ht : t.val ≠ 0 := fun e => h0 (by rw [e])
    rcases ((rdat m c).finds_of_pos (fetch0_10 t) ht Y).mp h with hf | hl
    · have e := (flush0_10 _).mp hf
      have e' : (t.val - 1) % 3 = 2 := e
      omega
    · have hR : Rl m c 10 ⟨t.val - 1, Nat.lt_of_le_of_lt (Nat.sub_le _ _) t.isLt⟩ Y := (dats m 0 c).toRRel_leaves rfl hl
      have hR' : Upto (queries (rows m c ((t.val - 1) / 3)) (cosRows m c ((t.val - 1) / 3)) (sinRows m c ((t.val - 1) / 3)))
        (((t.val - 1) % 3 + 1) * 768) Y := hR
      have e1 : (t.val - 1) / 3 = t.val / 3 := by omega
      have e2 : (t.val - 1) % 3 + 1 = t.val % 3 := by omega
      rw [e1, e2] at hR'
      exact hR'

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ Y, ⌜(rdat m c).Finds 10 t Y⌝ ∗ owns (c : Thread nD τ) (ms0_10 t) fullShare Y)
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ X, ⌜Rl m c 10 t X⌝ ∗ owns (c : Thread nD τ) (ms0_10 t) fullShare X)
    ∗ (dats m 0 c).leavesExact 11 t
    ∗ (dats m 0 c).leavesExact 12 t)

end Cert.QkvIdeal.Hand

end
-- ==== Proof.QkvCaseA.lean ====
module

public import proofs.«01_k».proof.Proof.QkvData
public import Idealize.ShloMosaic.Lib.Pipeline.DatRel
public import Idealize.ShloMosaic.Lib.Pipeline.ArrRel

@[expose] public section
set_option maxRecDepth 16384
noncomputable section

namespace Cert.QkvIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open Cert.QkvIdeal Cert.QkvIdeal.Gen

local notation "𝕄" => MT nD τ sig Unit (Elt Ideal) ℕ (UR sig nD τ) ℕ

variable (m : (ℓ : Loc nD τ sig) → Buf (Elt Ideal) ℓ) (ρ : Dev nD → PrngReg)

set_option maxHeartbeats 6400000 in
/-- The body at the first point of a block of rows: six heads of the queries. -/
theorem sound_A (c : Dev nD) (t : Fin cfg0.N) (h0 : t.val % 3 = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [Dat.leavesExact_idle (dats m 0 c) 11 t (idleAt0_11 t (by omega)) (noFlush0_11 t (by omega))]
  rw [Dat.leavesExact_idle (dats m 0 c) 12 t (idleAt0_12 t (by omega)) (noFlush0_12 t (by omega))]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y, %hY, H10⟩, ⟨%d11, H11⟩, ⟨%d12, H12⟩⟩
  have hx : Upto (queries (rows m c (t.val / 3)) (iblk m c 8 t) (iblk m c 9 t)) (0 * 768) Y := by
    have e := found m c t Y hY
    rw [h0] at e
    rw [cos_block, sin_block]
    exact e
  have hn : ∀ (r : Fin 1024) (j : Fin 768) (n : Fin 2304), (n : ℕ) = 0 * 768 + j →
      tileAt (iblk m c 2 t) (iblk m c 3 t) (iblk m c 4 t) (iblk m c 5 t) (iblk m c 6 t) (iblk m c 7 t) r j = rows m c (t.val / 3) r n := fun r j n hn => tile_rows m c t r j n (by omega)
  have g0 : cond0_0 (grid0.coords t) := (hcond0_0 t).mpr h0
  have g1 : ¬cond0_1 (grid0.coords t) := fun h => absurd ((hcond0_1 t).mp h) (by omega)
  have g2 : ¬cond0_2 (grid0.coords t) := fun h => absurd ((hcond0_2 t).mp h) (by omega)
  iapply ((run_A c (grid0.coords t) _ _ _ _ _ _ _ _ _ _ _ _ _ _ _ _ _ _ _ _ _ _ _ _ _ _ _ _ g0 g1 g2 (iblk m c 0 t) (iblk m c 1 t) (iblk m c 2 t) (iblk m c 3 t) (iblk m c 4 t) (iblk m c 5 t) (iblk m c 6 t) (iblk m c 7 t) (iblk m c 8 t) (iblk m c 9 t) Y).2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  iintro ⟨H0, H1, H2, H3, H4, H5, H6, H7, H8, H9, H10, H11, H12, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _
    isplitr
    swap
    · unfold owns; iexists _; isplitr
      swap; · iexact H10
      ipureintro; rfl
    ipureintro
    refine (congrArg (fun q => Upto (queries (rows m c (t.val / 3)) (cosRows m c (t.val / 3)) (sinRows m c (t.val / 3))) ((q + 1) * 768) _) h0).mpr ?_
    refine (congrArg₂ (fun a b => Upto (queries (rows m c (t.val / 3)) a b) _ _) (cos_block m c t) (sin_block m c t)).mp ?_
    exact step_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) Y (rows m c (t.val / 3)) hx hn g0 g1 g2
  isplitl [H11]; · iexists _; iexact H11
  iexists _; iexact H12

end Cert.QkvIdeal.Hand

end
-- ==== Proof.QkvCaseB.lean ====
module

public import proofs.«01_k».proof.Proof.QkvData
public import Idealize.ShloMosaic.Lib.Pipeline.DatRel
public import Idealize.ShloMosaic.Lib.Pipeline.ArrRel

@[expose] public section
set_option maxRecDepth 16384
noncomputable section

namespace Cert.QkvIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open Cert.QkvIdeal Cert.QkvIdeal.Gen

local notation "𝕄" => MT nD τ sig Unit (Elt Ideal) ℕ (UR sig nD τ) ℕ

variable (m : (ℓ : Loc nD τ sig) → Buf (Elt Ideal) ℓ) (ρ : Dev nD → PrngReg)

set_option maxHeartbeats 6400000 in
/-- The body at the second point of a block of rows: six more heads of the queries. -/
theorem sound_B (c : Dev nD) (t : Fin cfg0.N) (h1 : t.val % 3 = 1) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [Dat.leavesExact_idle (dats m 0 c) 11 t (idleAt0_11 t (by omega)) (noFlush0_11 t (by omega))]
  rw [Dat.leavesExact_idle (dats m 0 c) 12 t (idleAt0_12 t (by omega)) (noFlush0_12 t (by omega))]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y, %hY, H10⟩, ⟨%d11, H11⟩, ⟨%d12, H12⟩⟩
  have hx : Upto (queries (rows m c (t.val / 3)) (iblk m c 8 t) (iblk m c 9 t)) (1 * 768) Y := by
    have e := found m c t Y hY
    rw [h1] at e
    rw [cos_block, sin_block]
    exact e
  have hn : ∀ (r : Fin 1024) (j : Fin 768) (n : Fin 2304), (n : ℕ) = 1 * 768 + j →
      tileAt (iblk m c 2 t) (iblk m c 3 t) (iblk m c 4 t) (iblk m c 5 t) (iblk m c 6 t) (iblk m c 7 t) r j = rows m c (t.val / 3) r n := fun r j n hn => tile_rows m c t r j n (by omega)
  have g0 : ¬cond0_0 (grid0.coords t) := fun h => absurd ((hcond0_0 t).mp h) (by omega)
  have g1 : cond0_1 (grid0.coords t) := (hcond0_1 t).mpr h1
  have g2 : ¬cond0_2 (grid0.coords t) := fun h => absurd ((hcond0_2 t).mp h) (by omega)
  iapply ((run_B c (grid0.coords t) _ _ _ _ _ _ _ _ _ _ _ _ _ _ _ _ _ _ _ _ _ _ _ _ _ _ _ _ g0 g1 g2 (iblk m c 0 t) (iblk m c 1 t) (iblk m c 2 t) (iblk m c 3 t) (iblk m c 4 t) (iblk m c 5 t) (iblk m c 6 t) (iblk m c 7 t) (iblk m c 8 t) (iblk m c 9 t) Y).2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  iintro ⟨H0, H1, H2, H3, H4, H5, H6, H7, H8, H9, H10, H11, H12, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _
    isplitr
    swap
    · unfold owns; iexists _; isplitr
      swap; · iexact H10
      ipureintro; rfl
    ipureintro
    refine (congrArg (fun q => Upto (queries (rows m c (t.val / 3)) (cosRows m c (t.val / 3)) (sinRows m c (t.val / 3))) ((q + 1) * 768) _) h1).mpr ?_
    refine (congrArg₂ (fun a b => Upto (queries (rows m c (t.val / 3)) a b) _ _) (cos_block m c t) (sin_block m c t)).mp ?_
    exact step_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) Y (rows m c (t.val / 3)) hx hn g0 g1 g2
  isplitl [H11]; · iexists _; iexact H11
  iexists _; iexact H12

end Cert.QkvIdeal.Hand

end
-- ==== Proof.QkvCaseC.lean ====
module

public import proofs.«01_k».proof.Proof.QkvData
public import Idealize.ShloMosaic.Lib.Pipeline.DatRel
public import Idealize.ShloMosaic.Lib.Pipeline.ArrRel

@[expose] public section
set_option maxRecDepth 16384
noncomputable section

namespace Cert.QkvIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open Cert.QkvIdeal Cert.QkvIdeal.Gen

local notation "𝕄" => MT nD τ sig Unit (Elt Ideal) ℕ (UR sig nD τ) ℕ

variable (m : (ℓ : Loc nD τ sig) → Buf (Elt Ideal) ℓ) (ρ : Dev nD → PrngReg)

set_option maxHeartbeats 6400000 in
/-- The body at the last point of a block of rows: the last two heads of the queries, and the codes of the key and value heads. -/
theorem sound_C (c : Dev nD) (t : Fin cfg0.N) (h2 : t.val % 3 = 2) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 11 t = owns (c : Thread nD τ) (ms0_11 t) fullShare ((dats m 0 c).after 11 t) from by
    unfold Dat.leavesExact; rw [liveAt0_11 t h2], after0_11]
  rw [show (dats m 0 c).leavesExact 12 t = owns (c : Thread nD τ) (ms0_12 t) fullShare ((dats m 0 c).after 12 t) from by
    unfold Dat.leavesExact; rw [liveAt0_12 t h2], after0_12]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y, %hY, H10⟩, ⟨%d11, H11⟩, ⟨%d12, H12⟩⟩
  have hx : Upto (queries (rows m c (t.val / 3)) (iblk m c 8 t) (iblk m c 9 t)) (2 * 768) Y := by
    have e := found m c t Y hY
    rw [h2] at e
    rw [cos_block, sin_block]
    exact e
  have hn : ∀ (r : Fin 1024) (j : Fin 768) (n : Fin 2304), (n : ℕ) = 2 * 768 + j →
      tileAt (iblk m c 2 t) (iblk m c 3 t) (iblk m c 4 t) (iblk m c 5 t) (iblk m c 6 t) (iblk m c 7 t) r j = rows m c (t.val / 3) r n := fun r j n hn => tile_rows m c t r j n (by omega)
  have g0 : ¬cond0_0 (grid0.coords t) := fun h => absurd ((hcond0_0 t).mp h) (by omega)
  have g1 : ¬cond0_1 (grid0.coords t) := fun h => absurd ((hcond0_1 t).mp h) (by omega)
  have g2 : cond0_2 (grid0.coords t) := (hcond0_2 t).mpr h2
  iapply ((run_C c (grid0.coords t) _ _ _ _ _ _ _ _ _ _ _ _ _ _ _ _ _ _ _ _ _ _ _ _ _ _ _ _ g0 g1 g2 (iblk m c 0 t) (iblk m c 1 t) (iblk m c 2 t) (iblk m c 3 t) (iblk m c 4 t) (iblk m c 5 t) (iblk m c 6 t) (iblk m c 7 t) (iblk m c 8 t) (iblk m c 9 t) Y).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [HS0]; · iexact HS0
  iintro ⟨H0, H1, H2, H3, H4, H5, H6, H7, H8, H9, H10, ⟨%e11, H11⟩, ⟨%e12, H12⟩, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _
    isplitr
    swap
    · unfold owns; iexists _; isplitr
      swap; · iexact H10
      ipureintro; rfl
    ipureintro
    refine (congrArg₂ (fun a b => Upto (queries (rows m c (t.val / 3)) a b) _ _) (cos_block m c t) (sin_block m c t)).mp ?_
    have e := step_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) Y (rows m c (t.val / 3)) hx hn g0 g1 g2
    exact fun r n _ => e r n n.isLt
  isplitl [H11]
  · unfold owns; iexists _; isplitr
    swap; · iexact H11
    ipureintro
    refine (View.read_writes_eq_canon _ _ _ (View.cover_of_tiledL (run_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) g0 g1 g2 (iblk m c 0 t) (iblk m c 1 t) (iblk m c 2 t) (iblk m c 3 t) (iblk m c 4 t) (iblk m c 5 t) (iblk m c 6 t) (iblk m c 7 t) (iblk m c 8 t) (iblk m c 9 t) Y).1 (fun a => ![1, 1, 1024, 128] a) (by sl_kernel_rfl))).trans ?_
    refine (last_keys c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) Y (rows m c (t.val / 3)) hn g0 g1 g2).trans ?_
    exact congrArg₂ (fun a b => keys (rows m c (t.val / 3)) a b (iblk m c 0 t)) (cos_block m c t) (sin_block m c t)
  unfold owns; iexists _; isplitr
  swap; · iexact H12
  ipureintro
  refine (View.read_writes_eq_canon _ _ _ (View.cover_of_tiledL (run_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) g0 g1 g2 (iblk m c 0 t) (iblk m c 1 t) (iblk m c 2 t) (iblk m c 3 t) (iblk m c 4 t) (iblk m c 5 t) (iblk m c 6 t) (iblk m c 7 t) (iblk m c 8 t) (iblk m c 9 t) Y).2.1 (fun a => ![1, 1, 1024, 128] a) (by sl_kernel_rfl))).trans ?_
  exact last_vals c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) Y (rows m c (t.val / 3)) hn g0 g1 g2

end Cert.QkvIdeal.Hand

end
-- ==== Proof.QkvBody.lean ====
module

public import proofs.«01_k».proof.Proof.QkvCaseA
public import proofs.«01_k».proof.Proof.QkvCaseB
public import proofs.«01_k».proof.Proof.QkvCaseC
public import Idealize.ShloMosaic.Lib.Pipeline.DatRel
public import Idealize.ShloMosaic.Lib.Pipeline.ArrRel

@[expose] public section
set_option maxRecDepth 16384
noncomputable section

namespace Cert.QkvIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open Cert.QkvIdeal Cert.QkvIdeal.Gen

local notation "𝕄" => MT nD τ sig Unit (Elt Ideal) ℕ (UR sig nD τ) ℕ

variable (m : (ℓ : Loc nD τ sig) → Buf (Elt Ideal) ℓ) (ρ : Dev nD → PrngReg)

/-- The body at any point: the inputs' buffers hold their blocks, the block of queries the heads written so far; every
    point adds its heads, and the last of a block of rows stores the codes of the key and value heads. -/
theorem sound_body (c : Dev nD) (t : Fin cfg0.N) :
    bodyPre m c t ⊢ wp frame (wpE (defs₀ (F := Ideal)) Variants.none c none) Set.univ (bodyAt0 t) (fun _ => bodyPost m c t) := by
  by_cases h0 : t.val % 3 = 0
  · exact sound_A m c t h0
  by_cases h1 : t.val % 3 = 1
  · exact sound_B m c t h1
  exact sound_C m c t (by omega)

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) :
    BodyObligationRel (dats m 0 c) (defs₀ (F := Ideal)) Variants.none () Set.univ held (Rl m c) := fun t => by
  rw [bigSep_W0, bigSep_W0, defs₀_row]
  refine triple_restated (sound_body m c t) rfl .rfl fun _ => ?_
  rw [show held 0 = false from rfl, show held 1 = false from rfl, show held 2 = false from rfl, show held 3 = false from rfl, show held 4 = false from rfl, show held 5 = false from rfl, show held 6 = false from rfl, show held 7 = false from rfl, show held 8 = false from rfl, show held 9 = false from rfl, show held 11 = false from rfl, show held 12 = false from rfl, show held 10 = true from rfl]
  dsimp only
  refine BIClass.sep_mono .rfl (BIClass.sep_mono .rfl ?_)
  refine BIClass.sep_mono ?_ ?_
  · exact (dats m 0 c).leaves_intro 0 t
  refine BIClass.sep_mono ?_ ?_
  · exact (dats m 0 c).leaves_intro 1 t
  refine BIClass.sep_mono ?_ ?_
  · exact (dats m 0 c).leaves_intro 2 t
  refine BIClass.sep_mono ?_ ?_
  · exact (dats m 0 c).leaves_intro 3 t
  refine BIClass.sep_mono ?_ ?_
  · exact (dats m 0 c).leaves_intro 4 t
  refine BIClass.sep_mono ?_ ?_
  · exact (dats m 0 c).leaves_intro 5 t
  refine BIClass.sep_mono ?_ ?_
  · exact (dats m 0 c).leaves_intro 6 t
  refine BIClass.sep_mono ?_ ?_
  · exact (dats m 0 c).leaves_intro 7 t
  refine BIClass.sep_mono ?_ ?_
  · exact (dats m 0 c).leaves_intro 8 t
  refine BIClass.sep_mono ?_ ?_
  · exact (dats m 0 c).leaves_intro 9 t
  refine BIClass.sep_mono .rfl ?_
  exact BIClass.sep_mono ((dats m 0 c).leaves_intro 11 t) ((dats m 0 c).leaves_intro 12 t)

/-! ## The run and the frame -/

/-- At a write-back the block of queries is wholly named. -/
theorem named (c : Dev nD) (w : Fin cfg0.W) (h : held w = true) (u : Fin cfg0.N) (hu : (cfg0.win w).flush u = true)
    (X) (hX : Rl m c w u X) : X = (dats m 0 c).after w u := by
  have hw : w = 10 := Fin.ext (by simpa [held] using h)
  subst hw
  have h2 := (flush0_10 u).mp hu
  have hX' : Upto (queries (rows m c (u.val / 3)) (cosRows m c (u.val / 3)) (sinRows m c (u.val / 3))) ((u.val % 3 + 1) * 768) X := hX
  rw [h2] at hX'
  rw [after0_10]
  funext y
  have hy : (y 1 : ℕ) < 1792 := (y 1).isLt
  refine Eq.trans (congrArg X (funext fun a => ?_)) (hX' (y 0) (y 1) (by omega))
  match a with
  | ⟨0, _⟩ => rfl
  | ⟨1, _⟩ => rfl

set_option backward.isDefEq.respectTransparency.types false in
/-- Every execution ends, with every array at what the held data allow and every semaphore counter at zero. -/
theorem run_main_rel : θ_run defs (onTc (τ := τ) (main (F := Ideal))) (s₀ m ρ)
    (fun r => (RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The same with every array at what the exact data say. -/
theorem run_main_quiescent : θ_run defs (onTc (τ := τ) (main (F := Ideal))) (s₀ m ρ)
    (fun r => (Pipeline.FramePost cfgs (dats m) 0 (V m)) r ∧ r.2.sem = fun _ => 0) :=
  (θ_run defs _ _).mono (fun _ h => ⟨fun c => ⟨fun w => W4.arr_of_rel (dats m 0 c) ((h.1 c).1 w) (named m c w), (h.1 c).2⟩, h.2⟩)
    (run_main_rel m ρ)

/-- The run of the whole program, with every array after it named. -/
theorem run_main : θ_run defs (onTc (τ := τ) (main (F := Ideal))) (s₀ m ρ) (Pipeline.FramePost cfgs (dats m) 0 (V m)) :=
  (θ_run defs _ _).mono (fun _ h => h.1) (run_main_quiescent m ρ)

/-- The arguments end unchanged and every semaphore counter is zero again. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.QkvIdeal.Hand
-- ==== Proof.QkvResult.lean ====
module

public import proofs.«01_k».proof.Proof.QkvValue

@[expose] public section
set_option maxRecDepth 16384
noncomputable section
open Idealize.ShloMosaic Idealize.ShloMosaic.TcCoe Idealize.SL.Sem
open Idealize.ShloMosaic.Pipeline (Dat)

namespace W4

/-- A head turned by cosines laid out twice and sines laid out with their signs is the head turned by halves. -/
theorem rolled_rotary (v : Fin 128 → EReal) (c s : Fin 128 → EReal) (cs sn : Fin 64 → EReal)
    (hc : ∀ j : Fin 128, c j = cs ⟨(j : ℕ) % 64, Nat.mod_lt _ (by decide)⟩)
    (hs : ∀ j : Fin 128, s j = if (j : ℕ) < 64 then -sn ⟨(j : ℕ) % 64, Nat.mod_lt _ (by decide)⟩
      else sn ⟨(j : ℕ) % 64, Nat.mod_lt _ (by decide)⟩) (j : Fin 128) :
    rolled v c s j = rotary v cs sn j := by
  have hj : (j : ℕ) < 128 := j.isLt
  unfold rolled rotary
  rw [hc, hs]
  by_cases h : (j : ℕ) < 64
  · rw [if_pos h, dif_pos h, mul_neg, sub_eq_add_neg]
    have e1 : (⟨(j : ℕ) % 64, Nat.mod_lt _ (by decide)⟩ : Fin 64) = ⟨j, h⟩ := Fin.ext (Nat.mod_eq_of_lt h)
    have e2 : (⟨((j : ℕ) + 128 - 64) % 128, Nat.mod_lt _ (by decide)⟩ : Fin 128) = ⟨64 + j, by omega⟩ :=
      Fin.ext (by show ((j : ℕ) + 128 - 64) % 128 = 64 + j; omega)
    rw [e1, e2]
  · rw [if_neg h, dif_neg h]
    have e1 : (⟨(j : ℕ) % 64, Nat.mod_lt _ (by decide)⟩ : Fin 64) = ⟨j - 64, by omega⟩ :=
      Fin.ext (by show (j : ℕ) % 64 = j - 64; omega)
    have e2 : (⟨((j : ℕ) + 128 - 64) % 128, Nat.mod_lt _ (by decide)⟩ : Fin 128) = ⟨j - 64, by omega⟩ :=
      Fin.ext (by show ((j : ℕ) + 128 - 64) % 128 = j - 64; omega)
    rw [e1, e2]

end W4

namespace Cert.QkvIdeal.Hand
open Cert.QkvIdeal Cert.QkvIdeal.Gen

/-- The head of 128 columns from column `o` on, of one row of the linear layer. -/
def wide (l : Fin 6144 → Fin 2304 → EReal) (o : ℕ) (ho : o + 128 ≤ 2304) (R : Fin 6144) (j : Fin 128) : EReal :=
  l R ⟨o + j, by omega⟩

/-- The head from column `o` on, turned by the row's angles. -/
def turned (l : Fin 6144 → Fin 2304 → EReal) (cs sn : Vec Ideal S6144x64 .f32) (o : ℕ) (ho : o + 128 ≤ 2304) (R : Fin 6144)
    (j : Fin 128) : EReal :=
  W4.rotary (wide l o ho R) (fun i => cs (ix2 R i)) (fun i => sn (ix2 R i)) j

/-- One element of the queries, -/
def qAt (l : Fin 6144 → Fin 2304 → EReal) (cs sn : Vec Ideal S6144x64 .f32) (R : Fin 6144) (n : Fin 1792) : EReal :=
  turned l cs sn (128 * (n / 128)) (by omega) R ⟨n % 128, Nat.mod_lt _ (by decide)⟩

/-- of the key codes, -/
def kAt (l : Fin 6144 → Fin 2304 → EReal) (cs sn : Vec Ideal S6144x64 .f32) (k : Fin 2 → EReal) (R : Fin 6144) (h : Fin 2)
    (j : Fin 128) : EReal :=
  W4.codeOf (turned l cs sn (1792 + 128 * h) (by omega) R j) (k h)

/-- and of the value codes. -/
def vAt (l : Fin 6144 → Fin 2304 → EReal) (k : Fin 2 → EReal) (R : Fin 6144) (h : Fin 2) (j : Fin 128) : EReal :=
  W4.codeOf (wide l (2048 + 128 * h) (by omega) R j) (k h)

/-- The queries of the linear layer `l`. -/
def resultQ (l : Fin 6144 → Fin 2304 → EReal) (cs sn : Vec Ideal S6144x64 .f32) : Vec Ideal S6144x1792 .bf16 :=
  fun y => qAt l cs sn (y 0) (y 1)

/-- The token of a batch's row. -/
def token (b : Fin 3) (r : Fin 2048) : Fin 6144 := ⟨2048 * b + r, by omega⟩

/-- The key codes of the linear layer `l`. -/
def resultK (l : Fin 6144 → Fin 2304 → EReal) (cs sn : Vec Ideal S6144x64 .f32) (k : Fin 2 → EReal) :
    Vec Ideal S3x2x2048x128 .fp8e4m3 :=
  fun y => kAt l cs sn k (token (y 0) (y 2)) (y 1) (y 3)

/-- The value codes of the linear layer `l`. -/
def resultV (l : Fin 6144 → Fin 2304 → EReal) (k : Fin 2 → EReal) : Vec Ideal S3x2x2048x128 .fp8e4m3 :=
  fun y => vAt l k (token (y 0) (y 2)) (y 1) (y 3)

end Cert.QkvIdeal.Hand
-- ==== Proof.QkvLast.lean ====
module

public import proofs.«01_k».proof.Proof.QkvBody
public import proofs.«01_k».proof.Proof.QkvResult

@[expose] public section
set_option maxRecDepth 16384
noncomputable section
open Idealize.ShloMosaic Idealize.ShloMosaic.TcCoe Idealize.SL.Sem
open Idealize.ShloMosaic.Pipeline (Dat)

namespace Cert.QkvIdeal.Hand
open Cert.QkvIdeal Cert.QkvIdeal.Gen
variable (m : (ℓ : Loc nD τ sig) → Buf (Elt Ideal) ℓ)

/-- One cosine of the launch's array. -/
def cosVal (c : Dev nD) (R : Fin 6144) (k : Fin 64) : EReal :=
  (m ((c : Thread nD τ).loc main_arg6) : Vec Ideal S6144x64 .f32) (ix2 R k)

/-- One sine of the launch's array. -/
def sinVal (c : Dev nD) (R : Fin 6144) (k : Fin 64) : EReal :=
  (m ((c : Thread nD τ).loc main_arg7) : Vec Ideal S6144x64 .f32) (ix2 R k)

/-- The cosines laid out twice. -/
theorem cos_at (c : Dev nD) (R : Fin 6144) (j : Fin 128) : (V m c main_v0 : Vec Ideal S6144x128 .f32) (ix2 R j)
    = cosVal m c R ⟨(j : ℕ) % 64, Nat.mod_lt _ (by decide)⟩ := by
  have hj : (j : ℕ) < 128 := j.isLt
  entry_read
  pointwise []
  by_cases h : (j : ℕ) < 64
  · rw [dif_pos h]
    exact congrArg (cosVal m c R) (Fin.ext (by show (j : ℕ) = j % 64; omega))
  · rw [dif_neg h]
    exact congrArg (cosVal m c R) (Fin.ext (by show (j : ℕ) - 64 = j % 64; omega))

/-- The sines laid out with their signs. -/
theorem sin_at (c : Dev nD) (R : Fin 6144) (j : Fin 128) : (V m c main_v2 : Vec Ideal S6144x128 .f32) (ix2 R j)
    = if (j : ℕ) < 64 then -sinVal m c R ⟨(j : ℕ) % 64, Nat.mod_lt _ (by decide)⟩
      else sinVal m c R ⟨(j : ℕ) % 64, Nat.mod_lt _ (by decide)⟩ := by
  have hj : (j : ℕ) < 128 := j.isLt
  entry_read
  pointwise []
  by_cases h : (j : ℕ) < 64
  · rw [dif_pos h, if_pos h]
    exact congrArg (fun k => -sinVal m c R k) (Fin.ext (by show (j : ℕ) = j % 64; omega))
  · rw [dif_neg h, if_neg h]
    exact congrArg (sinVal m c R) (Fin.ext (by show (j : ℕ) - 64 = j % 64; omega))

/-- A turned head of a block of rows is the turned head of the whole layer at its row. -/
theorem turned_block (c : Dev nD) (q : ℕ) (r : Fin 1024) (R : Fin 6144) (hR : rowOf q r = R) (o : ℕ) (ho : o + 128 ≤ 2304)
    (j : Fin 128) :
    W4.rolled (headAt (rows m c q) o ho r) (fun i => cosRows m c q (ix2 r i)) (fun i => sinRows m c q (ix2 r i)) j
      = turned (lin m c) (m ((c : Thread nD τ).loc main_arg6)) (m ((c : Thread nD τ).loc main_arg7)) o ho R j := by
  subst hR
  exact W4.rolled_rotary _ _ _ (cosVal m c (rowOf q r)) (sinVal m c (rowOf q r)) (fun i => cos_at m c (rowOf q r) i) (fun i => sin_at m c (rowOf q r) i) j

/-- The scales' block is the scales. -/
theorem scales (c : Dev nD) (t : Fin cfg0.N) : iblk m c 0 t = (m ((c : Thread nD τ).loc main_arg8)) ∧ iblk m c 1 t = (m ((c : Thread nD τ).loc main_arg9)) := by
  refine ⟨?_, ?_⟩
  all_goals blk_ext! [iblk, V, idx t]

/-- The kernel's queries after the run. -/
theorem final_q (c : Dev nD) : (dats m 0 c).arrAt 10 (cfgs 0).N = resultQ (lin m c) (m ((c : Thread nD τ).loc main_arg6)) (m ((c : Thread nD τ).loc main_arg7)) := by
  refine (dats m 0 c).arrAt_eq_of_covers 10 _ (by decide +kernel) fun t _ y => ?_
  blk_simp
  rw [after0_10]
  have e0 : (((cfg0.win 10).blk t).view.emb y 0 : ℕ) = t.val / 3 * 1024 + y 0 := by blk_simp [idx t]
  have e1 : (((cfg0.win 10).blk t).view.emb y 1 : ℕ) = y 1 := by blk_simp [idx t]
  have hq : t.val / 3 < 6 := (idx t).2.2.2.2.2.2.2.2.2.2.2.2.2
  idx_vars y
  have hr : (y0 : ℕ) < 1024 := y0.isLt
  have hR : rowOf (t.val / 3) y0 = ((cfg0.win 10).blk t).view.emb (ix2 y0 y1) 0 := Fin.ext (by
    refine Eq.trans ?_ e0.symm
    show (1024 * (t.val / 3) + (y0 : ℕ)) % 6144 = t.val / 3 * 1024 + (y0 : ℕ)
    omega)
  have h1 : y1 = ((cfg0.win 10).blk t).view.emb (ix2 y0 y1) 1 := Fin.ext e1.symm
  exact (turned_block m c (t.val / 3) y0 _ hR _ _ _).trans (congrArg (fun n => qAt (lin m c) (m ((c : Thread nD τ).loc main_arg6)) (m ((c : Thread nD τ).loc main_arg7)) _ n) h1)

/-- The kernel's key codes after the run. -/
theorem final_k (c : Dev nD) : (dats m 0 c).arrAt 11 (cfgs 0).N = resultK (lin m c) (m ((c : Thread nD τ).loc main_arg6)) (m ((c : Thread nD τ).loc main_arg7)) (fun h => (m ((c : Thread nD τ).loc main_arg8)) (ix1 h)) := by
  refine (dats m 0 c).arrAt_eq_of_covers 11 _ (by decide +kernel) fun t _ y => ?_
  blk_simp
  rw [after0_11, (scales m c t).1]
  have e0 : (((cfg0.win 11).blk t).view.emb y 0 : ℕ) = t.val / 6 + y 0 := by blk_simp [idx t]
  have e1 : (((cfg0.win 11).blk t).view.emb y 1 : ℕ) = y 1 := by blk_simp [idx t]
  have e2 : (((cfg0.win 11).blk t).view.emb y 2 : ℕ) = t.val / 3 % 2 * 1024 + y 2 := by blk_simp [idx t]
  have e3 : (((cfg0.win 11).blk t).view.emb y 3 : ℕ) = y 3 := by blk_simp [idx t]
  have hq : t.val / 3 < 6 := (idx t).2.2.2.2.2.2.2.2.2.2.2.2.2
  idx_vars y
  have hy : (y0 : ℕ) < 1 := y0.isLt
  have hr : (y2 : ℕ) < 1024 := y2.isLt
  have hR : rowOf (t.val / 3) y2 = token (((cfg0.win 11).blk t).view.emb (ix4 y0 y1 y2 y3) 0) (((cfg0.win 11).blk t).view.emb (ix4 y0 y1 y2 y3) 2) := Fin.ext (by
    refine Eq.trans ?_ (congrArg₂ (fun a b => 2048 * a + b) e0.symm e2.symm)
    show (1024 * (t.val / 3) + (y2 : ℕ)) % 6144 = 2048 * (t.val / 6 + (y0 : ℕ)) + (t.val / 3 % 2 * 1024 + (y2 : ℕ))
    omega)
  have h1 : y1 = ((cfg0.win 11).blk t).view.emb (ix4 y0 y1 y2 y3) 1 := Fin.ext e1.symm
  have h3 : y3 = ((cfg0.win 11).blk t).view.emb (ix4 y0 y1 y2 y3) 3 := Fin.ext e3.symm
  exact (congrArg (fun x => W4.codeOf x _) (turned_block m c (t.val / 3) y2 _ hR _ _ _)).trans (congrArg₂ (fun h j => kAt (lin m c) (m ((c : Thread nD τ).loc main_arg6)) (m ((c : Thread nD τ).loc main_arg7)) (fun h => (m ((c : Thread nD τ).loc main_arg8)) (ix1 h)) _ h j) h1 h3)

/-- The kernel's value codes after the run. -/
theorem final_v (c : Dev nD) : (dats m 0 c).arrAt 12 (cfgs 0).N = resultV (lin m c) (fun h => (m ((c : Thread nD τ).loc main_arg9)) (ix1 h)) := by
  refine (dats m 0 c).arrAt_eq_of_covers 12 _ (by decide +kernel) fun t _ y => ?_
  blk_simp
  rw [after0_12, (scales m c t).2]
  have e0 : (((cfg0.win 12).blk t).view.emb y 0 : ℕ) = t.val / 6 + y 0 := by blk_simp [idx t]
  have e1 : (((cfg0.win 12).blk t).view.emb y 1 : ℕ) = y 1 := by blk_simp [idx t]
  have e2 : (((cfg0.win 12).blk t).view.emb y 2 : ℕ) = t.val / 3 % 2 * 1024 + y 2 := by blk_simp [idx t]
  have e3 : (((cfg0.win 12).blk t).view.emb y 3 : ℕ) = y 3 := by blk_simp [idx t]
  have hq : t.val / 3 < 6 := (idx t).2.2.2.2.2.2.2.2.2.2.2.2.2
  idx_vars y
  have hy : (y0 : ℕ) < 1 := y0.isLt
  have hr : (y2 : ℕ) < 1024 := y2.isLt
  have hR : rowOf (t.val / 3) y2 = token (((cfg0.win 12).blk t).view.emb (ix4 y0 y1 y2 y3) 0) (((cfg0.win 12).blk t).view.emb (ix4 y0 y1 y2 y3) 2) := Fin.ext (by
    refine Eq.trans ?_ (congrArg₂ (fun a b => 2048 * a + b) e0.symm e2.symm)
    show (1024 * (t.val / 3) + (y2 : ℕ)) % 6144 = 2048 * (t.val / 6 + (y0 : ℕ)) + (t.val / 3 % 2 * 1024 + (y2 : ℕ))
    omega)
  have h1 : y1 = ((cfg0.win 12).blk t).view.emb (ix4 y0 y1 y2 y3) 1 := Fin.ext e1.symm
  have h3 : y3 = ((cfg0.win 12).blk t).view.emb (ix4 y0 y1 y2 y3) 3 := Fin.ext e3.symm
  exact (congrArg (fun R => vAt (lin m c) (fun h => (m ((c : Thread nD τ).loc main_arg9)) (ix1 h)) R y1 y3) hR).trans (congrArg₂ (fun h j => vAt (lin m c) (fun h => (m ((c : Thread nD τ).loc main_arg9)) (ix1 h)) _ h j) h1 h3)

end Cert.QkvIdeal.Hand
-- ==== Proof.QkvFinal.lean ====
module

public import proofs.«01_k».proof.Proof.QkvResult
public import proofs.«01_k».proof.Proof.Gen.QkvRefIdeal.Frame
public import Idealize.ShloMosaic.Lib.Pipeline.Value

@[expose] public section
set_option maxRecDepth 16384
noncomputable section
open Idealize.ShloMosaic Idealize.ShloMosaic.TcCoe Idealize.SL.Sem
open Idealize.ShloMosaic.Pipeline (Dat)

namespace Cert.QkvRefIdeal.Value
open Cert.QkvRefIdeal Cert.QkvRefIdeal.Gen
variable (m : (ℓ : Loc nD τ sig) → Buf (Elt Ideal) ℓ)

/-- The reference's one grid point reads every operand whole. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0]
    ∧ win0_11.index t = ![0, 0, 0, 0] ∧ win0_12.index t = ![0, 0, 0, 0] :=
  (by decide +kernel : ∀ t : Fin grid0.N, _)

section
variable (x0 : Vec Ideal S6144x7168 .fp8e4m3) (x1 : Vec Ideal S6144x1 .f32) (x2 : Vec Ideal S896x2304 .i32)
    (x3 : Vec Ideal S56x2304 .fp8e4m3) (x5 : Vec Ideal S1x2304 .f32) (x4 : Vec Ideal S56x2304 .i8)

/-- The reference's linear layer, read at an element. -/
theorem lin_at (r : Fin 6144) (n : Fin 2304) : k0_pay6 (F := Ideal) x0 x1 x2 x3 x5 x4 (ix2 r n) = (W4.linear (K := 7168) (R := 896) (Q := 56) (T := 6144) (N := 2304) rfl rfl x0 x1 x2 x3 x4 x5) r n := by
  unfold W4.linear W4.weights
  pointwise [k0_pay6]
  simp only [W4.ref_weight _ _ (Nat.mod_lt _ (by decide : 0 < 8)) _ _]

/-- The lower half of a query head, -/
theorem low_at (r : Fin 6144) (h : Fin 14) (j : Fin 64) :
    k0_pay8 (F := Ideal) x0 x1 x2 x3 x5 x4 (ix3 r h j) = (W4.linear (K := 7168) (R := 896) (Q := 56) (T := 6144) (N := 2304) rfl rfl x0 x1 x2 x3 x4 x5) r ⟨128 * h + j, by omega⟩ := by
  refine Eq.trans ?_ (lin_at x0 x1 x2 x3 x5 x4 r _)
  pointwise [k0_pay8, k0_pay7]
  refine congrArg (fun n => k0_pay6 (F := Ideal) x0 x1 x2 x3 x5 x4 (ix2 r n)) (Fin.ext ?_)
  show (h : ℕ) * 128 + (j : ℕ) = 128 * h + (j : ℕ)
  omega

/-- and the upper half. -/
theorem high_at (r : Fin 6144) (h : Fin 14) (j : Fin 64) :
    k0_pay9 (F := Ideal) x0 x1 x2 x3 x5 x4 (ix3 r h j) = (W4.linear (K := 7168) (R := 896) (Q := 56) (T := 6144) (N := 2304) rfl rfl x0 x1 x2 x3 x4 x5) r ⟨128 * h + (64 + j), by omega⟩ := by
  refine Eq.trans ?_ (lin_at x0 x1 x2 x3 x5 x4 r _)
  pointwise [k0_pay9, k0_pay7]
  refine congrArg (fun n => k0_pay6 (F := Ideal) x0 x1 x2 x3 x5 x4 (ix2 r n)) (Fin.ext ?_)
  show (h : ℕ) * 128 + (64 + (j : ℕ)) = 128 * h + (64 + (j : ℕ))
  omega

/-- The reference's queries, read at an element. -/
theorem q_at (c s : Vec Ideal S6144x64 .f32) (r : Fin 6144) (n : Fin 1792) :
    k0_pay10 (F := Ideal) c s (k0_pay8 (F := Ideal) x0 x1 x2 x3 x5 x4) (k0_pay9 (F := Ideal) x0 x1 x2 x3 x5 x4) (ix2 r n)
      = Cert.QkvIdeal.Hand.qAt (W4.linear (K := 7168) (R := 896) (Q := 56) (T := 6144) (N := 2304) rfl rfl x0 x1 x2 x3 x4 x5) c s r n := by
  unfold Cert.QkvIdeal.Hand.qAt Cert.QkvIdeal.Hand.turned W4.rotary Cert.QkvIdeal.Hand.wide
  pointwise [k0_pay10]
  have hn : (n : ℕ) < 1792 := n.isLt
  by_cases h : (n : ℕ) % 128 < 64
  · rw [dif_pos h, dif_pos h]
    exact congrArg₂ (fun a b : EReal => a * c (ix2 r ⟨(n : ℕ) % 128, h⟩) - b * s (ix2 r ⟨(n : ℕ) % 128, h⟩))
      (low_at x0 x1 x2 x3 x5 x4 r _ _) (high_at x0 x1 x2 x3 x5 x4 r _ _)
  · rw [dif_neg h, dif_neg h]
    have h' : (n : ℕ) % 128 - 64 < 64 := by omega
    refine congrArg₂ (fun a b : EReal => a * c (ix2 r ⟨(n : ℕ) % 128 - 64, h'⟩) + b * s (ix2 r ⟨(n : ℕ) % 128 - 64, h'⟩))
      ((high_at x0 x1 x2 x3 x5 x4 r _ _).trans (congrArg (W4.linear (K := 7168) (R := 896) (Q := 56) (T := 6144) (N := 2304) rfl rfl x0 x1 x2 x3 x4 x5 r) (Fin.ext ?_)))
      (low_at x0 x1 x2 x3 x5 x4 r _ _)
    show 128 * ((n : ℕ) / 128) + (64 + ((n : ℕ) % 128 - 64)) = 128 * ((n : ℕ) / 128) + (n : ℕ) % 128
    omega
end

/-- The reference's key codes, read at an element. -/
theorem k_at (L : FVec Ideal S6144x2304 .f32) (l : Fin 6144 → Fin 2304 → EReal) (hL : ∀ r n, L (ix2 r n) = l r n)
    (c s : Vec Ideal S6144x64 .f32) (k : Vec Ideal S2x1 .f32) (r : Fin 6144) (h : Fin 2) (j : Fin 128) :
    k0_pay11 (F := Ideal) L c s k (ix3 r h j) = Cert.QkvIdeal.Hand.kAt l c s (fun h => k (ix2 h 0)) r h j := by
  unfold Cert.QkvIdeal.Hand.kAt Cert.QkvIdeal.Hand.turned W4.codeOf W4.rotary Cert.QkvIdeal.Hand.wide
  pointwise [k0_pay11]
  have e : ∀ x : ℕ, 1792 + ((h : ℕ) * 128 + x) = 1792 + 128 * (h : ℕ) + x := fun x => by omega
  by_cases hj : (j : ℕ) < 64
  · simp only [hL, e, dif_pos hj]
  · have e' : 64 + ((j : ℕ) - 64) = j := by omega
    simp only [hL, e, dif_neg hj, e']

/-- The reference's value codes, read at an element. -/
theorem v_at (L : FVec Ideal S6144x2304 .f32) (l : Fin 6144 → Fin 2304 → EReal) (hL : ∀ r n, L (ix2 r n) = l r n)
    (k : Vec Ideal S2x1 .f32) (r : Fin 6144) (h : Fin 2) (j : Fin 128) :
    k0_pay1 (F := Ideal) (k0_pay12 (F := Ideal) L k) (Scalar.ofBits .f32 0xC3E00000#32) (ix3 r h j)
      = Cert.QkvIdeal.Hand.vAt l (fun h => k (ix2 h 0)) r h j := by
  unfold Cert.QkvIdeal.Hand.vAt W4.codeOf Cert.QkvIdeal.Hand.wide
  pointwise [k0_pay1, k0_pay12]
  have e : 2048 + ((h : ℕ) * 128 + (j : ℕ)) = 2048 + 128 * (h : ℕ) + j := by omega
  simp only [hL, e]

/-- The codes of the first key head, laid out by batch, -/
theorem key_0 (x : FVec Ideal S6144x2x128 .fp8e4m3) (b : Fin 3) (t : Fin 2048) (j : Fin 128) :
    k0_pay2 (F := Ideal) x (ix4 b 0 t j) = x (ix3 (Cert.QkvIdeal.Hand.token b t) 0 j) := by
  pointwise [k0_pay2]
  refine congrArg (fun R => x (ix3 R 0 j)) (Fin.ext ?_)
  show (b : ℕ) * 2048 + (t : ℕ) = 2048 * (b : ℕ) + t
  omega

/-- of the second, -/
theorem key_1 (x : FVec Ideal S6144x2x128 .fp8e4m3) (b : Fin 3) (t : Fin 2048) (j : Fin 128) :
    k0_pay4 (F := Ideal) x (ix4 b 0 t j) = x (ix3 (Cert.QkvIdeal.Hand.token b t) 1 j) := by
  pointwise [k0_pay4]
  refine congrArg (fun R => x (ix3 R 1 j)) (Fin.ext ?_)
  show (b : ℕ) * 2048 + (t : ℕ) = 2048 * (b : ℕ) + t
  omega

/-- of the first value head, -/
theorem val_0 (v : FVec Ideal S6144x2x128 .f32) (w : EReal) (b : Fin 3) (t : Fin 2048) (j : Fin 128) :
    k0_pay3 (F := Ideal) v w (ix4 b 0 t j) = k0_pay1 (F := Ideal) v w (ix3 (Cert.QkvIdeal.Hand.token b t) 0 j) := by
  pointwise [k0_pay3]
  refine congrArg (fun R => k0_pay1 (F := Ideal) v w (ix3 R 0 j)) (Fin.ext ?_)
  show (b : ℕ) * 2048 + (t : ℕ) = 2048 * (b : ℕ) + t
  omega

/-- and of the second. -/
theorem val_1 (v : FVec Ideal S6144x2x128 .f32) (w : EReal) (b : Fin 3) (t : Fin 2048) (j : Fin 128) :
    k0_pay5 (F := Ideal) v w (ix4 b 0 t j) = k0_pay1 (F := Ideal) v w (ix3 (Cert.QkvIdeal.Hand.token b t) 1 j) := by
  pointwise [k0_pay5]
  refine congrArg (fun R => k0_pay1 (F := Ideal) v w (ix3 R 1 j)) (Fin.ext ?_)
  show (b : ℕ) * 2048 + (t : ℕ) = 2048 * (b : ℕ) + t
  omega

/-- An array stored in two heads is known when each head is. -/
theorem two_heads {G : Vec Ideal S3x2x2048x128 .fp8e4m3}
    {i0 : ∀ i, ![0, 0, 0, 0] i + S3x1x2048x128.size i ≤ S3x2x2048x128.size i} {i1 : ∀ i, ![0, 1, 0, 0] i + S3x1x2048x128.size i ≤ S3x2x2048x128.size i}
    {w0 : (Rect.unit (s := S3x2x2048x128) ![0, 0, 0, 0] S3x1x2048x128.size i0).shape.Idx → Elt Ideal .fp8e4m3}
    {w1 : (Rect.unit (s := S3x2x2048x128) ![0, 1, 0, 0] S3x1x2048x128.size i1).shape.Idx → Elt Ideal .fp8e4m3}
    (h0 : ∀ (b : Fin 3) (r : Fin 2048) (j : Fin 128), w0 (ix4 b 0 r j) = G (ix4 b 0 r j))
    (h1 : ∀ (b : Fin 3) (r : Fin 2048) (j : Fin 128), w1 (ix4 b 0 r j) = G (ix4 b 1 r j)) :
    View.canon (Val := Elt Ideal) [⟨Rect.unit (s := S3x2x2048x128) ![0, 1, 0, 0] S3x1x2048x128.size i1, w1⟩,
      ⟨Rect.unit (s := S3x2x2048x128) ![0, 0, 0, 0] S3x1x2048x128.size i0, w0⟩] = G := by
  funext y
  idx_vars y
  by_cases h : (y1 : ℕ) = 1
  · have ey : y1 = 1 := Fin.ext h
    subst ey
    refine Eq.trans (congrArg _ (?_ : _ = (Rect.unit (s := S3x2x2048x128) ![0, 1, 0, 0] S3x1x2048x128.size i1).emb (ix4 y0 0 y2 y3))) ((View.canon_cons_emb _ w1 _ _).trans (h1 y0 y2 y3))
    funext a
    refine Fin.ext (Eq.symm ((ValueKit.rect_emb_unit_val _ _ i1 _ a).trans ?_))
    match a with
    | ⟨0, _⟩ => exact Nat.zero_add _
    | ⟨1, _⟩ => rfl
    | ⟨2, _⟩ => exact Nat.zero_add _
    | ⟨3, _⟩ => exact Nat.zero_add _
  · have ey : y1 = 0 := Fin.ext (by show (y1 : ℕ) = 0; omega)
    subst ey
    rw [View.canon_cons_of_not_mem]
    · refine Eq.trans (congrArg _ (?_ : _ = (Rect.unit (s := S3x2x2048x128) ![0, 0, 0, 0] S3x1x2048x128.size i0).emb (ix4 y0 0 y2 y3))) ((View.canon_cons_emb _ w0 [] _).trans (h0 y0 y2 y3))
      funext a
      refine Fin.ext (Eq.symm ((ValueKit.rect_emb_unit_val _ _ i0 _ a).trans ?_))
      match a with
      | ⟨0, _⟩ => exact Nat.zero_add _
      | ⟨1, _⟩ => rfl
      | ⟨2, _⟩ => exact Nat.zero_add _
      | ⟨3, _⟩ => exact Nat.zero_add _
    · intro hm
      obtain ⟨x, hx⟩ := (Rect.unit (s := S3x2x2048x128) ![0, 1, 0, 0] S3x1x2048x128.size i1).exists_idx_of_mem hm
      have e := congrArg (fun z : S3x2x2048x128.Idx => (z 1 : ℕ)) hx
      have e' := (ValueKit.rect_emb_unit_val _ _ i1 x 1).symm.trans e
      have e'' : 1 + (x 1 : ℕ) = 0 := e'
      omega

/-- The reference's scales as columns. -/
theorem col_k (c : Dev nD) (h : Fin 2) : (V m c main_v1 : Vec Ideal S2x1 .f32) (ix2 h 0)
    = (m ((c : Thread nD τ).loc main_arg8) : Vec Ideal S2 .f32) (ix1 h) := by
  entry_read
  pointwise []

/-- The value scales as a column. -/
theorem col_v (c : Dev nD) (h : Fin 2) : (V m c main_v2 : Vec Ideal S2x1 .f32) (ix2 h 0)
    = (m ((c : Thread nD τ).loc main_arg9) : Vec Ideal S2 .f32) (ix1 h) := by
  entry_read
  pointwise []

/-- Every operand's block at the one grid point is the array the launch finds. -/
theorem whole (c : Dev nD) : iblk m c 0 t0_0 = m ((c : Thread nD τ).loc main_arg0) ∧ iblk m c 1 t0_0 = m ((c : Thread nD τ).loc main_arg1) ∧ iblk m c 2 t0_0 = m ((c : Thread nD τ).loc main_arg2) ∧ iblk m c 3 t0_0 = m ((c : Thread nD τ).loc main_arg3) ∧ iblk m c 4 t0_0 = m ((c : Thread nD τ).loc main_arg4) ∧ iblk m c 6 t0_0 = m ((c : Thread nD τ).loc main_arg6) ∧ iblk m c 7 t0_0 = m ((c : Thread nD τ).loc main_arg7)
    ∧ iblk m c 5 t0_0 = V m c main_v0 ∧ iblk m c 8 t0_0 = V m c main_v1 ∧ iblk m c 9 t0_0 = V m c main_v2 := by
  refine ⟨?_, ?_, ?_, ?_, ?_, ?_, ?_, ?_, ?_, ?_⟩
  iterate 7 blk_ext! [iblk, V, idx t0_0]
  iterate 3 blk_ext! [iblk, idx t0_0]

/-- The linear layer over the arrays the launch finds. -/
abbrev lin (c : Dev nD) : Fin 6144 → Fin 2304 → EReal :=
  W4.linear (K := 7168) (R := 896) (Q := 56) (T := 6144) (N := 2304) rfl rfl (m ((c : Thread nD τ).loc main_arg0)) (m ((c : Thread nD τ).loc main_arg1)) (m ((c : Thread nD τ).loc main_arg2)) (m ((c : Thread nD τ).loc main_arg3)) (m ((c : Thread nD τ).loc main_arg4)) (V m c main_v0)

/-- The reference's queries after the run. -/
theorem final_q (c : Dev nD) : (dats m 0 c).arrAt 10 (cfgs 0).N = Cert.QkvIdeal.Hand.resultQ (lin m c) (m ((c : Thread nD τ).loc main_arg6)) (m ((c : Thread nD τ).loc main_arg7)) := by
  refine (dats m 0 c).arrAt_eq_of_after_last 10 t0_0 (by decide +kernel) _ fun j => ?_
  blk_simp
  rw [after0_10]
  frame_out [k0_pay13]
  obtain ⟨h0, h1, h2, h3, h4, h6, h7, h5, h8, h9⟩ := whole m c
  rw [h0, h1, h2, h3, h4, h5, h6, h7]
  idx_vars j
  exact q_at _ _ _ _ _ _ _ _ j0 j1

/-- The reference's key codes after the run. -/
theorem final_k (c : Dev nD) : (dats m 0 c).arrAt 11 (cfgs 0).N = Cert.QkvIdeal.Hand.resultK (lin m c) (m ((c : Thread nD τ).loc main_arg6)) (m ((c : Thread nD τ).loc main_arg7)) (fun h => (m ((c : Thread nD τ).loc main_arg8)) (ix1 h)) := by
  refine (dats m 0 c).arrAt_eq_of_after_last 11 t0_0 (by decide +kernel) _ fun j => ?_
  blk_simp
  rw [after0_11]
  frame_out [k0_pay13, k0_pay14]
  obtain ⟨h0, h1, h2, h3, h4, h6, h7, h5, h8, h9⟩ := whole m c
  rw [h0, h1, h2, h3, h4, h5, h6, h7, h8]
  refine congrFun (two_heads (fun b r i => ?_) (fun b r i => ?_)) j
  · exact (key_0 _ b r i).trans ((k_at _ (lin m c) (lin_at _ _ _ _ _ _) _ _ _ _ _ _).trans
      (congrArg (fun k => Cert.QkvIdeal.Hand.kAt (lin m c) (m ((c : Thread nD τ).loc main_arg6)) (m ((c : Thread nD τ).loc main_arg7)) k (Cert.QkvIdeal.Hand.token b r) 0 i) (funext fun h => col_k m c h)))
  · exact (key_1 _ b r i).trans ((k_at _ (lin m c) (lin_at _ _ _ _ _ _) _ _ _ _ _ _).trans
      (congrArg (fun k => Cert.QkvIdeal.Hand.kAt (lin m c) (m ((c : Thread nD τ).loc main_arg6)) (m ((c : Thread nD τ).loc main_arg7)) k (Cert.QkvIdeal.Hand.token b r) 1 i) (funext fun h => col_k m c h)))

/-- The reference's value codes after the run. -/
theorem final_v (c : Dev nD) : (dats m 0 c).arrAt 12 (cfgs 0).N = Cert.QkvIdeal.Hand.resultV (lin m c) (fun h => (m ((c : Thread nD τ).loc main_arg9)) (ix1 h)) := by
  refine (dats m 0 c).arrAt_eq_of_after_last 12 t0_0 (by decide +kernel) _ fun j => ?_
  blk_simp
  rw [after0_12]
  frame_out [k0_pay13, k0_pay15]
  obtain ⟨h0, h1, h2, h3, h4, h6, h7, h5, h8, h9⟩ := whole m c
  rw [h0, h1, h2, h3, h4, h5, h9]
  refine congrFun (two_heads (fun b r i => ?_) (fun b r i => ?_)) j
  · exact (val_0 _ _ b r i).trans ((v_at _ (lin m c) (lin_at _ _ _ _ _ _) _ _ _ _).trans
      (congrArg (fun k => Cert.QkvIdeal.Hand.vAt (lin m c) k (Cert.QkvIdeal.Hand.token b r) 0 i) (funext fun h => col_v m c h)))
  · exact (val_1 _ _ b r i).trans ((v_at _ (lin m c) (lin_at _ _ _ _ _ _) _ _ _ _).trans
      (congrArg (fun k => Cert.QkvIdeal.Hand.vAt (lin m c) k (Cert.QkvIdeal.Hand.token b r) 1 i) (funext fun h => col_v m c h)))

end Cert.QkvRefIdeal.Value
-- ==== Proof.lean ====
module

public import proofs.«01_k».proof.Defs
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.DownIdeal.Value
public import proofs.«01_k».proof.Proof.Gen.DownRefIdeal.Value
public import proofs.«01_k».proof.Proof.DownValue
public import proofs.«01_k».proof.Proof.Gen.Gu
public import proofs.«01_k».proof.Proof.Gen.Gu.Skeleton
public import proofs.«01_k».proof.Proof.Gen.Gu.Launch
public import proofs.«01_k».proof.Proof.Gen.Gu.Points
public import proofs.«01_k».proof.Proof.Gen.Gu.Frame
public import proofs.«01_k».proof.Proof.Gen.GuIdeal
public import proofs.«01_k».proof.Proof.Gen.GuIdeal.Skeleton
public import proofs.«01_k».proof.Proof.Gen.GuIdeal.Launch
public import proofs.«01_k».proof.Proof.Gen.GuIdeal.Points
public import proofs.«01_k».proof.Proof.Gen.GuIdeal.Frame
public import proofs.«01_k».proof.Proof.Gen.GuRefIdeal
public import proofs.«01_k».proof.Proof.Gen.GuRefIdeal.Skeleton
public import proofs.«01_k».proof.Proof.Gen.GuRefIdeal.Launch
public import proofs.«01_k».proof.Proof.Gen.GuRefIdeal.Points
public import proofs.«01_k».proof.Proof.Gen.GuRefIdeal.Frame
public import proofs.«01_k».proof.Proof.Gen.GuRefIdeal.Value
public import proofs.«01_k».proof.Proof.GuFrame
public import proofs.«01_k».proof.Proof.GuFinal
public import proofs.«01_k».proof.Proof.Gen.Oproj
public import proofs.«01_k».proof.Proof.Gen.Oproj.Skeleton
public import proofs.«01_k».proof.Proof.Gen.Oproj.Launch
public import proofs.«01_k».proof.Proof.Gen.Oproj.Points
public import proofs.«01_k».proof.Proof.Gen.Oproj.Frame
public import proofs.«01_k».proof.Proof.Gen.OprojIdeal
public import proofs.«01_k».proof.Proof.Gen.OprojIdeal.Skeleton
public import proofs.«01_k».proof.Proof.Gen.OprojIdeal.Launch
public import proofs.«01_k».proof.Proof.Gen.OprojIdeal.Points
public import proofs.«01_k».proof.Proof.Gen.OprojIdeal.Frame
public import proofs.«01_k».proof.Proof.Gen.OprojRefIdeal
public import proofs.«01_k».proof.Proof.Gen.OprojRefIdeal.Skeleton
public import proofs.«01_k».proof.Proof.Gen.OprojRefIdeal.Launch
public import proofs.«01_k».proof.Proof.Gen.OprojRefIdeal.Points
public import proofs.«01_k».proof.Proof.Gen.OprojRefIdeal.Frame
public import proofs.«01_k».proof.Proof.Gen.OprojRefIdeal.Value
public import proofs.«01_k».proof.Proof.OprojFrame
public import proofs.«01_k».proof.Proof.OprojFinal
public import proofs.«01_k».proof.Proof.Gen.Nq
public import proofs.«01_k».proof.Proof.Gen.Nq.Skeleton
public import proofs.«01_k».proof.Proof.Gen.Nq.Launch
public import proofs.«01_k».proof.Proof.Gen.Nq.Points
public import proofs.«01_k».proof.Proof.Gen.Nq.Frame
public import proofs.«01_k».proof.Proof.Gen.NqIdeal
public import proofs.«01_k».proof.Proof.Gen.NqIdeal.Skeleton
public import proofs.«01_k».proof.Proof.Gen.NqIdeal.Launch
public import proofs.«01_k».proof.Proof.Gen.NqIdeal.Points
public import proofs.«01_k».proof.Proof.Gen.NqIdeal.Frame
public import proofs.«01_k».proof.Proof.Gen.NqIdeal.Value
public import proofs.«01_k».proof.Proof.Gen.NqRefIdeal
public import proofs.«01_k».proof.Proof.Gen.NqRefIdeal.Skeleton
public import proofs.«01_k».proof.Proof.Gen.NqRefIdeal.Launch
public import proofs.«01_k».proof.Proof.Gen.NqRefIdeal.Points
public import proofs.«01_k».proof.Proof.Gen.NqRefIdeal.Frame
public import proofs.«01_k».proof.Proof.Gen.NqRefIdeal.Value
public import proofs.«01_k».proof.Proof.NqValue
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.QkvFrame
public import proofs.«01_k».proof.Proof.QkvLast
public import proofs.«01_k».proof.Proof.QkvFinal
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Down

/-- The down projection and its plain reference leave the same result, element by element. -/
theorem down : Cert.algebraic_DownIdeal_DownRefIdeal := by
  pair_intro
  · run_from Cert.DownIdeal.Gen.run_main m g
  · run_from Cert.DownRefIdeal.Gen.run_main m' g'
    obtain ⟨h0, h1, h2, h3, h4, h5, h6⟩ := hagree c
    rw [Cert.DownRefIdeal.Value.final, h0, h1, h2, h3, h4, h6]
    refine Eq.trans ?_ (Cert.DownIdeal.Value.final m c).symm
    congr 1
    entry_read
    exact congrArg _ h5

/-- The hidden layer of the gate and up projections does not depend on which of the two programs' arrays it is read
    from. -/
theorem gate_up_hidden (m : (ℓ : Loc Cert.GuIdeal.nD Cert.GuIdeal.τ Cert.GuIdeal.sig) → Buf (Elt Ideal) ℓ)
    (m' : (ℓ : Loc Cert.GuRefIdeal.nD Cert.GuRefIdeal.τ Cert.GuRefIdeal.sig) → Buf (Elt Ideal) ℓ) (c : Dev Cert.GuIdeal.nD)
    (h5 : m' ((c.tc : Thread Cert.GuRefIdeal.nD Cert.GuRefIdeal.τ).loc Cert.GuRefIdeal.main_arg5)
      = m ((c.tc : Thread Cert.GuIdeal.nD Cert.GuIdeal.τ).loc Cert.GuIdeal.main_arg5)) :
    (Cert.GuRefIdeal.Gen.V m' c Cert.GuRefIdeal.main_v0 : Vec Ideal Cert.GuIdeal.S1x10240 .f32)
      = Cert.GuIdeal.Gen.V m c Cert.GuIdeal.main_v0 := by
  entry_read
  exact congrArg _ h5

/-- The gate and up projections, with the gated unit and the quantiser, leave the same codes and the same scales as
    their plain reference, element by element. -/
theorem gate_up : Cert.algebraic_GuIdeal_GuRefIdeal := by
  pair_intro
  · run_from Cert.GuIdeal.Hand.run_main m g
  · run_from Cert.GuRefIdeal.Gen.run_main m' g'
    · obtain ⟨h0, h1, h2, h3, h4, h5⟩ := hagree c
      rw [Cert.GuRefIdeal.Value.final_codes, h0, h1, h2, h3, h4]
      refine Eq.trans ?_ (Cert.GuIdeal.Hand.final_codes m c).symm
      exact congrArg (fun E => Cert.GuIdeal.Hand.resultCodes (Cert.GuIdeal.Hand.hidden _ _ _ _ _ E)) (gate_up_hidden m m' c h5)
    · obtain ⟨h0, h1, h2, h3, h4, h5⟩ := hagree c
      rw [Cert.GuRefIdeal.Value.final_scales, h0, h1, h2, h3, h4]
      refine Eq.trans ?_ (Cert.GuIdeal.Hand.final_scales m c).symm
      exact congrArg (fun E => Cert.GuIdeal.Hand.resultScales (Cert.GuIdeal.Hand.hidden _ _ _ _ _ E)) (gate_up_hidden m m' c h5)

/-- The output projection's column scales do not depend on which of the two programs' arrays they are read from. -/
theorem o_proj_scale (m : (ℓ : Loc Cert.OprojIdeal.nD Cert.OprojIdeal.τ Cert.OprojIdeal.sig) → Buf (Elt Ideal) ℓ)
    (m' : (ℓ : Loc Cert.OprojRefIdeal.nD Cert.OprojRefIdeal.τ Cert.OprojRefIdeal.sig) → Buf (Elt Ideal) ℓ) (c : Dev Cert.OprojIdeal.nD)
    (h : m' ((c.tc : Thread Cert.OprojRefIdeal.nD Cert.OprojRefIdeal.τ).loc Cert.OprojRefIdeal.main_arg5)
      = m ((c.tc : Thread Cert.OprojIdeal.nD Cert.OprojIdeal.τ).loc Cert.OprojIdeal.main_arg5)) :
    (Cert.OprojRefIdeal.Gen.V m' c Cert.OprojRefIdeal.main_v0 : Vec Ideal Cert.OprojIdeal.S1x7168 .f32)
      = Cert.OprojIdeal.Gen.V m c Cert.OprojIdeal.main_v0 := by
  entry_read
  exact congrArg _ h

/-- The gain of the second norm does not depend on which of the two programs' arrays it is read from. -/
theorem o_proj_gain (m : (ℓ : Loc Cert.OprojIdeal.nD Cert.OprojIdeal.τ Cert.OprojIdeal.sig) → Buf (Elt Ideal) ℓ)
    (m' : (ℓ : Loc Cert.OprojRefIdeal.nD Cert.OprojRefIdeal.τ Cert.OprojRefIdeal.sig) → Buf (Elt Ideal) ℓ) (c : Dev Cert.OprojIdeal.nD)
    (h : m' ((c.tc : Thread Cert.OprojRefIdeal.nD Cert.OprojRefIdeal.τ).loc Cert.OprojRefIdeal.main_arg7)
      = m ((c.tc : Thread Cert.OprojIdeal.nD Cert.OprojIdeal.τ).loc Cert.OprojIdeal.main_arg7)) :
    (Cert.OprojRefIdeal.Gen.V m' c Cert.OprojRefIdeal.main_v1 : Vec Ideal Cert.OprojIdeal.S1x7168 .f32)
      = Cert.OprojIdeal.Gen.V m c Cert.OprojIdeal.main_v1 := by
  entry_read
  exact congrArg _ h

set_option maxHeartbeats 1600000 in
/-- The output projection, with the residual addition, the second norm and the quantiser, leaves the same residual stream,
    the same codes and the same scales as its plain reference, element by element. -/
theorem o_proj : Cert.algebraic_OprojIdeal_OprojRefIdeal := by
  pair_intro
  · run_from Cert.OprojIdeal.Hand.run_main m g
  · run_from Cert.OprojRefIdeal.Gen.run_main m' g'
    · obtain ⟨h0, h1, h2, h3, h4, h5, h6, h7⟩ := hagree c
      rw [Cert.OprojRefIdeal.Value.final_rows, h0, h1, h2, h3, h4, h6]
      refine Eq.trans ?_ (Cert.OprojIdeal.Hand.final_rows m c).symm
      exact congrArg (fun E => Cert.OprojIdeal.Hand.resultRows (Cert.OprojIdeal.Hand.resid _ _ _ _ _ E _)) (o_proj_scale m m' c h5)
    · obtain ⟨h0, h1, h2, h3, h4, h5, h6, h7⟩ := hagree c
      rw [Cert.OprojRefIdeal.Value.final_codes, h0, h1, h2, h3, h4, h6]
      refine Eq.trans ?_ (Cert.OprojIdeal.Hand.final_codes m c).symm
      exact congrArg₂ (fun E g => Cert.OprojIdeal.Hand.resultCodes (Cert.OprojIdeal.Hand.resid _ _ _ _ _ E _) g)
        (o_proj_scale m m' c h5) (o_proj_gain m m' c h7)
    · obtain ⟨h0, h1, h2, h3, h4, h5, h6, h7⟩ := hagree c
      rw [Cert.OprojRefIdeal.Value.final_scales, h0, h1, h2, h3, h4, h6]
      refine Eq.trans ?_ (Cert.OprojIdeal.Hand.final_scales m c).symm
      exact congrArg₂ (fun E g => Cert.OprojIdeal.Hand.resultScales (Cert.OprojIdeal.Hand.resid _ _ _ _ _ E _) g)
        (o_proj_scale m m' c h5) (o_proj_gain m m' c h7)

/-- The gain of the first norm does not depend on which of the two programs' arrays it is read from. -/
theorem norm_gain (m : (ℓ : Loc Cert.NqIdeal.nD Cert.NqIdeal.τ Cert.NqIdeal.sig) → Buf (Elt Ideal) ℓ)
    (m' : (ℓ : Loc Cert.NqRefIdeal.nD Cert.NqRefIdeal.τ Cert.NqRefIdeal.sig) → Buf (Elt Ideal) ℓ) (c : Dev Cert.NqIdeal.nD)
    (h1 : m' ((c.tc : Thread Cert.NqRefIdeal.nD Cert.NqRefIdeal.τ).loc Cert.NqRefIdeal.main_arg1)
      = m ((c.tc : Thread Cert.NqIdeal.nD Cert.NqIdeal.τ).loc Cert.NqIdeal.main_arg1)) :
    (Cert.NqRefIdeal.Gen.V m' c Cert.NqRefIdeal.main_v0 : Vec Ideal Cert.NqIdeal.S1x7168 .f32)
      = Cert.NqIdeal.Gen.V m c Cert.NqIdeal.main_v0 := by
  entry_read
  exact congrArg _ h1

/-- The first norm and quantiser leave the same codes and the same scales as their plain reference, element by
    element. -/
theorem norm_quant : Cert.algebraic_NqIdeal_NqRefIdeal := by
  pair_intro
  · run_from Cert.NqIdeal.Gen.run_main m g
  · run_from Cert.NqRefIdeal.Gen.run_main m' g'
    · obtain ⟨h0, h1⟩ := hagree c
      rw [Cert.NqRefIdeal.Value.final_codes, h0]
      refine Eq.trans ?_ (Cert.NqIdeal.Value.final_codes m c).symm
      exact congrArg (Cert.NqIdeal.Value.resultCodes _) (norm_gain m m' c h1)
    · obtain ⟨h0, h1⟩ := hagree c
      rw [Cert.NqRefIdeal.Value.final_scales, h0]
      refine Eq.trans ?_ (Cert.NqIdeal.Value.final_scales m c).symm
      exact congrArg (Cert.NqIdeal.Value.resultScales _) (norm_gain m m' c h1)

/-- The column scales of the queries', keys' and values' layer do not depend on which of the two programs' arrays they are
    read from. -/
theorem qkv_scale (m : (ℓ : Loc Cert.QkvIdeal.nD Cert.QkvIdeal.τ Cert.QkvIdeal.sig) → Buf (Elt Ideal) ℓ)
    (m' : (ℓ : Loc Cert.QkvRefIdeal.nD Cert.QkvRefIdeal.τ Cert.QkvRefIdeal.sig) → Buf (Elt Ideal) ℓ) (c : Dev Cert.QkvIdeal.nD)
    (h5 : m' ((c.tc : Thread Cert.QkvRefIdeal.nD Cert.QkvRefIdeal.τ).loc Cert.QkvRefIdeal.main_arg5)
      = m ((c.tc : Thread Cert.QkvIdeal.nD Cert.QkvIdeal.τ).loc Cert.QkvIdeal.main_arg5)) :
    (Cert.QkvRefIdeal.Gen.V m' c Cert.QkvRefIdeal.main_v0 : Vec Ideal Cert.QkvIdeal.S1x2304 .f32)
      = Cert.QkvIdeal.Gen.V m c Cert.QkvIdeal.main_v3 := by
  entry_read
  exact congrArg _ h5

/-- Nor does the layer itself. -/
theorem qkv_linear (m : (ℓ : Loc Cert.QkvIdeal.nD Cert.QkvIdeal.τ Cert.QkvIdeal.sig) → Buf (Elt Ideal) ℓ)
    (m' : (ℓ : Loc Cert.QkvRefIdeal.nD Cert.QkvRefIdeal.τ Cert.QkvRefIdeal.sig) → Buf (Elt Ideal) ℓ) (c : Dev Cert.QkvIdeal.nD)
    (h0 : m' ((c.tc : Thread Cert.QkvRefIdeal.nD Cert.QkvRefIdeal.τ).loc Cert.QkvRefIdeal.main_arg0)
      = m ((c.tc : Thread Cert.QkvIdeal.nD Cert.QkvIdeal.τ).loc Cert.QkvIdeal.main_arg0))
    (h1 : m' ((c.tc : Thread Cert.QkvRefIdeal.nD Cert.QkvRefIdeal.τ).loc Cert.QkvRefIdeal.main_arg1)
      = m ((c.tc : Thread Cert.QkvIdeal.nD Cert.QkvIdeal.τ).loc Cert.QkvIdeal.main_arg1))
    (h2 : m' ((c.tc : Thread Cert.QkvRefIdeal.nD Cert.QkvRefIdeal.τ).loc Cert.QkvRefIdeal.main_arg2)
      = m ((c.tc : Thread Cert.QkvIdeal.nD Cert.QkvIdeal.τ).loc Cert.QkvIdeal.main_arg2))
    (h3 : m' ((c.tc : Thread Cert.QkvRefIdeal.nD Cert.QkvRefIdeal.τ).loc Cert.QkvRefIdeal.main_arg3)
      = m ((c.tc : Thread Cert.QkvIdeal.nD Cert.QkvIdeal.τ).loc Cert.QkvIdeal.main_arg3))
    (h4 : m' ((c.tc : Thread Cert.QkvRefIdeal.nD Cert.QkvRefIdeal.τ).loc Cert.QkvRefIdeal.main_arg4)
      = m ((c.tc : Thread Cert.QkvIdeal.nD Cert.QkvIdeal.τ).loc Cert.QkvIdeal.main_arg4))
    (h5 : m' ((c.tc : Thread Cert.QkvRefIdeal.nD Cert.QkvRefIdeal.τ).loc Cert.QkvRefIdeal.main_arg5)
      = m ((c.tc : Thread Cert.QkvIdeal.nD Cert.QkvIdeal.τ).loc Cert.QkvIdeal.main_arg5)) :
    Cert.QkvRefIdeal.Value.lin m' c = Cert.QkvIdeal.Hand.lin m c := by
  unfold Cert.QkvRefIdeal.Value.lin Cert.QkvIdeal.Hand.lin
  rw [h0, h1, h2, h3, h4]
  exact congrArg (fun E => W4.linear (K := 7168) (R := 896) (Q := 56) (T := 6144) (N := 2304) rfl rfl _ _ _ _ _ E)
    (qkv_scale m m' c h5)

set_option maxHeartbeats 1600000 in
/-- The projection to queries, keys and values, with the rotation of the queries and keys and the quantisers of the keys and
    values, leaves the same queries, the same key codes and the same value codes as its plain reference, element by
    element. -/
theorem qkv : Cert.algebraic_QkvIdeal_QkvRefIdeal := by
  pair_intro
  · run_from Cert.QkvIdeal.Hand.run_main m g
  · run_from Cert.QkvRefIdeal.Gen.run_main m' g'
    · obtain ⟨h0, h1, h2, h3, h4, h5, h6, h7, h8, h9⟩ := hagree c
      rw [Cert.QkvRefIdeal.Value.final_q, qkv_linear m m' c h0 h1 h2 h3 h4 h5, h6, h7]
      exact (Cert.QkvIdeal.Hand.final_q m c).symm
    · obtain ⟨h0, h1, h2, h3, h4, h5, h6, h7, h8, h9⟩ := hagree c
      rw [Cert.QkvRefIdeal.Value.final_k, qkv_linear m m' c h0 h1 h2 h3 h4 h5, h6, h7, h8]
      exact (Cert.QkvIdeal.Hand.final_k m c).symm
    · obtain ⟨h0, h1, h2, h3, h4, h5, h6, h7, h8, h9⟩ := hagree c
      rw [Cert.QkvRefIdeal.Value.final_v, qkv_linear m m' c h0 h1 h2 h3 h4 h5, h9]
      exact (Cert.QkvIdeal.Hand.final_v m c).symm

/-- Every claim. -/
theorem claim : Cert.Claim := ⟨Cert.Down.Gen.facts, Cert.DownIdeal.Gen.facts, Cert.DownRefIdeal.Gen.facts,
  Cert.Gu.Gen.facts, Cert.GuIdeal.Gen.facts, Cert.GuRefIdeal.Gen.facts,
  Cert.Oproj.Gen.facts, Cert.OprojIdeal.Gen.facts, Cert.OprojRefIdeal.Gen.facts,
  Cert.Nq.Gen.facts, Cert.NqIdeal.Gen.facts, Cert.NqRefIdeal.Gen.facts,
  Cert.Qkv.Gen.facts, Cert.QkvIdeal.Gen.facts, Cert.QkvRefIdeal.Gen.facts,
  fun m ρ _ => Cert.Down.Gen.frame m ρ, fun m ρ _ => Cert.DownIdeal.Gen.frame m ρ,
  fun m ρ _ => Cert.DownRefIdeal.Gen.frame m ρ,
  fun m ρ _ => Cert.Gu.Hand.frame m ρ, fun m ρ _ => Cert.GuIdeal.Hand.frame m ρ,
  fun m ρ _ => Cert.GuRefIdeal.Gen.frame m ρ,
  fun m ρ _ => Cert.Oproj.Hand.frame m ρ, fun m ρ _ => Cert.OprojIdeal.Hand.frame m ρ,
  fun m ρ _ => Cert.OprojRefIdeal.Gen.frame m ρ,
  fun m ρ _ => Cert.Nq.Gen.frame m ρ, fun m ρ _ => Cert.NqIdeal.Gen.frame m ρ,
  fun m ρ _ => Cert.NqRefIdeal.Gen.frame m ρ,
  fun m ρ _ => Cert.Qkv.Hand.frame m ρ, fun m ρ _ => Cert.QkvIdeal.Hand.frame m ρ,
  fun m ρ _ => Cert.QkvRefIdeal.Gen.frame m ρ, trivial, down, trivial, gate_up, trivial, o_proj, trivial, norm_quant,
  trivial, qkv⟩

end Cert.Proof

end
